-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_inputs [hPre_real_inputs : Cert.Pre_real_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_inputs [hPre_real_inputs : Cert.Pre_real_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_real_inputs [hKernelIdeal : Cert.KernelIdeal.Facts] [hPre_real_inputs : Cert.Pre_real_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_real_inputs [hReferenceIdeal : Cert.ReferenceIdeal.Facts] [hPre_real_inputs : Cert.Pre_real_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.truncf_extf.Statement Cert.KernelIdeal.S40x128 .f32 .bf16
  ∧ IdealRules.bf16_pair.Statement Cert.KernelIdeal.S1x128x2x128 Cert.KernelIdeal.S1x128x1x128
  ∧ IdealRules.bf16_pair.Statement Cert.KernelIdeal.S1x256x128 Cert.KernelIdeal.S1x128x128
  ∧ IdealRules.bf16_pair.Statement Cert.KernelIdeal.S1x128x1x2x128 Cert.KernelIdeal.S1x128x1x1x128
  ∧ IdealRules.bf16_pair.Statement Cert.KernelIdeal.S1x1x1x256x128 Cert.KernelIdeal.S1x1x1x128x128
  ∧ IdealRules.bf16_pair.Statement Cert.KernelIdeal.S256x128 Cert.KernelIdeal.S128x128
  ∧ IdealRules.named_const.Statement Cert.KernelIdeal.κ "mask" .f32 0xF149F2CA#32 ⊥
  ∧ IdealRules.truncf_extf.Statement Cert.KernelIdeal.S128x128 .f32 .bf16
  ∧ IdealRules.truncf_extf.Statement Cert.KernelIdeal.S128x256 .f32 .bf16
  ∧ IdealRules.bf16_pair.PackStatement Cert.KernelIdeal.S128x128
  ∧ IdealRules.bf16_pair.Statement Cert.KernelIdeal.S1x1024x128 Cert.KernelIdeal.S1x512x128
  ∧ IdealRules.bf16_pair.Statement Cert.KernelIdeal.S1024x128 Cert.KernelIdeal.S512x128

def algebraic_KernelIdeal_ReferenceIdeal_on_final_states_only_pre_real_inputs [hKernelIdeal : Cert.KernelIdeal.Facts] [hReferenceIdeal : Cert.ReferenceIdeal.Facts] [hPre_real_inputs : Cert.Pre_real_inputs.Facts] [hOn_final_states_only : Cert.On_final_states_only.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![6, 1536, 24, 256]⟩ : Shape).Idx, (Cert.On_final_states_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v7_0) i = v0 c i)
          ∧ (∀ i : (⟨5, ![6, 5, 24, 128, 256]⟩ : Shape).Idx, (Cert.On_final_states_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 i = 1#1 → r.2.mem ((c.tc : Thread Cert.KernelIdeal.nD Cert.KernelIdeal.τ).loc Cert.KernelIdeal.main_v7_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![6, 1536, 24, 256]⟩ : Shape).Idx, (Cert.On_final_states_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v4_13) i = v0 c i)
          ∧ (∀ i : (⟨5, ![6, 5, 24, 128, 256]⟩ : Shape).Idx, (Cert.On_final_states_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 i = 1#1 → r.2.mem ((c.tc : Thread Cert.ReferenceIdeal.nD Cert.ReferenceIdeal.τ).loc Cert.ReferenceIdeal.main_v5) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_real_inputs : Cert.Pre_real_inputs.Facts) (hOn_final_states_only : Cert.On_final_states_only.Facts),
    quiescent_Kernel (hKernel := hKernel)
    ∧ quiescent_KernelIdeal (hKernelIdeal := hKernelIdeal)
    ∧ quiescent_KernelIdeal_pre_real_inputs (hKernelIdeal := hKernelIdeal) (hPre_real_inputs := hPre_real_inputs)
    ∧ quiescent_ReferenceIdeal (hReferenceIdeal := hReferenceIdeal)
    ∧ quiescent_ReferenceIdeal_pre_real_inputs (hReferenceIdeal := hReferenceIdeal) (hPre_real_inputs := hPre_real_inputs)
    ∧ preserves_Kernel_KernelIdeal
    ∧ algebraic_KernelIdeal_ReferenceIdeal_on_final_states_only_pre_real_inputs (hKernelIdeal := hKernelIdeal) (hReferenceIdeal := hReferenceIdeal) (hPre_real_inputs := hPre_real_inputs) (hOn_final_states_only := hOn_final_states_only)
-- ==== On_final_states_only.lean ====
abbrev S6x1536x24x128 : Shape := ⟨4, ![6, 1536, 24, 128]⟩
abbrev S6x1536x3x24x128 : Shape := ⟨5, ![6, 1536, 3, 24, 128]⟩
abbrev S6x1536x3x24 : Shape := ⟨4, ![6, 1536, 3, 24]⟩
abbrev S6x1536x3x24x256 : Shape := ⟨5, ![6, 1536, 3, 24, 256]⟩
abbrev S6x1536x24x2 : Shape := ⟨4, ![6, 1536, 24, 2]⟩
abbrev S_ : Shape := ⟨0, ![]⟩
abbrev S6x1536x24x256 : Shape := ⟨4, ![6, 1536, 24, 256]⟩
abbrev S6x5x24x128x256 : Shape := ⟨5, ![6, 5, 24, 128, 256]⟩

class Facts : Prop where
  bcast_S_S6x1536x24x256 : S_.BroadcastsInDim S6x1536x24x256 (![] : Fin 0 → Fin S6x1536x24x256.rank)
  bcast_S_S6x5x24x128x256 : S_.BroadcastsInDim S6x5x24x128x256 (![] : Fin 0 → Fin S6x5x24x128x256.rank)

variable [Facts]

def fn {F : FTy → Type} [FloatOps F] (main_arg0 : FVec F S6x1536x24x128 .bf16) (main_arg1 : FVec F S6x1536x3x24x128 .f32) (main_arg2 : FVec F S6x1536x3x24 .f32) (main_arg3 : FVec F S6x1536x3x24x256 .bf16) (main_arg4 : FVec F S6x1536x3x24 .f32) (main_arg5 : FVec F S6x1536x3x24 .f32) (main_arg6 : IVec S6x1536x24x2 32) (main_arg7 : FVec F S6x1536x24x2 .f32) : IVec S6x1536x24x256 1 × IVec S6x5x24x128x256 1 :=
  let main_c : IVec S_ 1 := constantI S_ 1 0#1
  let main_v0 : IVec S6x1536x24x256 1 := broadcastInDim S6x1536x24x256 ![] bcast_S_S6x1536x24x256 main_c
  let main_c_0 : IVec S_ 1 := constantI S_ 1 1#1
  let main_v1 : IVec S6x5x24x128x256 1 := broadcastInDim S6x5x24x128x256 ![] bcast_S_S6x5x24x128x256 main_c_0
  (main_v0, main_v1)
-- ==== Pre_real_inputs.lean ====
abbrev S6x1536x24x128 : Shape := ⟨4, ![6, 1536, 24, 128]⟩
abbrev S6x1536x3x24x128 : Shape := ⟨5, ![6, 1536, 3, 24, 128]⟩
abbrev S6x1536x3x24 : Shape := ⟨4, ![6, 1536, 3, 24]⟩
abbrev S6x1536x3x24x256 : Shape := ⟨5, ![6, 1536, 3, 24, 256]⟩
abbrev S6x1536x24x2 : Shape := ⟨4, ![6, 1536, 24, 2]⟩
abbrev S_ : Shape := ⟨0, ![]⟩
abbrev S6x1536x24x1 : Shape := ⟨4, ![6, 1536, 24, 1]⟩
abbrev S6x1536x24 : Shape := ⟨3, ![6, 1536, 24]⟩

class Facts : Prop where
  bcast_S_S6x1536x3x24x128 : S_.BroadcastsInDim S6x1536x3x24x128 (![] : Fin 0 → Fin S6x1536x3x24x128.rank)
  bcast_S_S6x1536x3x24 : S_.BroadcastsInDim S6x1536x3x24 (![] : Fin 0 → Fin S6x1536x3x24.rank)
  bcast_S_S6x1536x3x24x256 : S_.BroadcastsInDim S6x1536x3x24x256 (![] : Fin 0 → Fin S6x1536x3x24x256.rank)
  bcast_S_S6x1536x24x2 : S_.BroadcastsInDim S6x1536x24x2 (![] : Fin 0 → Fin S6x1536x24x2.rank)
  slices_S6x1536x24x2_S6x1536x24x1_0_0_0_0 : S6x1536x24x2.Slices ![0, 0, 0, 0] S6x1536x24x1
  shapeCasts_S6x1536x24x1_S6x1536x24 : S6x1536x24x1.ShapeCasts S6x1536x24
  slices_S6x1536x24x2_S6x1536x24x1_0_0_0_1 : S6x1536x24x2.Slices ![0, 0, 0, 1] S6x1536x24x1

variable [Facts]

def fn_part1 {F : FTy → Type} [FloatOps F] (main_arg4 : FVec F S6x1536x3x24 .f32) (main_arg6 : IVec S6x1536x24x2 32) (main_v2 : IVec S6x1536x3x24x128 1) (main_v5 : IVec S6x1536x3x24 1) (main_v8 : IVec S6x1536x3x24x256 1) (main_v11 : IVec S6x1536x3x24 1) (main_v14 : IVec S6x1536x3x24 1) (main_v16 : IVec S6x1536x3x24 1) (main_cst_5 : FVec F S_ .f32) : IVec S6x1536x3x24x128 1 × IVec S6x1536x3x24 1 × IVec S6x1536x3x24x256 1 × IVec S6x1536x3x24 1 × IVec S6x1536x3x24 1 × IVec S6x1536x3x24 1 × IVec S6x1536x3x24 1 × IVec S6x1536x24x2 1 × IVec S6x1536x24x2 1 × IVec S6x1536x24 1 :=
  let main_v17 : FVec F S6x1536x3x24 .f32 := broadcastInDim S6x1536x3x24 ![] bcast_S_S6x1536x3x24 main_cst_5
  let main_v18 : FVec F S6x1536x3x24 .f32 := mulf main_arg4 main_v17
  let main_cst_6 : FVec F S_ .f32 := constant S_ .f32 0x71800000#32
  let main_v19 : FVec F S6x1536x3x24 .f32 := broadcastInDim S6x1536x3x24 ![] bcast_S_S6x1536x3x24 main_cst_6
  let main_v20 : FVec F S6x1536x3x24 .f32 := mulf main_v18 main_v19
  let main_cst_7 : FVec F S_ .f32 := constant S_ .f32 0x71800000#32
  let main_v21 : FVec F S6x1536x3x24 .f32 := broadcastInDim S6x1536x3x24 ![] bcast_S_S6x1536x3x24 main_cst_7
  let main_v22 : FVec F S6x1536x3x24 .f32 := mulf main_v20 main_v21
  let main_cst_8 : FVec F S_ .f32 := constant S_ .f32 0x3F800000#32
  let main_v23 : FVec F S6x1536x3x24 .f32 := broadcastInDim S6x1536x3x24 ![] bcast_S_S6x1536x3x24 main_cst_8
  let main_v24 : IVec S6x1536x3x24 1 := cmpf .oge main_v22 main_v23
  let main_c : IVec S_ 32 := constantI S_ 32 0#32
  let main_v25 : IVec S6x1536x24x2 32 := broadcastInDim S6x1536x24x2 ![] bcast_S_S6x1536x24x2 main_c
  let main_v26 : IVec S6x1536x24x2 1 := cmpi .sge main_arg6 main_v25
  let main_c_9 : IVec S_ 32 := constantI S_ 32 4#32
  let main_v27 : IVec S6x1536x24x2 32 := broadcastInDim S6x1536x24x2 ![] bcast_S_S6x1536x24x2 main_c_9
  let main_v28 : IVec S6x1536x24x2 1 := cmpi .slt main_arg6 main_v27
  let main_v29 : IVec S6x1536x24x1 32 := (extractStridedSlice S6x1536x24x1 ![0, 0, 0, 0] · slices_S6x1536x24x2_S6x1536x24x1_0_0_0_0) main_arg6
  let main_v30 : IVec S6x1536x24 32 := shapeCast S6x1536x24 main_v29 shapeCasts_S6x1536x24x1_S6x1536x24
  let main_v31 : IVec S6x1536x24x1 32 := (extractStridedSlice S6x1536x24x1 ![0, 0, 0, 1] · slices_S6x1536x24x2_S6x1536x24x1_0_0_0_1) main_arg6
  let main_v32 : IVec S6x1536x24 32 := shapeCast S6x1536x24 main_v31 shapeCasts_S6x1536x24x1_S6x1536x24
  let main_v33 : IVec S6x1536x24 1 := cmpi .ne main_v30 main_v32
  (main_v2, main_v5, main_v8, main_v11, main_v14, main_v16, main_v24, main_v26, main_v28, main_v33)

def fn {F : FTy → Type} [FloatOps F] (main_arg0 : FVec F S6x1536x24x128 .bf16) (main_arg1 : FVec F S6x1536x3x24x128 .f32) (main_arg2 : FVec F S6x1536x3x24 .f32) (main_arg3 : FVec F S6x1536x3x24x256 .bf16) (main_arg4 : FVec F S6x1536x3x24 .f32) (main_arg5 : FVec F S6x1536x3x24 .f32) (main_arg6 : IVec S6x1536x24x2 32) (main_arg7 : FVec F S6x1536x24x2 .f32) : IVec S6x1536x3x24x128 1 × IVec S6x1536x3x24 1 × IVec S6x1536x3x24x256 1 × IVec S6x1536x3x24 1 × IVec S6x1536x3x24 1 × IVec S6x1536x3x24 1 × IVec S6x1536x3x24 1 × IVec S6x1536x24x2 1 × IVec S6x1536x24x2 1 × IVec S6x1536x24 1 :=
  let main_v0 : FVec F S6x1536x3x24x128 .f32 := Host.absf main_arg1
  let main_cst : FVec F S_ .f32 := constant S_ .f32 0x7F800000#32
  let main_v1 : FVec F S6x1536x3x24x128 .f32 := broadcastInDim S6x1536x3x24x128 ![] bcast_S_S6x1536x3x24x128 main_cst
  let main_v2 : IVec S6x1536x3x24x128 1 := cmpf .olt main_v0 main_v1
  let main_v3 : FVec F S6x1536x3x24 .f32 := Host.absf main_arg2
  let main_cst_0 : FVec F S_ .f32 := constant S_ .f32 0x7F800000#32
  let main_v4 : FVec F S6x1536x3x24 .f32 := broadcastInDim S6x1536x3x24 ![] bcast_S_S6x1536x3x24 main_cst_0
  let main_v5 : IVec S6x1536x3x24 1 := cmpf .olt main_v3 main_v4
  let main_v6 : FVec F S6x1536x3x24x256 .bf16 := Host.absf main_arg3
  let main_cst_1 : FVec F S_ .bf16 := constant S_ .bf16 0x7F80#16
  let main_v7 : FVec F S6x1536x3x24x256 .bf16 := broadcastInDim S6x1536x3x24x256 ![] bcast_S_S6x1536x3x24x256 main_cst_1
  let main_v8 : IVec S6x1536x3x24x256 1 := cmpf .olt main_v6 main_v7
  let main_v9 : FVec F S6x1536x3x24 .f32 := Host.absf main_arg4
  let main_cst_2 : FVec F S_ .f32 := constant S_ .f32 0x7F800000#32
  let main_v10 : FVec F S6x1536x3x24 .f32 := broadcastInDim S6x1536x3x24 ![] bcast_S_S6x1536x3x24 main_cst_2
  let main_v11 : IVec S6x1536x3x24 1 := cmpf .olt main_v9 main_v10
  let main_v12 : FVec F S6x1536x3x24 .f32 := Host.absf main_arg5
  let main_cst_3 : FVec F S_ .f32 := constant S_ .f32 0x7F800000#32
  let main_v13 : FVec F S6x1536x3x24 .f32 := broadcastInDim S6x1536x3x24 ![] bcast_S_S6x1536x3x24 main_cst_3
  let main_v14 : IVec S6x1536x3x24 1 := cmpf .olt main_v12 main_v13
  let main_cst_4 : FVec F S_ .f32 := constant S_ .f32 0x00000000#32
  let main_v15 : FVec F S6x1536x3x24 .f32 := broadcastInDim S6x1536x3x24 ![] bcast_S_S6x1536x3x24 main_cst_4
  let main_v16 : IVec S6x1536x3x24 1 := cmpf .oge main_arg2 main_v15
  let main_cst_5 : FVec F S_ .f32 := constant S_ .f32 0x71800000#32
  fn_part1 (F := F) main_arg4 main_arg6 main_v2 main_v5 main_v8 main_v11 main_v14 main_v16 main_cst_5
-- ==== Kernel.lean ====
abbrev S6x1536x24x128 : Shape := ⟨4, ![6, 1536, 24, 128]⟩
abbrev S6x1536x3x24x128 : Shape := ⟨5, ![6, 1536, 3, 24, 128]⟩
abbrev S6x1536x3x24 : Shape := ⟨4, ![6, 1536, 3, 24]⟩
abbrev S6x1536x3x24x256 : Shape := ⟨5, ![6, 1536, 3, 24, 256]⟩
abbrev S6x1536x24x2 : Shape := ⟨4, ![6, 1536, 24, 2]⟩
abbrev S6x3x24x1536 : Shape := ⟨4, ![6, 3, 24, 1536]⟩
abbrev S6x2x24x1536 : Shape := ⟨4, ![6, 2, 24, 1536]⟩
abbrev S_ : Shape := ⟨0, ![]⟩
abbrev S1 : Shape := ⟨1, ![1]⟩
abbrev S6x1536x24x256 : Shape := ⟨4, ![6, 1536, 24, 256]⟩
abbrev S6x5x24x128x256 : Shape := ⟨5, ![6, 5, 24, 128, 256]⟩
abbrev S1x128x8x128 : Shape := ⟨4, ![1, 128, 8, 128]⟩
abbrev S1x128x3x8x128 : Shape := ⟨5, ![1, 128, 3, 8, 128]⟩
abbrev S1x3x8x128 : Shape := ⟨4, ![1, 3, 8, 128]⟩
abbrev S1x2x8x128 : Shape := ⟨4, ![1, 2, 8, 128]⟩
abbrev S1x128x8x256 : Shape := ⟨4, ![1, 128, 8, 256]⟩
abbrev S1x5x8x128x256 : Shape := ⟨5, ![1, 5, 8, 128, 256]⟩
abbrev S3072x128 : Shape := ⟨2, ![3072, 128]⟩
abbrev S4x256x128 : Shape := ⟨3, ![4, 256, 128]⟩
abbrev S4x3x2x256x128 : Shape := ⟨5, ![4, 3, 2, 256, 128]⟩
abbrev S2x5x8x128 : Shape := ⟨4, ![2, 5, 8, 128]⟩
abbrev S2x128x128 : Shape := ⟨3, ![2, 128, 128]⟩
abbrev S2x1024x128 : Shape := ⟨3, ![2, 1024, 128]⟩
abbrev S128x128 : Shape := ⟨2, ![128, 128]⟩
abbrev S1x1x8x128 : Shape := ⟨4, ![1, 1, 8, 128]⟩
abbrev S8x128 : Shape := ⟨2, ![8, 128]⟩
abbrev S3x8x128 : Shape := ⟨3, ![3, 8, 128]⟩
abbrev S1x8x128 : Shape := ⟨3, ![1, 8, 128]⟩
abbrev S40x128 : Shape := ⟨2, ![40, 128]⟩
abbrev S5x8x128 : Shape := ⟨3, ![5, 8, 128]⟩
abbrev S1x5x8x128 : Shape := ⟨4, ![1, 5, 8, 128]⟩
abbrev S48x128 : Shape := ⟨2, ![48, 128]⟩
abbrev S1x128x128 : Shape := ⟨3, ![1, 128, 128]⟩
abbrev S56x128 : Shape := ⟨2, ![56, 128]⟩
abbrev S128x3x8x128 : Shape := ⟨4, ![128, 3, 8, 128]⟩
abbrev S128x8x128 : Shape := ⟨3, ![128, 8, 128]⟩
abbrev S128x4x128 : Shape := ⟨3, ![128, 4, 128]⟩
abbrev S512x128 : Shape := ⟨2, ![512, 128]⟩
abbrev S1x128x2x128 : Shape := ⟨4, ![1, 128, 2, 128]⟩
abbrev S1x128x1x128 : Shape := ⟨4, ![1, 128, 1, 128]⟩
abbrev S1x256x128 : Shape := ⟨3, ![1, 256, 128]⟩
abbrev S256x128 : Shape := ⟨2, ![256, 128]⟩
abbrev S128x3x4x128 : Shape := ⟨4, ![128, 3, 4, 128]⟩
abbrev S1536x128 : Shape := ⟨2, ![1536, 128]⟩
abbrev S1x128x1x2x128 : Shape := ⟨5, ![1, 128, 1, 2, 128]⟩
abbrev S1x128x1x1x128 : Shape := ⟨5, ![1, 128, 1, 1, 128]⟩
abbrev S1x1x1x256x128 : Shape := ⟨5, ![1, 1, 1, 256, 128]⟩
abbrev S1x1x1x128x128 : Shape := ⟨5, ![1, 1, 1, 128, 128]⟩
abbrev S128x256 : Shape := ⟨2, ![128, 256]⟩
abbrev S128x128x1 : Shape := ⟨3, ![128, 128, 1]⟩
abbrev S1x1x1x128 : Shape := ⟨4, ![1, 1, 1, 128]⟩
abbrev S1x128 : Shape := ⟨2, ![1, 128]⟩
abbrev S1x1 : Shape := ⟨2, ![1, 1]⟩
abbrev S1x1x1x128x256 : Shape := ⟨5, ![1, 1, 1, 128, 256]⟩
abbrev S1x1024x128 : Shape := ⟨3, ![1, 1024, 128]⟩
abbrev S1024x128 : Shape := ⟨2, ![1024, 128]⟩
abbrev S2x512x2x128 : Shape := ⟨4, ![2, 512, 2, 128]⟩
abbrev S1x512x128 : Shape := ⟨3, ![1, 512, 128]⟩

abbrev nBuf : Space → Nat
  | .hbm => 17
  | .vmem => 28
  | .smem => 1
  | _ => 0

abbrev bufTy : (tb : Table) → Fin (tcTables nBuf tb) → BufTy
  | .hbm, ⟨0, _⟩ => ⟨S6x1536x24x128, .bf16⟩
  | .hbm, ⟨1, _⟩ => ⟨S6x1536x3x24x128, .f32⟩
  | .hbm, ⟨2, _⟩ => ⟨S6x1536x3x24, .f32⟩
  | .hbm, ⟨3, _⟩ => ⟨S6x1536x3x24x256, .bf16⟩
  | .hbm, ⟨4, _⟩ => ⟨S6x1536x3x24, .f32⟩
  | .hbm, ⟨5, _⟩ => ⟨S6x1536x3x24, .f32⟩
  | .hbm, ⟨6, _⟩ => ⟨S6x1536x24x2, .i32⟩
  | .hbm, ⟨7, _⟩ => ⟨S6x1536x24x2, .f32⟩
  | .hbm, ⟨8, _⟩ => ⟨S6x1536x3x24x128, .fp8e4m3⟩
  | .hbm, ⟨9, _⟩ => ⟨S6x3x24x1536, .f32⟩
  | .hbm, ⟨10, _⟩ => ⟨S6x3x24x1536, .f32⟩
  | .hbm, ⟨11, _⟩ => ⟨S6x3x24x1536, .f32⟩
  | .hbm, ⟨12, _⟩ => ⟨S6x2x24x1536, .i32⟩
  | .hbm, ⟨13, _⟩ => ⟨S6x2x24x1536, .f32⟩
  | .hbm, ⟨14, _⟩ => ⟨S_, .i32⟩
  | .hbm, ⟨15, _⟩ => ⟨S6x1536x24x256, .bf16⟩
  | .hbm, ⟨16, _⟩ => ⟨S6x5x24x128x256, .f32⟩
  | .local _ .vmem, ⟨0, _⟩ => ⟨S1x128x8x128, .bf16⟩
  | .local _ .vmem, ⟨1, _⟩ => ⟨S1x128x8x128, .bf16⟩
  | .local _ .vmem, ⟨2, _⟩ => ⟨S1x128x3x8x128, .fp8e4m3⟩
  | .local _ .vmem, ⟨3, _⟩ => ⟨S1x128x3x8x128, .fp8e4m3⟩
  | .local _ .vmem, ⟨4, _⟩ => ⟨S1x128x3x8x128, .bf16⟩
  | .local _ .vmem, ⟨5, _⟩ => ⟨S1x128x3x8x128, .bf16⟩
  | .local _ .vmem, ⟨6, _⟩ => ⟨S1x128x3x8x128, .bf16⟩
  | .local _ .vmem, ⟨7, _⟩ => ⟨S1x128x3x8x128, .bf16⟩
  | .local _ .vmem, ⟨8, _⟩ => ⟨S1x3x8x128, .f32⟩
  | .local _ .vmem, ⟨9, _⟩ => ⟨S1x3x8x128, .f32⟩
  | .local _ .vmem, ⟨10, _⟩ => ⟨S1x3x8x128, .f32⟩
  | .local _ .vmem, ⟨11, _⟩ => ⟨S1x3x8x128, .f32⟩
  | .local _ .vmem, ⟨12, _⟩ => ⟨S1x3x8x128, .f32⟩
  | .local _ .vmem, ⟨13, _⟩ => ⟨S1x3x8x128, .f32⟩
  | .local _ .vmem, ⟨14, _⟩ => ⟨S1x2x8x128, .i32⟩
  | .local _ .vmem, ⟨15, _⟩ => ⟨S1x2x8x128, .i32⟩
  | .local _ .vmem, ⟨16, _⟩ => ⟨S1x2x8x128, .f32⟩
  | .local _ .vmem, ⟨17, _⟩ => ⟨S1x2x8x128, .f32⟩
  | .local _ .vmem, ⟨18, _⟩ => ⟨S1x128x8x256, .bf16⟩
  | .local _ .vmem, ⟨19, _⟩ => ⟨S1x128x8x256, .bf16⟩
  | .local _ .vmem, ⟨20, _⟩ => ⟨S1x5x8x128x256, .f32⟩
  | .local _ .vmem, ⟨21, _⟩ => ⟨S1x5x8x128x256, .f32⟩
  | .local _ .vmem, ⟨22, _⟩ => ⟨S3072x128, .f32⟩
  | .local _ .vmem, ⟨23, _⟩ => ⟨S4x256x128, .bf16⟩
  | .local _ .vmem, ⟨24, _⟩ => ⟨S4x3x2x256x128, .bf16⟩
  | .local _ .vmem, ⟨25, _⟩ => ⟨S2x5x8x128, .f32⟩
  | .local _ .vmem, ⟨26, _⟩ => ⟨S2x128x128, .f32⟩
  | .local _ .vmem, ⟨27, _⟩ => ⟨S2x1024x128, .bf16⟩
  | .local _ .smem, ⟨0, _⟩ => ⟨S1, .i32⟩
  | _, _ => ⟨S6x1536x24x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v7_0 : Ref sig .tc := ⟨.hbm, 15, rfl⟩
abbrev main_v7_1 : Ref sig .tc := ⟨.hbm, 16, rfl⟩
abbrev main_v6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [BitOps F]

abbrev grid0 : Pipeline.Grid := ⟨3, ![6, 3, 12], ![false, false, false]⟩

abbrev pre0 : Pipeline.Prefetch sig := ⟨1, ![main_v6.idx], fun | 0 => main_v6.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_503 : BitVec 32 := 0#32
  let c4_i32 : BitVec 32 := 4#32
  let v554 : BitVec 32 := Scalar.addi c0_i32_503 c4_i32
  let c1_i32_504 : BitVec 32 := 1#32
  ⟨c0_i32_503, v554, c1_i32_504⟩
def k0_off1 (k0_t1 : Fin k0_t1_loop.trips) : Fin 3 → Nat :=
  let c0_i32_503 : BitVec 32 := 0#32
  let c1_i32_504 : BitVec 32 := 1#32
  let arg21 : BitVec 32 := Scf.iv c0_i32_503 c1_i32_504 k0_t1
  let c0_i32_523 : BitVec 32 := 0#32
  let c0_i32_524 : BitVec 32 := 0#32
  ![arg21.toNat, 0, 0]
def k0_off2 (k0_t1 : Fin k0_t1_loop.trips) : Fin 5 → Nat :=
  let c0_i32_503 : BitVec 32 := 0#32
  let c1_i32_504 : BitVec 32 := 1#32
  let arg21 : BitVec 32 := Scf.iv c0_i32_503 c1_i32_504 k0_t1
  let c0_i32_527 : BitVec 32 := 0#32
  let c0_i32_528 : BitVec 32 := 0#32
  let c0_i32_529 : BitVec 32 := 0#32
  let c0_i32_530 : BitVec 32 := 0#32
  ![arg21.toNat, 0, 0, 0, 0]
def k0_off3 (k0_t1 : Fin k0_t1_loop.trips) : Fin 5 → Nat :=
  let c0_i32_503 : BitVec 32 := 0#32
  let c1_i32_504 : BitVec 32 := 1#32
  let arg21 : BitVec 32 := Scf.iv c0_i32_503 c1_i32_504 k0_t1
  let c0_i32_533 : BitVec 32 := 0#32
  let c1_i32_534 : BitVec 32 := 1#32
  let c0_i32_535 : BitVec 32 := 0#32
  let c0_i32_536 : BitVec 32 := 0#32
  ![arg21.toNat, 0, 1, 0, 0]
def k0_off4 (k0_t1 : Fin k0_t1_loop.trips) : Fin 5 → Nat :=
  let c0_i32_503 : BitVec 32 := 0#32
  let c1_i32_504 : BitVec 32 := 1#32
  let arg21 : BitVec 32 := Scf.iv c0_i32_503 c1_i32_504 k0_t1
  let c1_i32_539 : BitVec 32 := 1#32
  let c0_i32_540 : BitVec 32 := 0#32
  let c0_i32_541 : BitVec 32 := 0#32
  let c0_i32_542 : BitVec 32 := 0#32
  ![arg21.toNat, 1, 0, 0, 0]
def k0_off5 (k0_t1 : Fin k0_t1_loop.trips) : Fin 5 → Nat :=
  let c0_i32_503 : BitVec 32 := 0#32
  let c1_i32_504 : BitVec 32 := 1#32
  let arg21 : BitVec 32 := Scf.iv c0_i32_503 c1_i32_504 k0_t1
  let c1_i32_545 : BitVec 32 := 1#32
  let c1_i32_546 : BitVec 32 := 1#32
  let c0_i32_547 : BitVec 32 := 0#32
  let c0_i32_548 : BitVec 32 := 0#32
  ![arg21.toNat, 1, 1, 0, 0]
def k0_off6 (k0_t1 : Fin k0_t1_loop.trips) : Fin 5 → Nat :=
  let c0_i32_503 : BitVec 32 := 0#32
  let c1_i32_504 : BitVec 32 := 1#32
  let arg21 : BitVec 32 := Scf.iv c0_i32_503 c1_i32_504 k0_t1
  let c2_i32_551 : BitVec 32 := 2#32
  let c0_i32_552 : BitVec 32 := 0#32
  let c0_i32_553 : BitVec 32 := 0#32
  let c0_i32_554 : BitVec 32 := 0#32
  ![arg21.toNat, 2, 0, 0, 0]
def k0_off7 (k0_t1 : Fin k0_t1_loop.trips) : Fin 5 → Nat :=
  let c0_i32_503 : BitVec 32 := 0#32
  let c1_i32_504 : BitVec 32 := 1#32
  let arg21 : BitVec 32 := Scf.iv c0_i32_503 c1_i32_504 k0_t1
  let c2_i32_557 : BitVec 32 := 2#32
  let c1_i32_558 : BitVec 32 := 1#32
  let c0_i32_559 : BitVec 32 := 0#32
  let c0_i32_560 : BitVec 32 := 0#32
  ![arg21.toNat, 2, 1, 0, 0]
def k0_off8 (k0_t1 : Fin k0_t1_loop.trips) (c0_i32_565 : BitVec 32) (c0_i32_564 : BitVec 32) : Fin 2 → Nat :=
  let c2_i32_563 : BitVec 32 := 2#32
  let c0_i32_503 : BitVec 32 := 0#32
  let c1_i32_504 : BitVec 32 := 1#32
  let arg21 : BitVec 32 := Scf.iv c0_i32_503 c1_i32_504 k0_t1
  let v601 : BitVec 32 := Scalar.muli c2_i32_563 arg21
  let v602 : BitVec 32 := Scalar.addi v601 c0_i32_564
  let v607 : BitVec 32 := Scalar.addi c0_i32_565 v602
  let v608 : Index := Scalar.indexCast v607
  let c0_566 : Index := 0#32
  ![v608.toNat, 0]
def k0_off9 (k0_t1 : Fin k0_t1_loop.trips) (c0_i32_564 : BitVec 32) : Fin 4 → Nat :=
  let c0_591 : Index := 0#32
  let c4_592 : Index := 4#32
  let c2_i32_563 : BitVec 32 := 2#32
  let c0_i32_503 : BitVec 32 := 0#32
  let c1_i32_504 : BitVec 32 := 1#32
  let arg21 : BitVec 32 := Scf.iv c0_i32_503 c1_i32_504 k0_t1
  let v601 : BitVec 32 := Scalar.muli c2_i32_563 arg21
  let v602 : BitVec 32 := Scalar.addi v601 c0_i32_564
  let v674 : Index := Scalar.indexCast v602
  let c0_593 : Index := 0#32
  ![0, 4, v674.toNat, 0]
def k0_off10 (k0_t1 : Fin k0_t1_loop.trips) (c0_i32_564 : BitVec 32) : Fin 4 → Nat :=
  let c1_594 : Index := 1#32
  let c4_595 : Index := 4#32
  let c2_i32_563 : BitVec 32 := 2#32
  let c0_i32_503 : BitVec 32 := 0#32
  let c1_i32_504 : BitVec 32 := 1#32
  let arg21 : BitVec 32 := Scf.iv c0_i32_503 c1_i32_504 k0_t1
  let v601 : BitVec 32 := Scalar.muli c2_i32_563 arg21
  let v602 : BitVec 32 := Scalar.addi v601 c0_i32_564
  let v677 : Index := Scalar.indexCast v602
  let c0_596 : Index := 0#32
  ![1, 4, v677.toNat, 0]
def k0_off11 (k0_t1 : Fin k0_t1_loop.trips) (c0_i32_564 : BitVec 32) : Fin 5 → Nat :=
  let c0_839 : Index := 0#32
  let c4_840 : Index := 4#32
  let c2_i32_563 : BitVec 32 := 2#32
  let c0_i32_503 : BitVec 32 := 0#32
  let c1_i32_504 : BitVec 32 := 1#32
  let arg21 : BitVec 32 := Scf.iv c0_i32_503 c1_i32_504 k0_t1
  let v601 : BitVec 32 := Scalar.muli c2_i32_563 arg21
  let v602 : BitVec 32 := Scalar.addi v601 c0_i32_564
  let v1547 : Index := Scalar.indexCast v602
  let c0_841 : Index := 0#32
  let c0_842 : Index := 0#32
  ![0, 4, v1547.toNat, 0, 0]
def k0_off12 (k0_t1 : Fin k0_t1_loop.trips) (c0_i32_564 : BitVec 32) : Fin 4 → Nat :=
  let c0_884 : Index := 0#32
  let c0_885 : Index := 0#32
  let c2_i32_563 : BitVec 32 := 2#32
  let c0_i32_503 : BitVec 32 := 0#32
  let c1_i32_504 : BitVec 32 := 1#32
  let arg21 : BitVec 32 := Scf.iv c0_i32_503 c1_i32_504 k0_t1
  let v601 : BitVec 32 := Scalar.muli c2_i32_563 arg21
  let v602 : BitVec 32 := Scalar.addi v601 c0_i32_564
  let v1678 : Index := Scalar.indexCast v602
  let c0_886 : Index := 0#32
  ![0, 0, v1678.toNat, 0]
def k0_off13 (k0_t1 : Fin k0_t1_loop.trips) (c0_i32_564 : BitVec 32) : Fin 4 → Nat :=
  let c1_887 : Index := 1#32
  let c0_888 : Index := 0#32
  let c2_i32_563 : BitVec 32 := 2#32
  let c0_i32_503 : BitVec 32 := 0#32
  let c1_i32_504 : BitVec 32 := 1#32
  let arg21 : BitVec 32 := Scf.iv c0_i32_503 c1_i32_504 k0_t1
  let v601 : BitVec 32 := Scalar.muli c2_i32_563 arg21
  let v602 : BitVec 32 := Scalar.addi v601 c0_i32_564
  let v1681 : Index := Scalar.indexCast v602
  let c0_889 : Index := 0#32
  ![1, 0, v1681.toNat, 0]
def k0_off14 (k0_t1 : Fin k0_t1_loop.trips) (c0_i32_564 : BitVec 32) : Fin 5 → Nat :=
  let c0_1133 : Index := 0#32
  let c0_1134 : Index := 0#32
  let c2_i32_563 : BitVec 32 := 2#32
  let c0_i32_503 : BitVec 32 := 0#32
  let c1_i32_504 : BitVec 32 := 1#32
  let arg21 : BitVec 32 := Scf.iv c0_i32_503 c1_i32_504 k0_t1
  let v601 : BitVec 32 := Scalar.muli c2_i32_563 arg21
  let v602 : BitVec 32 := Scalar.addi v601 c0_i32_564
  let v2551 : Index := Scalar.indexCast v602
  let c0_1135 : Index := 0#32
  let c0_1136 : Index := 0#32
  ![0, 0, v2551.toNat, 0, 0]
def k0_off15 (k0_t1 : Fin k0_t1_loop.trips) (c0_i32_564 : BitVec 32) : Fin 4 → Nat :=
  let c0_1178 : Index := 0#32
  let c1_1179 : Index := 1#32
  let c2_i32_563 : BitVec 32 := 2#32
  let c0_i32_503 : BitVec 32 := 0#32
  let c1_i32_504 : BitVec 32 := 1#32
  let arg21 : BitVec 32 := Scf.iv c0_i32_503 c1_i32_504 k0_t1
  let v601 : BitVec 32 := Scalar.muli c2_i32_563 arg21
  let v602 : BitVec 32 := Scalar.addi v601 c0_i32_564
  let v2683 : Index := Scalar.indexCast v602
  let c0_1180 : Index := 0#32
  ![0, 1, v2683.toNat, 0]
def k0_off16 (k0_t1 : Fin k0_t1_loop.trips) (c0_i32_564 : BitVec 32) : Fin 4 → Nat :=
  let c1_1181 : Index := 1#32
  let c1_1182 : Index := 1#32
  let c2_i32_563 : BitVec 32 := 2#32
  let c0_i32_503 : BitVec 32 := 0#32
  let c1_i32_504 : BitVec 32 := 1#32
  let arg21 : BitVec 32 := Scf.iv c0_i32_503 c1_i32_504 k0_t1
  let v601 : BitVec 32 := Scalar.muli c2_i32_563 arg21
  let v602 : BitVec 32 := Scalar.addi v601 c0_i32_564
  let v2686 : Index := Scalar.indexCast v602
  let c0_1183 : Index := 0#32
  ![1, 1, v2686.toNat, 0]
def k0_off17 (k0_t1 : Fin k0_t1_loop.trips) (c0_i32_564 : BitVec 32) : Fin 5 → Nat :=
  let c0_1427 : Index := 0#32
  let c1_1428 : Index := 1#32
  let c2_i32_563 : BitVec 32 := 2#32
  let c0_i32_503 : BitVec 32 := 0#32
  let c1_i32_504 : BitVec 32 := 1#32
  let arg21 : BitVec 32 := Scf.iv c0_i32_503 c1_i32_504 k0_t1
  let v601 : BitVec 32 := Scalar.muli c2_i32_563 arg21
  let v602 : BitVec 32 := Scalar.addi v601 c0_i32_564
  let v3556 : Index := Scalar.indexCast v602
  let c0_1429 : Index := 0#32
  let c0_1430 : Index := 0#32
  ![0, 1, v3556.toNat, 0, 0]
def k0_off18 (k0_t1 : Fin k0_t1_loop.trips) (c0_i32_564 : BitVec 32) : Fin 4 → Nat :=
  let c0_1472 : Index := 0#32
  let c2_1473 : Index := 2#32
  let c2_i32_563 : BitVec 32 := 2#32
  let c0_i32_503 : BitVec 32 := 0#32
  let c1_i32_504 : BitVec 32 := 1#32
  let arg21 : BitVec 32 := Scf.iv c0_i32_503 c1_i32_504 k0_t1
  let v601 : BitVec 32 := Scalar.muli c2_i32_563 arg21
  let v602 : BitVec 32 := Scalar.addi v601 c0_i32_564
  let v3688 : Index := Scalar.indexCast v602
  let c0_1474 : Index := 0#32
  ![0, 2, v3688.toNat, 0]
def k0_off19 (k0_t1 : Fin k0_t1_loop.trips) (c0_i32_564 : BitVec 32) : Fin 4 → Nat :=
  let c1_1475 : Index := 1#32
  let c2_1476 : Index := 2#32
  let c2_i32_563 : BitVec 32 := 2#32
  let c0_i32_503 : BitVec 32 := 0#32
  let c1_i32_504 : BitVec 32 := 1#32
  let arg21 : BitVec 32 := Scf.iv c0_i32_503 c1_i32_504 k0_t1
  let v601 : BitVec 32 := Scalar.muli c2_i32_563 arg21
  let v602 : BitVec 32 := Scalar.addi v601 c0_i32_564
  let v3691 : Index := Scalar.indexCast v602
  let c0_1477 : Index := 0#32
  ![1, 2, v3691.toNat, 0]
def k0_off20 (k0_t1 : Fin k0_t1_loop.trips) (c0_i32_564 : BitVec 32) : Fin 5 → Nat :=
  let c0_1721 : Index := 0#32
  let c2_1722 : Index := 2#32
  let c2_i32_563 : BitVec 32 := 2#32
  let c0_i32_503 : BitVec 32 := 0#32
  let c1_i32_504 : BitVec 32 := 1#32
  let arg21 : BitVec 32 := Scf.iv c0_i32_503 c1_i32_504 k0_t1
  let v601 : BitVec 32 := Scalar.muli c2_i32_563 arg21
  let v602 : BitVec 32 := Scalar.addi v601 c0_i32_564
  let v4561 : Index := Scalar.indexCast v602
  let c0_1723 : Index := 0#32
  let c0_1724 : Index := 0#32
  ![0, 2, v4561.toNat, 0, 0]
def k0_off21 (k0_t1 : Fin k0_t1_loop.trips) (c0_i32_564 : BitVec 32) : Fin 4 → Nat :=
  let c0_1766 : Index := 0#32
  let c3_1767 : Index := 3#32
  let c2_i32_563 : BitVec 32 := 2#32
  let c0_i32_503 : BitVec 32 := 0#32
  let c1_i32_504 : BitVec 32 := 1#32
  let arg21 : BitVec 32 := Scf.iv c0_i32_503 c1_i32_504 k0_t1
  let v601 : BitVec 32 := Scalar.muli c2_i32_563 arg21
  let v602 : BitVec 32 := Scalar.addi v601 c0_i32_564
  let v4693 : Index := Scalar.indexCast v602
  let c0_1768 : Index := 0#32
  ![0, 3, v4693.toNat, 0]
def k0_off22 (k0_t1 : Fin k0_t1_loop.trips) (c0_i32_564 : BitVec 32) : Fin 4 → Nat :=
  let c1_1769 : Index := 1#32
  let c3_1770 : Index := 3#32
  let c2_i32_563 : BitVec 32 := 2#32
  let c0_i32_503 : BitVec 32 := 0#32
  let c1_i32_504 : BitVec 32 := 1#32
  let arg21 : BitVec 32 := Scf.iv c0_i32_503 c1_i32_504 k0_t1
  let v601 : BitVec 32 := Scalar.muli c2_i32_563 arg21
  let v602 : BitVec 32 := Scalar.addi v601 c0_i32_564
  let v4696 : Index := Scalar.indexCast v602
  let c0_1771 : Index := 0#32
  ![1, 3, v4696.toNat, 0]
def k0_off23 (k0_t1 : Fin k0_t1_loop.trips) (c0_i32_564 : BitVec 32) : Fin 5 → Nat :=
  let c0_2015 : Index := 0#32
  let c3_2016 : Index := 3#32
  let c2_i32_563 : BitVec 32 := 2#32
  let c0_i32_503 : BitVec 32 := 0#32
  let c1_i32_504 : BitVec 32 := 1#32
  let arg21 : BitVec 32 := Scf.iv c0_i32_503 c1_i32_504 k0_t1
  let v601 : BitVec 32 := Scalar.muli c2_i32_563 arg21
  let v602 : BitVec 32 := Scalar.addi v601 c0_i32_564
  let v5566 : Index := Scalar.indexCast v602
  let c0_2017 : Index := 0#32
  let c0_2018 : Index := 0#32
  ![0, 3, v5566.toNat, 0, 0]
def k0_off24 (k0_t1 : Fin k0_t1_loop.trips) : Fin 4 → Nat :=
  let c0_i32_3518 : BitVec 32 := 0#32
  let c0_i32_503 : BitVec 32 := 0#32
  let c1_i32_504 : BitVec 32 := 1#32
  let arg21 : BitVec 32 := Scf.iv c0_i32_503 c1_i32_504 k0_t1
  let v10693 : Index := Scalar.indexCast arg21
  let c0_i32_3520 : BitVec 32 := 0#32
  ![0, v10693.toNat, 0, 0]
def k0_off25 (k0_t1 : Fin k0_t1_loop.trips) : Fin 4 → Nat :=
  let c1_i32_3522 : BitVec 32 := 1#32
  let c0_i32_503 : BitVec 32 := 0#32
  let c1_i32_504 : BitVec 32 := 1#32
  let arg21 : BitVec 32 := Scf.iv c0_i32_503 c1_i32_504 k0_t1
  let v10703 : Index := Scalar.indexCast arg21
  let c0_i32_3524 : BitVec 32 := 0#32
  ![1, v10703.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, arg1.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, arg1.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![arg0.toNat, arg2.toNat, c0_i32.toNat, arg1.toNat, c1_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_10 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x128x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x3x8x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x3x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x3x8x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x3x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x3x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x3x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2x8x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x2x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x128x8x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x5x8x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S6x1536x24x128 : Shape := ⟨4, ![6, 1536, 24, 128]⟩
abbrev S6x1536x3x24x128 : Shape := ⟨5, ![6, 1536, 3, 24, 128]⟩
abbrev S6x1536x3x24 : Shape := ⟨4, ![6, 1536, 3, 24]⟩
abbrev S6x1536x3x24x256 : Shape := ⟨5, ![6, 1536, 3, 24, 256]⟩
abbrev S6x1536x24x2 : Shape := ⟨4, ![6, 1536, 24, 2]⟩
abbrev S_ : Shape := ⟨0, ![]⟩
abbrev S6x24x1 : Shape := ⟨3, ![6, 24, 1]⟩
abbrev S6x24x5x128x256 : Shape := ⟨5, ![6, 24, 5, 128, 256]⟩
abbrev S6x1536x24x256 : Shape := ⟨4, ![6, 1536, 24, 256]⟩
abbrev S6x1x24x128 : Shape := ⟨4, ![6, 1, 24, 128]⟩
abbrev S6x24x128 : Shape := ⟨3, ![6, 24, 128]⟩
abbrev S6x1x3x24x128 : Shape := ⟨5, ![6, 1, 3, 24, 128]⟩
abbrev S6x3x24x128 : Shape := ⟨4, ![6, 3, 24, 128]⟩
abbrev S6x1x3x24 : Shape := ⟨4, ![6, 1, 3, 24]⟩
abbrev S6x3x24 : Shape := ⟨3, ![6, 3, 24]⟩
abbrev S6x3x24x1 : Shape := ⟨4, ![6, 3, 24, 1]⟩
abbrev S6x24x3x128 : Shape := ⟨4, ![6, 24, 3, 128]⟩
abbrev S6x1x3x24x256 : Shape := ⟨5, ![6, 1, 3, 24, 256]⟩
abbrev S6x3x24x256 : Shape := ⟨4, ![6, 3, 24, 256]⟩
abbrev S6x24x3x256 : Shape := ⟨4, ![6, 24, 3, 256]⟩
abbrev S6x24x3 : Shape := ⟨3, ![6, 24, 3]⟩
abbrev S6x1x24x2 : Shape := ⟨4, ![6, 1, 24, 2]⟩
abbrev S6x24x2 : Shape := ⟨3, ![6, 24, 2]⟩
abbrev S6x24x3x1 : Shape := ⟨4, ![6, 24, 3, 1]⟩
abbrev S6x24x3x5 : Shape := ⟨4, ![6, 24, 3, 5]⟩
abbrev S6x24x3x128x256 : Shape := ⟨5, ![6, 24, 3, 128, 256]⟩
abbrev S6x24x3x1x1 : Shape := ⟨5, ![6, 24, 3, 1, 1]⟩
abbrev S6x24x3x128x1 : Shape := ⟨5, ![6, 24, 3, 128, 1]⟩
abbrev S6x24x3x1x256 : Shape := ⟨5, ![6, 24, 3, 1, 256]⟩
abbrev S6x24x256 : Shape := ⟨3, ![6, 24, 256]⟩
abbrev S6x24x1x5 : Shape := ⟨4, ![6, 24, 1, 5]⟩
abbrev S6x24x5 : Shape := ⟨3, ![6, 24, 5]⟩
abbrev S6x24x5x1x1 : Shape := ⟨5, ![6, 24, 5, 1, 1]⟩
abbrev S6x24x1x128x256 : Shape := ⟨5, ![6, 24, 1, 128, 256]⟩
abbrev S6x24x128x256 : Shape := ⟨4, ![6, 24, 128, 256]⟩
abbrev S6x1x24x256 : Shape := ⟨4, ![6, 1, 24, 256]⟩
abbrev S6x5x24x128x256 : Shape := ⟨5, ![6, 5, 24, 128, 256]⟩

abbrev nBuf : Space → Nat
  | .hbm => 204
  | .vmem => 0
  | .smem => 0
  | _ => 0

abbrev hbmTy0_0 (i : Nat) : BufTy := match i % 128 with
  | 0 => ⟨S6x1536x24x128, .bf16⟩
  | 1 => ⟨S6x1536x3x24x128, .f32⟩
  | 2 => ⟨S6x1536x3x24, .f32⟩
  | 3 => ⟨S6x1536x3x24x256, .bf16⟩
  | 4 => ⟨S6x1536x3x24, .f32⟩
  | 5 => ⟨S6x1536x3x24, .f32⟩
  | 6 => ⟨S6x1536x24x2, .i32⟩
  | 7 => ⟨S6x1536x24x2, .f32⟩
  | 8 => ⟨S_, .i32⟩
  | 9 => ⟨S6x24x1, .i32⟩
  | 10 => ⟨S_, .f32⟩
  | 11 => ⟨S6x24x1, .f32⟩
  | 12 => ⟨S_, .f32⟩
  | 13 => ⟨S6x24x5x128x256, .f32⟩
  | 14 => ⟨S_, .bf16⟩
  | 15 => ⟨S6x1536x24x256, .bf16⟩
  | 16 => ⟨S_, .i32⟩
  | 17 => ⟨S_, .i32⟩
  | 18 => ⟨S6x1536x24x128, .bf16⟩
  | 19 => ⟨S6x1536x3x24x128, .f32⟩
  | 20 => ⟨S6x1536x3x24, .f32⟩
  | 21 => ⟨S6x1536x3x24x256, .bf16⟩
  | 22 => ⟨S6x1536x3x24, .f32⟩
  | 23 => ⟨S6x1536x3x24, .f32⟩
  | 24 => ⟨S6x1536x24x2, .i32⟩
  | 25 => ⟨S6x24x1, .i32⟩
  | 26 => ⟨S6x1536x24x2, .f32⟩
  | 27 => ⟨S6x24x1, .f32⟩
  | 28 => ⟨S_, .i32⟩
  | 29 => ⟨S_, .i32⟩
  | 30 => ⟨S6x24x5x128x256, .f32⟩
  | 31 => ⟨S6x1536x24x256, .bf16⟩
  | 32 => ⟨S_, .i32⟩
  | 33 => ⟨S_, .i1⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S6x1x24x128, .bf16⟩
  | 46 => ⟨S6x24x128, .bf16⟩
  | 47 => ⟨S6x24x128, .f32⟩
  | 48 => ⟨S_, .f32⟩
  | 49 => ⟨S6x24x128, .f32⟩
  | 50 => ⟨S6x24x128, .f32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S6x1x3x24x128, .f32⟩
  | 62 => ⟨S6x3x24x128, .f32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S6x1x3x24, .f32⟩
  | 73 => ⟨S6x3x24, .f32⟩
  | 74 => ⟨S6x3x24x1, .f32⟩
  | 75 => ⟨S6x3x24x128, .f32⟩
  | 76 => ⟨S6x3x24x128, .f32⟩
  | 77 => ⟨S6x24x3x128, .f32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S6x1x3x24x256, .bf16⟩
  | 89 => ⟨S6x3x24x256, .bf16⟩
  | 90 => ⟨S6x3x24x256, .f32⟩
  | 91 => ⟨S6x24x3x256, .f32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S6x1x3x24, .f32⟩
  | 102 => ⟨S6x3x24, .f32⟩
  | 103 => ⟨S6x24x3, .f32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S6x1x3x24, .f32⟩
  | 114 => ⟨S6x3x24, .f32⟩
  | 115 => ⟨S6x24x3, .f32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S6x1x24x2, .i32⟩
  | 126 => ⟨S6x24x2, .i32⟩
  | 127 => ⟨S6x24x3, .i32⟩
  | _ => ⟨S6x1536x24x128, .bf16⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S6x1x24x2, .f32⟩
  | 10 => ⟨S6x24x2, .f32⟩
  | 11 => ⟨S6x24x3, .f32⟩
  | 12 => ⟨S6x24x3x1, .i32⟩
  | 13 => ⟨S6x24x3x5, .i32⟩
  | 14 => ⟨S6x24x3x5, .i32⟩
  | 15 => ⟨S6x24x3x5, .i1⟩
  | 16 => ⟨S6x24x3x5, .f32⟩
  | 17 => ⟨S6x24x3x128x256, .f32⟩
  | 18 => ⟨S6x24x3x1x1, .f32⟩
  | 19 => ⟨S6x24x3x128x256, .f32⟩
  | 20 => ⟨S6x24x3x128x256, .f32⟩
  | 21 => ⟨S6x24x3x256, .f32⟩
  | 22 => ⟨S6x24x3x256, .f32⟩
  | 23 => ⟨S6x24x3x1, .f32⟩
  | 24 => ⟨S6x24x3x128, .f32⟩
  | 25 => ⟨S6x24x3x128, .f32⟩
  | 26 => ⟨S6x24x3x128x1, .f32⟩
  | 27 => ⟨S6x24x3x1x256, .f32⟩
  | 28 => ⟨S6x24x3x128x256, .f32⟩
  | 29 => ⟨S6x24x3x128x256, .f32⟩
  | 30 => ⟨S6x24x3x128x256, .f32⟩
  | 31 => ⟨S6x24x3x128x256, .f32⟩
  | 32 => ⟨S6x24x3x256, .f32⟩
  | 33 => ⟨S6x24x256, .f32⟩
  | 34 => ⟨S6x24x256, .bf16⟩
  | 35 => ⟨S6x24x1x5, .i1⟩
  | 36 => ⟨S6x24x5, .i1⟩
  | 37 => ⟨S6x24x5x1x1, .i1⟩
  | 38 => ⟨S6x24x1x128x256, .f32⟩
  | 39 => ⟨S6x24x128x256, .f32⟩
  | 40 => ⟨S6x24x1x128x256, .f32⟩
  | 41 => ⟨S6x24x5x128x256, .i1⟩
  | 42 => ⟨S6x24x5x128x256, .f32⟩
  | 43 => ⟨S6x24x5x128x256, .f32⟩
  | 44 => ⟨S6x24x1x5, .i1⟩
  | 45 => ⟨S6x24x5, .i1⟩
  | 46 => ⟨S6x24x5x1x1, .i1⟩
  | 47 => ⟨S6x24x1x128x256, .f32⟩
  | 48 => ⟨S6x24x128x256, .f32⟩
  | 49 => ⟨S6x24x1x128x256, .f32⟩
  | 50 => ⟨S6x24x5x128x256, .i1⟩
  | 51 => ⟨S6x24x5x128x256, .f32⟩
  | 52 => ⟨S6x24x5x128x256, .f32⟩
  | 53 => ⟨S6x24x1x5, .i1⟩
  | 54 => ⟨S6x24x5, .i1⟩
  | 55 => ⟨S6x24x5x1x1, .i1⟩
  | 56 => ⟨S6x24x1x128x256, .f32⟩
  | 57 => ⟨S6x24x128x256, .f32⟩
  | 58 => ⟨S6x24x1x128x256, .f32⟩
  | 59 => ⟨S6x24x5x128x256, .i1⟩
  | 60 => ⟨S6x24x5x128x256, .f32⟩
  | 61 => ⟨S6x24x5x128x256, .f32⟩
  | 62 => ⟨S6x1x24x256, .bf16⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S6x1536x24x256, .bf16⟩
  | 73 => ⟨S_, .i32⟩
  | 74 => ⟨S_, .i32⟩
  | 75 => ⟨S6x5x24x128x256, .f32⟩
  | _ => ⟨S6x1536x24x128, .bf16⟩

abbrev hbmTy (i : Nat) : BufTy := match i / 128 with
  | 0 => hbmTy0_0 i
  | 1 => hbmTy0_1 i
  | _ => ⟨S6x1536x24x128, .bf16⟩

abbrev bufTy : (tb : Table) → Fin (tcTables nBuf tb) → BufTy
  | .hbm, ⟨i, _⟩ => hbmTy i
  | _, _ => ⟨S6x1536x24x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_c_2 : Ref sig .tc := ⟨.hbm, 16, rfl⟩
abbrev main_c_3 : Ref sig .tc := ⟨.hbm, 17, rfl⟩
abbrev main_v4_0 : Ref sig .tc := ⟨.hbm, 18, rfl⟩
abbrev main_v4_1 : Ref sig .tc := ⟨.hbm, 19, rfl⟩
abbrev main_v4_2 : Ref sig .tc := ⟨.hbm, 20, rfl⟩
abbrev main_v4_3 : Ref sig .tc := ⟨.hbm, 21, rfl⟩
abbrev main_v4_4 : Ref sig .tc := ⟨.hbm, 22, rfl⟩
abbrev main_v4_5 : Ref sig .tc := ⟨.hbm, 23, rfl⟩
abbrev main_v4_6 : Ref sig .tc := ⟨.hbm, 24, rfl⟩
abbrev main_v4_7 : Ref sig .tc := ⟨.hbm, 25, rfl⟩
abbrev main_v4_8 : Ref sig .tc := ⟨.hbm, 26, rfl⟩
abbrev main_v4_9 : Ref sig .tc := ⟨.hbm, 27, rfl⟩
abbrev main_v4_10 : Ref sig .tc := ⟨.hbm, 28, rfl⟩
abbrev main_v4_11 : Ref sig .tc := ⟨.hbm, 29, rfl⟩
abbrev main_v4_12 : Ref sig .tc := ⟨.hbm, 30, rfl⟩
abbrev main_v4_13 : Ref sig .tc := ⟨.hbm, 31, rfl⟩
abbrev main_while0c_c_17 : Ref sig .tc := ⟨.hbm, 32, rfl⟩
abbrev main_while0c_v6 : Ref sig .tc := ⟨.hbm, 33, rfl⟩
abbrev main_while0b_c_17 : Ref sig .tc := ⟨.hbm, 34, rfl⟩
abbrev main_while0b_v6 : Ref sig .tc := ⟨.hbm, 35, rfl⟩
abbrev main_while0b_call0_c : Ref sig .tc := ⟨.hbm, 36, rfl⟩
abbrev main_while0b_call0_v0 : Ref sig .tc := ⟨.hbm, 37, rfl⟩
abbrev main_while0b_call0_v1 : Ref sig .tc := ⟨.hbm, 38, rfl⟩
abbrev main_while0b_call0_c_0 : Ref sig .tc := ⟨.hbm, 39, rfl⟩
abbrev main_while0b_call0_v2 : Ref sig .tc := ⟨.hbm, 40, rfl⟩
abbrev main_while0b_call0_v3 : Ref sig .tc := ⟨.hbm, 41, rfl⟩
abbrev main_while0b_call0_c_1 : Ref sig .tc := ⟨.hbm, 42, rfl⟩
abbrev main_while0b_call0_c_2 : Ref sig .tc := ⟨.hbm, 43, rfl⟩
abbrev main_while0b_call0_c_3 : Ref sig .tc := ⟨.hbm, 44, rfl⟩
abbrev main_while0b_call0_v4 : Ref sig .tc := ⟨.hbm, 45, rfl⟩
abbrev main_while0b_v7 : Ref sig .tc := ⟨.hbm, 46, rfl⟩
abbrev main_while0b_v8 : Ref sig .tc := ⟨.hbm, 47, rfl⟩
abbrev main_while0b_cst_18 : Ref sig .tc := ⟨.hbm, 48, rfl⟩
abbrev main_while0b_v9 : Ref sig .tc := ⟨.hbm, 49, rfl⟩
abbrev main_while0b_v10 : Ref sig .tc := ⟨.hbm, 50, rfl⟩
abbrev main_while0b_call1_c : Ref sig .tc := ⟨.hbm, 51, rfl⟩
abbrev main_while0b_call1_v0 : Ref sig .tc := ⟨.hbm, 52, rfl⟩
abbrev main_while0b_call1_v1 : Ref sig .tc := ⟨.hbm, 53, rfl⟩
abbrev main_while0b_call1_c_0 : Ref sig .tc := ⟨.hbm, 54, rfl⟩
abbrev main_while0b_call1_v2 : Ref sig .tc := ⟨.hbm, 55, rfl⟩
abbrev main_while0b_call1_v3 : Ref sig .tc := ⟨.hbm, 56, rfl⟩
abbrev main_while0b_call1_c_1 : Ref sig .tc := ⟨.hbm, 57, rfl⟩
abbrev main_while0b_call1_c_2 : Ref sig .tc := ⟨.hbm, 58, rfl⟩
abbrev main_while0b_call1_c_3 : Ref sig .tc := ⟨.hbm, 59, rfl⟩
abbrev main_while0b_call1_c_4 : Ref sig .tc := ⟨.hbm, 60, rfl⟩
abbrev main_while0b_call1_v4 : Ref sig .tc := ⟨.hbm, 61, rfl⟩
abbrev main_while0b_v11 : Ref sig .tc := ⟨.hbm, 62, rfl⟩
abbrev main_while0b_call2_c : Ref sig .tc := ⟨.hbm, 63, rfl⟩
abbrev main_while0b_call2_v0 : Ref sig .tc := ⟨.hbm, 64, rfl⟩
abbrev main_while0b_call2_v1 : Ref sig .tc := ⟨.hbm, 65, rfl⟩
abbrev main_while0b_call2_c_0 : Ref sig .tc := ⟨.hbm, 66, rfl⟩
abbrev main_while0b_call2_v2 : Ref sig .tc := ⟨.hbm, 67, rfl⟩
abbrev main_while0b_call2_v3 : Ref sig .tc := ⟨.hbm, 68, rfl⟩
abbrev main_while0b_call2_c_1 : Ref sig .tc := ⟨.hbm, 69, rfl⟩
abbrev main_while0b_call2_c_2 : Ref sig .tc := ⟨.hbm, 70, rfl⟩
abbrev main_while0b_call2_c_3 : Ref sig .tc := ⟨.hbm, 71, rfl⟩
abbrev main_while0b_call2_v4 : Ref sig .tc := ⟨.hbm, 72, rfl⟩
abbrev main_while0b_v12 : Ref sig .tc := ⟨.hbm, 73, rfl⟩
abbrev main_while0b_v13 : Ref sig .tc := ⟨.hbm, 74, rfl⟩
abbrev main_while0b_v14 : Ref sig .tc := ⟨.hbm, 75, rfl⟩
abbrev main_while0b_v15 : Ref sig .tc := ⟨.hbm, 76, rfl⟩
abbrev main_while0b_v16 : Ref sig .tc := ⟨.hbm, 77, rfl⟩
abbrev main_while0b_call3_c : Ref sig .tc := ⟨.hbm, 78, rfl⟩
abbrev main_while0b_call3_v0 : Ref sig .tc := ⟨.hbm, 79, rfl⟩
abbrev main_while0b_call3_v1 : Ref sig .tc := ⟨.hbm, 80, rfl⟩
abbrev main_while0b_call3_c_0 : Ref sig .tc := ⟨.hbm, 81, rfl⟩
abbrev main_while0b_call3_v2 : Ref sig .tc := ⟨.hbm, 82, rfl⟩
abbrev main_while0b_call3_v3 : Ref sig .tc := ⟨.hbm, 83, rfl⟩
abbrev main_while0b_call3_c_1 : Ref sig .tc := ⟨.hbm, 84, rfl⟩
abbrev main_while0b_call3_c_2 : Ref sig .tc := ⟨.hbm, 85, rfl⟩
abbrev main_while0b_call3_c_3 : Ref sig .tc := ⟨.hbm, 86, rfl⟩
abbrev main_while0b_call3_c_4 : Ref sig .tc := ⟨.hbm, 87, rfl⟩
abbrev main_while0b_call3_v4 : Ref sig .tc := ⟨.hbm, 88, rfl⟩
abbrev main_while0b_v17 : Ref sig .tc := ⟨.hbm, 89, rfl⟩
abbrev main_while0b_v18 : Ref sig .tc := ⟨.hbm, 90, rfl⟩
abbrev main_while0b_v19 : Ref sig .tc := ⟨.hbm, 91, rfl⟩
abbrev main_while0b_call4_c : Ref sig .tc := ⟨.hbm, 92, rfl⟩
abbrev main_while0b_call4_v0 : Ref sig .tc := ⟨.hbm, 93, rfl⟩
abbrev main_while0b_call4_v1 : Ref sig .tc := ⟨.hbm, 94, rfl⟩
abbrev main_while0b_call4_c_0 : Ref sig .tc := ⟨.hbm, 95, rfl⟩
abbrev main_while0b_call4_v2 : Ref sig .tc := ⟨.hbm, 96, rfl⟩
abbrev main_while0b_call4_v3 : Ref sig .tc := ⟨.hbm, 97, rfl⟩
abbrev main_while0b_call4_c_1 : Ref sig .tc := ⟨.hbm, 98, rfl⟩
abbrev main_while0b_call4_c_2 : Ref sig .tc := ⟨.hbm, 99, rfl⟩
abbrev main_while0b_call4_c_3 : Ref sig .tc := ⟨.hbm, 100, rfl⟩
abbrev main_while0b_call4_v4 : Ref sig .tc := ⟨.hbm, 101, rfl⟩
abbrev main_while0b_v20 : Ref sig .tc := ⟨.hbm, 102, rfl⟩
abbrev main_while0b_v21 : Ref sig .tc := ⟨.hbm, 103, rfl⟩
abbrev main_while0b_call5_c : Ref sig .tc := ⟨.hbm, 104, rfl⟩
abbrev main_while0b_call5_v0 : Ref sig .tc := ⟨.hbm, 105, rfl⟩
abbrev main_while0b_call5_v1 : Ref sig .tc := ⟨.hbm, 106, rfl⟩
abbrev main_while0b_call5_c_0 : Ref sig .tc := ⟨.hbm, 107, rfl⟩
abbrev main_while0b_call5_v2 : Ref sig .tc := ⟨.hbm, 108, rfl⟩
abbrev main_while0b_call5_v3 : Ref sig .tc := ⟨.hbm, 109, rfl⟩
abbrev main_while0b_call5_c_1 : Ref sig .tc := ⟨.hbm, 110, rfl⟩
abbrev main_while0b_call5_c_2 : Ref sig .tc := ⟨.hbm, 111, rfl⟩
abbrev main_while0b_call5_c_3 : Ref sig .tc := ⟨.hbm, 112, rfl⟩
abbrev main_while0b_call5_v4 : Ref sig .tc := ⟨.hbm, 113, rfl⟩
abbrev main_while0b_v22 : Ref sig .tc := ⟨.hbm, 114, rfl⟩
abbrev main_while0b_v23 : Ref sig .tc := ⟨.hbm, 115, rfl⟩
abbrev main_while0b_call6_c : Ref sig .tc := ⟨.hbm, 116, rfl⟩
abbrev main_while0b_call6_v0 : Ref sig .tc := ⟨.hbm, 117, rfl⟩
abbrev main_while0b_call6_v1 : Ref sig .tc := ⟨.hbm, 118, rfl⟩
abbrev main_while0b_call6_c_0 : Ref sig .tc := ⟨.hbm, 119, rfl⟩
abbrev main_while0b_call6_v2 : Ref sig .tc := ⟨.hbm, 120, rfl⟩
abbrev main_while0b_call6_v3 : Ref sig .tc := ⟨.hbm, 121, rfl⟩
abbrev main_while0b_call6_c_1 : Ref sig .tc := ⟨.hbm, 122, rfl⟩
abbrev main_while0b_call6_c_2 : Ref sig .tc := ⟨.hbm, 123, rfl⟩
abbrev main_while0b_call6_c_3 : Ref sig .tc := ⟨.hbm, 124, rfl⟩
abbrev main_while0b_call6_v4 : Ref sig .tc := ⟨.hbm, 125, rfl⟩
abbrev main_while0b_v24 : Ref sig .tc := ⟨.hbm, 126, rfl⟩
abbrev main_while0b_v25 : Ref sig .tc := ⟨.hbm, 127, rfl⟩
abbrev main_while0b_call7_c : Ref sig .tc := ⟨.hbm, 128, rfl⟩
abbrev main_while0b_call7_v0 : Ref sig .tc := ⟨.hbm, 129, rfl⟩
abbrev main_while0b_call7_v1 : Ref sig .tc := ⟨.hbm, 130, rfl⟩
abbrev main_while0b_call7_c_0 : Ref sig .tc := ⟨.hbm, 131, rfl⟩
abbrev main_while0b_call7_v2 : Ref sig .tc := ⟨.hbm, 132, rfl⟩
abbrev main_while0b_call7_v3 : Ref sig .tc := ⟨.hbm, 133, rfl⟩
abbrev main_while0b_call7_c_1 : Ref sig .tc := ⟨.hbm, 134, rfl⟩
abbrev main_while0b_call7_c_2 : Ref sig .tc := ⟨.hbm, 135, rfl⟩
abbrev main_while0b_call7_c_3 : Ref sig .tc := ⟨.hbm, 136, rfl⟩
abbrev main_while0b_call7_v4 : Ref sig .tc := ⟨.hbm, 137, rfl⟩
abbrev main_while0b_v26 : Ref sig .tc := ⟨.hbm, 138, rfl⟩
abbrev main_while0b_v27 : Ref sig .tc := ⟨.hbm, 139, rfl⟩
abbrev main_while0b_v28 : Ref sig .tc := ⟨.hbm, 140, rfl⟩
abbrev main_while0b_v29 : Ref sig .tc := ⟨.hbm, 141, rfl⟩
abbrev main_while0b_v30 : Ref sig .tc := ⟨.hbm, 142, rfl⟩
abbrev main_while0b_v31 : Ref sig .tc := ⟨.hbm, 143, rfl⟩
abbrev main_while0b_v32 : Ref sig .tc := ⟨.hbm, 144, rfl⟩
abbrev main_while0b_v33 : Ref sig .tc := ⟨.hbm, 145, rfl⟩
abbrev main_while0b_v34 : Ref sig .tc := ⟨.hbm, 146, rfl⟩
abbrev main_while0b_v35 : Ref sig .tc := ⟨.hbm, 147, rfl⟩
abbrev main_while0b_v36 : Ref sig .tc := ⟨.hbm, 148, rfl⟩
abbrev main_while0b_v37 : Ref sig .tc := ⟨.hbm, 149, rfl⟩
abbrev main_while0b_v38 : Ref sig .tc := ⟨.hbm, 150, rfl⟩
abbrev main_while0b_v39 : Ref sig .tc := ⟨.hbm, 151, rfl⟩
abbrev main_while0b_v40 : Ref sig .tc := ⟨.hbm, 152, rfl⟩
abbrev main_while0b_v41 : Ref sig .tc := ⟨.hbm, 153, rfl⟩
abbrev main_while0b_v42 : Ref sig .tc := ⟨.hbm, 154, rfl⟩
abbrev main_while0b_v43 : Ref sig .tc := ⟨.hbm, 155, rfl⟩
abbrev main_while0b_v44 : Ref sig .tc := ⟨.hbm, 156, rfl⟩
abbrev main_while0b_v45 : Ref sig .tc := ⟨.hbm, 157, rfl⟩
abbrev main_while0b_v46 : Ref sig .tc := ⟨.hbm, 158, rfl⟩
abbrev main_while0b_v47 : Ref sig .tc := ⟨.hbm, 159, rfl⟩
abbrev main_while0b_v48 : Ref sig .tc := ⟨.hbm, 160, rfl⟩
abbrev main_while0b_v49 : Ref sig .tc := ⟨.hbm, 161, rfl⟩
abbrev main_while0b_v50 : Ref sig .tc := ⟨.hbm, 162, rfl⟩
abbrev main_while0b_v51 : Ref sig .tc := ⟨.hbm, 163, rfl⟩
abbrev main_while0b_v52 : Ref sig .tc := ⟨.hbm, 164, rfl⟩
abbrev main_while0b_v53 : Ref sig .tc := ⟨.hbm, 165, rfl⟩
abbrev main_while0b_v54 : Ref sig .tc := ⟨.hbm, 166, rfl⟩
abbrev main_while0b_v55 : Ref sig .tc := ⟨.hbm, 167, rfl⟩
abbrev main_while0b_v56 : Ref sig .tc := ⟨.hbm, 168, rfl⟩
abbrev main_while0b_call8_v0 : Ref sig .tc := ⟨.hbm, 169, rfl⟩
abbrev main_while0b_call8_v1 : Ref sig .tc := ⟨.hbm, 170, rfl⟩
abbrev main_while0b_v57 : Ref sig .tc := ⟨.hbm, 171, rfl⟩
abbrev main_while0b_v58 : Ref sig .tc := ⟨.hbm, 172, rfl⟩
abbrev main_while0b_v59 : Ref sig .tc := ⟨.hbm, 173, rfl⟩
abbrev main_while0b_v60 : Ref sig .tc := ⟨.hbm, 174, rfl⟩
abbrev main_while0b_v61 : Ref sig .tc := ⟨.hbm, 175, rfl⟩
abbrev main_while0b_v62 : Ref sig .tc := ⟨.hbm, 176, rfl⟩
abbrev main_while0b_v63 : Ref sig .tc := ⟨.hbm, 177, rfl⟩
abbrev main_while0b_call9_v0 : Ref sig .tc := ⟨.hbm, 178, rfl⟩
abbrev main_while0b_call9_v1 : Ref sig .tc := ⟨.hbm, 179, rfl⟩
abbrev main_while0b_v64 : Ref sig .tc := ⟨.hbm, 180, rfl⟩
abbrev main_while0b_v65 : Ref sig .tc := ⟨.hbm, 181, rfl⟩
abbrev main_while0b_v66 : Ref sig .tc := ⟨.hbm, 182, rfl⟩
abbrev main_while0b_v67 : Ref sig .tc := ⟨.hbm, 183, rfl⟩
abbrev main_while0b_v68 : Ref sig .tc := ⟨.hbm, 184, rfl⟩
abbrev main_while0b_v69 : Ref sig .tc := ⟨.hbm, 185, rfl⟩
abbrev main_while0b_v70 : Ref sig .tc := ⟨.hbm, 186, rfl⟩
abbrev main_while0b_call10_v0 : Ref sig .tc := ⟨.hbm, 187, rfl⟩
abbrev main_while0b_call10_v1 : Ref sig .tc := ⟨.hbm, 188, rfl⟩
abbrev main_while0b_v71 : Ref sig .tc := ⟨.hbm, 189, rfl⟩
abbrev main_while0b_call11_v0 : Ref sig .tc := ⟨.hbm, 190, rfl⟩
abbrev main_while0b_call11_c : Ref sig .tc := ⟨.hbm, 191, rfl⟩
abbrev main_while0b_call11_v1 : Ref sig .tc := ⟨.hbm, 192, rfl⟩
abbrev main_while0b_call11_v2 : Ref sig .tc := ⟨.hbm, 193, rfl⟩
abbrev main_while0b_call11_c_0 : Ref sig .tc := ⟨.hbm, 194, rfl⟩
abbrev main_while0b_call11_v3 : Ref sig .tc := ⟨.hbm, 195, rfl⟩
abbrev main_while0b_call11_v4 : Ref sig .tc := ⟨.hbm, 196, rfl⟩
abbrev main_while0b_call11_c_1 : Ref sig .tc := ⟨.hbm, 197, rfl⟩
abbrev main_while0b_call11_c_2 : Ref sig .tc := ⟨.hbm, 198, rfl⟩
abbrev main_while0b_call11_c_3 : Ref sig .tc := ⟨.hbm, 199, rfl⟩
abbrev main_while0b_v72 : Ref sig .tc := ⟨.hbm, 200, rfl⟩
abbrev main_while0b_c_19 : Ref sig .tc := ⟨.hbm, 201, rfl⟩
abbrev main_while0b_v73 : Ref sig .tc := ⟨.hbm, 202, rfl⟩
abbrev main_v5 : Ref sig .tc := ⟨.hbm, 203, rfl⟩

abbrev nD : Nat := 1
abbrev τ : Topo := Topo.v7x

variable {F : FTy → Type} [FloatOps F]

abbrev main_while0_count : Scf.Loop 32 := ⟨0#32, 1536#32, 1#32⟩
-- ==== Proof.FrameBody.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import Idealize.ShloMosaic.Lib.Pipeline.Frame
public import Idealize.ShloMosaic.Lib.Pipeline.FrameBody
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

section Trip

variable (c : Dev nD) (i : grid0.Coords)
  (arg3 : Memref sig .tc .smem S1 .i32) (harg3 : arg3.IsWhole) (arg4 : Memref sig .tc .vmem S1x128x8x128 .bf16) (harg4 : arg4.IsWhole) (arg5 : Memref sig .tc .vmem S1x128x3x8x128 .fp8e4m3) (harg5 : arg5.IsWhole) (arg6 : Memref sig .tc .vmem S1x128x3x8x128 .bf16) (harg6 : arg6.IsWhole) (arg7 : Memref sig .tc .vmem S1x128x3x8x128 .bf16) (harg7 : arg7.IsWhole) (arg8 : Memref sig .tc .vmem S1x3x8x128 .f32) (harg8 : arg8.IsWhole) (arg9 : Memref sig .tc .vmem S1x3x8x128 .f32) (harg9 : arg9.IsWhole) (arg10 : Memref sig .tc .vmem S1x3x8x128 .f32) (harg10 : arg10.IsWhole) (arg11 : Memref sig .tc .vmem S1x2x8x128 .i32) (harg11 : arg11.IsWhole) (arg12 : Memref sig .tc .vmem S1x2x8x128 .f32) (harg12 : arg12.IsWhole) (arg13 : Memref sig .tc .vmem S1x128x8x256 .bf16) (harg13 : arg13.IsWhole) (arg14 : Memref sig .tc .vmem S1x5x8x128x256 .f32) (harg14 : arg14.IsWhole) (arg15 : Memref sig .tc .vmem S3072x128 .f32) (harg15 : arg15.IsWhole) (arg16 : Memref sig .tc .vmem S4x256x128 .bf16) (harg16 : arg16.IsWhole) (arg17 : Memref sig .tc .vmem S4x3x2x256x128 .bf16) (harg17 : arg17.IsWhole) (arg18 : Memref sig .tc .vmem S2x5x8x128 .f32) (harg18 : arg18.IsWhole) (arg19 : Memref sig .tc .vmem S2x128x128 .f32) (harg19 : arg19.IsWhole) (arg20 : Memref sig .tc .vmem S2x1024x128 .bf16) (harg20 : arg20.IsWhole)
  (v3 v4 v537 : IVec S128x128 32)

/-- A memref's elements held whole at contents `f`. -/
abbrev at' {sp : Space} {S : Shape} {e : EltTy} (M : Memref sig .tc sp S e) (f : Buf (Elt F) (M.view.loc (c : Thread nD τ))) : sProp 𝕄 :=
  M.view.loc (c : Thread nD τ) ↦[M.view.set]{fullShare} f

set_option warn.classDefReducibility false in
/-- The loop over head pairs: the state block and the packed output block at some contents, all else as found. -/
@[sl_loop] def loopInv
    (f15 : Buf (Elt F) (arg15.view.loc (c : Thread nD τ))) (f16 : Buf (Elt F) (arg16.view.loc (c : Thread nD τ)))
    (f17 : Buf (Elt F) (arg17.view.loc (c : Thread nD τ))) (f18 : Buf (Elt F) (arg18.view.loc (c : Thread nD τ)))
    (f19 : Buf (Elt F) (arg19.view.loc (c : Thread nD τ))) :
    LoopInvTy_k0_t1 (F := F) Unit ℕ (UR sig nD τ) ℕ Variants.none c none Set.univ i
      arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v537 where
  inv k _ := iprop((∃ f, at' c arg14 f) ∗ at' c arg15 f15 ∗ at' c arg16 f16 ∗ at' c arg17 f17 ∗ at' c arg18 f18 ∗ at' c arg19 f19 ∗ (∃ f, at' c arg20 f))
  step k _ := by
    unfold k0_t1_body
    iintro ⟨⟨%f14, H14⟩, H15, H16, H17, H18, H19, ⟨%f20, H20⟩⟩
    sl_exec_parts
    sl_step
    sl_close

/-- The body's triple, for any continuation: the inputs as found, every other buffer at some contents. -/
theorem kernelRun (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (K : PUnit → sProp 𝕄) :
    iprop(at' c arg4 f4 ∗ at' c arg5 f5 ∗ at' c arg6 f6 ∗ at' c arg7 f7 ∗ at' c arg8 f8 ∗ at' c arg9 f9 ∗ at' c arg10 f10 ∗ at' c arg11 f11 ∗ at' c arg12 f12 ∗ (∃ f, at' c arg13 f) ∗ (∃ f, at' c arg14 f) ∗ (∃ f, at' c arg15 f) ∗ (∃ f, at' c arg16 f) ∗ (∃ f, at' c arg17 f) ∗ (∃ f, at' c arg18 f) ∗ (∃ f, at' c arg19 f) ∗ (∃ f, at' c arg20 f) ∗ (iprop(at' c arg4 f4 ∗ at' c arg5 f5 ∗ at' c arg6 f6 ∗ at' c arg7 f7 ∗ at' c arg8 f8 ∗ at' c arg9 f9 ∗ at' c arg10 f10 ∗ at' c arg11 f11 ∗ at' c arg12 f12 ∗ (∃ f, at' c arg13 f) ∗ (∃ f, at' c arg14 f) ∗ (∃ f, at' c arg15 f) ∗ (∃ f, at' c arg16 f) ∗ (∃ f, at' c arg17 f) ∗ (∃ f, at' c arg18 f) ∗ (∃ f, at' c arg19 f) ∗ (∃ f, at' c arg20 f)) -∗ K ⟨⟩))
      ⊢ wp frame (wpE (defs₀ (F := F)) Variants.none c none) Set.univ (cc0_mom_chunk i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_mom_chunk_eq_skeleton]; unfold cc0_mom_chunk_skel
  iintro ⟨H4, H5, H6, H7, H8, H9, H10, H11, H12, ⟨%f13, H13⟩, ⟨%f14, H14⟩, ⟨%f15, H15⟩, ⟨%f16, H16⟩, ⟨%f17, H17⟩, ⟨%f18, H18⟩, ⟨%f19, H19⟩, ⟨%f20, H20⟩, Hk⟩
  sl_exec_parts
  sl_step
  iapply Hk
  sl_close

end Trip

end Cert.Kernel.Hand

end
-- ==== Proof.FrameLaunch.lean ====
module

public import proofs.«01_k».proof.Proof.FrameBody
public import Idealize.ShloMosaic.Lib.StableHlo.Run
public import proofs.«01_k».proof.Proof.Gen.Kernel.Skeleton
public import proofs.«01_k».proof.Proof.Gen.Kernel.Loops
public import proofs.«01_k».proof.Proof.Gen.Kernel.Launch
public import Idealize.ShloMosaic.Lib.Pipeline.Frame
public import Idealize.ShloMosaic.Lib.Pipeline.FrameBody
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The arrays and the table as the region finds them -/

/-- Core `c`'s buffers when the region is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- A buffer that no host operation writes is found as launched. -/
theorem V_of (c : Dev nD) (b : Ref sig .tc) (h : b ≠ main_v0 ∧ b ≠ main_v1 ∧ b ≠ main_v2 ∧ b ≠ main_v3 ∧ b ≠ main_v4 ∧ b ≠ main_v5 ∧ b ≠ main_c ∧ b ≠ main_v6) :
    V m c b = m ((c : Thread nD τ).loc b) :=
  StableHlo.after_of_forall_not_mem (b := Proc.devRef .tc b) _ _ (List.forall_iff_forall_mem.mp (by
    obtain ⟨h0, h1, h2, h3, h4, h5, h6, h7⟩ := h
    simp only [hostOps0, List.Forall, StableHlo.nullary_writes, StableHlo.unary_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7⟩))

/-- The one prefetched table at the contents the host operations leave (the kernel never reads it). -/
def tbl : pre0.Contents (Elt F) := fun k => V m 0 (pre0.ref k)

/-- The table is admissible: the pipeline asks nothing of it. -/
def adm (p : Fin 1) : (pcfgs (F := F) p).Adm := ⟨tbl m, trivial⟩

abbrev cfgA : Pipeline.Cfg sig Λ₀ := Pipeline.pin (pcfgs (F := F)) (adm m) 0

theorem hmain (𝒱₀ : Variants) : Pipeline.HMainP (Ix := Unit) (Name := ℕ) (U := UR sig nD τ) (Lvl := ℕ) (pcfgs (F := F)) 0 defs₀ 𝒱₀ m (main (F := F)) (V m) :=
  Pipeline.hmainP_prefix (pcfgs (F := F)) 0 defs₀ 𝒱₀ m main hostOps0 hostOps0_sub hostOps0_fresh main_chain

/-! ## The proof data -/

/-- The two output windows. -/
def isOut (w : Fin 11) : Bool := w == 9 || w == 10

/-- An input window is left as found; nothing is said of an output. -/
def rdat (c : Dev nD) : Pipeline.RDat τ (Elt F) Unit ℕ (UR sig nD τ) ℕ (cfgA m) c where
  A w := V m c (Pipeline.arrRef spec0 w)
  after w _ Y X := isOut w = false → X = Y
  Φ _ := iprop(Pipeline.ΦA spec0 c ∗ Pipeline.ΦT pre0 (tbl m) c)
  q w := Pipeline.shareOf spec0 w
  owed _ := 0

/-- The staging memref of window `w` at point `t`. -/
abbrev ms (t : Fin (cfgA m).N) (w : Fin 11) := (spec0 w).stage ((cfgA m).slots t w)

/-- The kernel's body at point `t`. -/
abbrev bodyAt (t : Fin (cfgA m).N) : Prog (TpuEff nD τ sig (Elt F) Λ₀ .tc) PUnit :=
  cc0_mom_chunk (grid0.coords t) (Memref.whole main_v6) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (spec0_8.stage ((cfgA m).slots t 8)) (hstage0_8 (((cfgA m).slots t 8).cast nbuf0_8)) (spec0_9.stage ((cfgA m).slots t 9)) (hstage0_9 (((cfgA m).slots t 9).cast nbuf0_9)) (spec0_10.stage ((cfgA m).slots t 10)) (hstage0_10 (((cfgA m).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

theorem defs₀_row (t : Fin (cfgA m).N) : defs₀ (F := F) .tc (cfgA m).body ((cfgA m).bodyArgs t ((cfgA m).slots t)) = bodyAt m t := by
  unfold defs₀; rw [Defs.onTc_tc]

theorem PhiA_eq (c : Dev nD) :
    (Pipeline.ΦA spec0 c : sProp 𝕄)
      = iprop(((∃ f, at' c (Memref.whole cc0_scratch0) f) ∗ (∃ f, at' c (Memref.whole cc0_scratch1) f) ∗ (∃ f, at' c (Memref.whole cc0_scratch2) f) ∗ (∃ f, at' c (Memref.whole cc0_scratch3) f) ∗ (∃ f, at' c (Memref.whole cc0_scratch4) f) ∗ (∃ f, at' c (Memref.whole cc0_scratch5) f)) ∗ (∃ r, prngReg c r)) := by
  unfold Pipeline.ΦA; rw [scopedRest0_eq]; simp only [at', Memref.view_whole, View.set_whole]; try rfl

def bodyPre (c : Dev nD) (t : Fin (cfgA m).N) (Y : (w : Fin 11) → ((cfgA m).win w).block.Idx → Elt F ((cfgA m).win w).elt) : sProp 𝕄 :=
  iprop((rdat m c).Φ t.castSucc ∗ (rdat m c).owesAt () t.castSucc ∗ owns (c : Thread nD τ) (spec0_0.stage ((cfgA m).slots t 0)) fullShare (Y 0) ∗ owns (c : Thread nD τ) (spec0_1.stage ((cfgA m).slots t 1)) fullShare (Y 1) ∗ owns (c : Thread nD τ) (spec0_2.stage ((cfgA m).slots t 2)) fullShare (Y 2) ∗ owns (c : Thread nD τ) (spec0_3.stage ((cfgA m).slots t 3)) fullShare (Y 3) ∗ owns (c : Thread nD τ) (spec0_4.stage ((cfgA m).slots t 4)) fullShare (Y 4) ∗ owns (c : Thread nD τ) (spec0_5.stage ((cfgA m).slots t 5)) fullShare (Y 5) ∗ owns (c : Thread nD τ) (spec0_6.stage ((cfgA m).slots t 6)) fullShare (Y 6) ∗ owns (c : Thread nD τ) (spec0_7.stage ((cfgA m).slots t 7)) fullShare (Y 7) ∗ owns (c : Thread nD τ) (spec0_8.stage ((cfgA m).slots t 8)) fullShare (Y 8) ∗ owns (c : Thread nD τ) (spec0_9.stage ((cfgA m).slots t 9)) fullShare (Y 9) ∗ owns (c : Thread nD τ) (spec0_10.stage ((cfgA m).slots t 10)) fullShare (Y 10))
def bodyPost (c : Dev nD) (t : Fin (cfgA m).N) (Y : (w : Fin 11) → ((cfgA m).win w).block.Idx → Elt F ((cfgA m).win w).elt) : sProp 𝕄 :=
  iprop((rdat m c).Φ t.succ ∗ (rdat m c).owesAt () t.succ ∗ (∃ X, ⌜(rdat m c).after 0 t (Y 0) X⌝ ∗ owns (c : Thread nD τ) (spec0_0.stage ((cfgA m).slots t 0)) fullShare X) ∗ (∃ X, ⌜(rdat m c).after 1 t (Y 1) X⌝ ∗ owns (c : Thread nD τ) (spec0_1.stage ((cfgA m).slots t 1)) fullShare X) ∗ (∃ X, ⌜(rdat m c).after 2 t (Y 2) X⌝ ∗ owns (c : Thread nD τ) (spec0_2.stage ((cfgA m).slots t 2)) fullShare X) ∗ (∃ X, ⌜(rdat m c).after 3 t (Y 3) X⌝ ∗ owns (c : Thread nD τ) (spec0_3.stage ((cfgA m).slots t 3)) fullShare X) ∗ (∃ X, ⌜(rdat m c).after 4 t (Y 4) X⌝ ∗ owns (c : Thread nD τ) (spec0_4.stage ((cfgA m).slots t 4)) fullShare X) ∗ (∃ X, ⌜(rdat m c).after 5 t (Y 5) X⌝ ∗ owns (c : Thread nD τ) (spec0_5.stage ((cfgA m).slots t 5)) fullShare X) ∗ (∃ X, ⌜(rdat m c).after 6 t (Y 6) X⌝ ∗ owns (c : Thread nD τ) (spec0_6.stage ((cfgA m).slots t 6)) fullShare X) ∗ (∃ X, ⌜(rdat m c).after 7 t (Y 7) X⌝ ∗ owns (c : Thread nD τ) (spec0_7.stage ((cfgA m).slots t 7)) fullShare X) ∗ (∃ X, ⌜(rdat m c).after 8 t (Y 8) X⌝ ∗ owns (c : Thread nD τ) (spec0_8.stage ((cfgA m).slots t 8)) fullShare X) ∗ (∃ X, ⌜(rdat m c).after 9 t (Y 9) X⌝ ∗ owns (c : Thread nD τ) (spec0_9.stage ((cfgA m).slots t 9)) fullShare X) ∗ (∃ X, ⌜(rdat m c).after 10 t (Y 10) X⌝ ∗ owns (c : Thread nD τ) (spec0_10.stage ((cfgA m).slots t 10)) fullShare X))

theorem sound_body (c : Dev nD) (t : Fin (cfgA m).N) (Y : (w : Fin 11) → ((cfgA m).win w).block.Idx → Elt F ((cfgA m).win w).elt) :
    bodyPre m c t Y ⊢ wp frame (wpE (defs₀ (F := F)) Variants.none c none) Set.univ (bodyAt m t) (fun _ => bodyPost m c t Y) := by
  unfold bodyPre bodyPost bodyAt
  rw [show (rdat m c).Φ t.succ = (rdat m c).Φ t.castSucc from rfl,
    show (rdat m c).owesAt () t.succ = (rdat m c).owesAt () t.castSucc from rfl,
    show (rdat m c).Φ t.castSucc = iprop(Pipeline.ΦA spec0 c ∗ Pipeline.ΦT pre0 (tbl m) c) from rfl, PhiA_eq]
  unfold owns
  iintro ⟨⟨⟨⟨S0, S1, S2, S3, S4, S5⟩, Hg⟩, HT⟩, HO, ⟨%g0, %e0, H0⟩, ⟨%g1, %e1, H1⟩, ⟨%g2, %e2, H2⟩, ⟨%g3, %e3, H3⟩, ⟨%g4, %e4, H4⟩, ⟨%g5, %e5, H5⟩, ⟨%g6, %e6, H6⟩, ⟨%g7, %e7, H7⟩, ⟨%g8, %e8, H8⟩, ⟨%g9, %e9, H9⟩, ⟨%g10, %e10, H10⟩⟩
  iapply (kernelRun c (grid0.coords t) (Memref.whole main_v6) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (spec0_8.stage ((cfgA m).slots t 8)) (hstage0_8 (((cfgA m).slots t 8).cast nbuf0_8)) (spec0_9.stage ((cfgA m).slots t 9)) (hstage0_9 (((cfgA m).slots t 9).cast nbuf0_9)) (spec0_10.stage ((cfgA m).slots t 10)) (hstage0_10 (((cfgA m).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) g0 g1 g2 g3 g4 g5 g6 g7 g8 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, ⟨%g9', H9⟩, ⟨%g10', H10⟩, S0, S1, S2, S3, S4, S5⟩
  isplitl [S0 S1 S2 S3 S4 S5 Hg HT]
  · isplitr [HT]
    · isplitr [Hg]; rotate_left; · iexact Hg
      isplitl [S0]; · iexact S0
      isplitl [S1]; · iexact S1
      isplitl [S2]; · iexact S2
      isplitl [S3]; · iexact S3
      isplitl [S4]; · iexact S4
      iexact S5
    iexact HT
  isplitl [HO]; · iexact HO
  isplitl [H0]
  · iexists Y 0; isplitr; · ipureintro; exact fun _ => rfl
    iexists _; isplitr; swap; · iexact H0
    ipureintro; exact e0
  isplitl [H1]
  · iexists Y 1; isplitr; · ipureintro; exact fun _ => rfl
    iexists _; isplitr; swap; · iexact H1
    ipureintro; exact e1
  isplitl [H2]
  · iexists Y 2; isplitr; · ipureintro; exact fun _ => rfl
    iexists _; isplitr; swap; · iexact H2
    ipureintro; exact e2
  isplitl [H3]
  · iexists Y 3; isplitr; · ipureintro; exact fun _ => rfl
    iexists _; isplitr; swap; · iexact H3
    ipureintro; exact e3
  isplitl [H4]
  · iexists Y 4; isplitr; · ipureintro; exact fun _ => rfl
    iexists _; isplitr; swap; · iexact H4
    ipureintro; exact e4
  isplitl [H5]
  · iexists Y 5; isplitr; · ipureintro; exact fun _ => rfl
    iexists _; isplitr; swap; · iexact H5
    ipureintro; exact e5
  isplitl [H6]
  · iexists Y 6; isplitr; · ipureintro; exact fun _ => rfl
    iexists _; isplitr; swap; · iexact H6
    ipureintro; exact e6
  isplitl [H7]
  · iexists Y 7; isplitr; · ipureintro; exact fun _ => rfl
    iexists _; isplitr; swap; · iexact H7
    ipureintro; exact e7
  isplitl [H8]
  · iexists Y 8; isplitr; · ipureintro; exact fun _ => rfl
    iexists _; isplitr; swap; · iexact H8
    ipureintro; exact e8
  isplitl [H9]
  · iexists ((spec0_9.stage ((cfgA m).slots t 9)).view.read (Elt F) g9'); isplitr; · ipureintro; intro h; cases h
    iexists _; isplitr; swap; · iexact H9
    ipureintro; rfl
  iexists ((spec0_10.stage ((cfgA m).slots t 10)).view.read (Elt F) g10'); isplitr; · ipureintro; intro h; cases h
  iexists _; isplitr; swap; · iexact H10
  ipureintro; rfl

theorem body_obligation (c : Dev nD) : (rdat m c).BodyObligation (defs₀ (F := F)) Variants.none () Set.univ := fun t Y _ => by
  rw [bigSep_W0, bigSep_W0, defs₀_row]
  exact triple_restated (sound_body m c t Y) rfl .rfl fun _ => .rfl

theorem hout (c : Dev nD) : (rdat m c).Φ (Fin.last (cfgA m).N) ⊢ Pipeline.ΦA spec0 c := by
  rw [show (rdat m c).Φ (Fin.last (cfgA m).N) = iprop(Pipeline.ΦA spec0 c ∗ Pipeline.ΦT pre0 (tbl m) c) from rfl]
  iintro ⟨H, -⟩; iexact H

/-- The arrays the host operations read, and no window stages. -/
theorem mem_rest (b : Ref sig .tc) (h : b ∈ [main_arg1, main_arg2, main_arg4, main_arg5, main_arg6, main_arg7]) : b ∈ Pipeline.restRefs sig spec0 := by
  revert b; decide

set_option backward.isDefEq.respectTransparency.types false in
/-- Every weakly fair execution of @main terminates with every input array and every buffer no window stages at its entry
    contents, and every semaphore counter at zero. -/
theorem run_main :
    θ_run defs (onTc (τ := τ) (main (F := F))) (s₀ m ρ)
      (fun r => Pipeline.RDat.FramePost (cfgA m) (rdat m) (V m) r ∧ r.2.sem = fun _ => 0) :=
  Pipeline.RDat.θ_run_frameP_track_shared (Q' := _) (pcfgs (F := F)) (adm m) (0 : Fin 1) launch₀0 defs₀ Variants.none (rdat m) m ρ main
    (hbody := body_obligation m) (hq := fun _ _ _ => rfl) (howed := fun _ _ => rfl) (V := V m) (hmain := hmain m Variants.none)
    (hA := fun _ _ => rfl) (hpf := fun c k => by obtain rfl : c = 0 := Subsingleton.elim _ _; rfl)
    (hin := fun _ => .rfl) (hout := fun c => hout m c)

/-- The frame: every argument array as launched, and every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨fun c =>
      ⟨(h.1.arr_in c 0 rfl).trans (V_of m c main_arg0 (by decide)),
      ((h.1 c).2 main_arg1 (mem_rest main_arg1 (by decide))).trans (V_of m c main_arg1 (by decide)),
      ((h.1 c).2 main_arg2 (mem_rest main_arg2 (by decide))).trans (V_of m c main_arg2 (by decide)),
      (h.1.arr_in c 3 rfl).trans (V_of m c main_arg3 (by decide)),
      ((h.1 c).2 main_arg4 (mem_rest main_arg4 (by decide))).trans (V_of m c main_arg4 (by decide)),
      ((h.1 c).2 main_arg5 (mem_rest main_arg5 (by decide))).trans (V_of m c main_arg5 (by decide)),
      ((h.1 c).2 main_arg6 (mem_rest main_arg6 (by decide))).trans (V_of m c main_arg6 (by decide)),
      ((h.1 c).2 main_arg7 (mem_rest main_arg7 (by decide))).trans (V_of m c main_arg7 (by decide))⟩, h.2⟩) (run_main m ρ)

end Cert.Kernel.Hand

end
-- ==== Proof.FrameBodyIdeal.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.Frame
public import Idealize.ShloMosaic.Lib.Pipeline.FrameBody
public import Idealize.ShloMosaic.Lib.Tactic

@[expose] public section

set_option maxRecDepth 16384

noncomputable section

namespace Cert.KernelIdeal.FrameHand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (UR sig nD τ) ℕ

section Trip

variable (c : Dev nD) (i : grid0.Coords)
  (arg3 : Memref sig .tc .smem S1 .i32) (harg3 : arg3.IsWhole) (arg4 : Memref sig .tc .vmem S1x128x8x128 .bf16) (harg4 : arg4.IsWhole) (arg5 : Memref sig .tc .vmem S1x128x3x8x128 .fp8e4m3) (harg5 : arg5.IsWhole) (arg6 : Memref sig .tc .vmem S1x128x3x8x128 .bf16) (harg6 : arg6.IsWhole) (arg7 : Memref sig .tc .vmem S1x128x3x8x128 .bf16) (harg7 : arg7.IsWhole) (arg8 : Memref sig .tc .vmem S1x3x8x128 .f32) (harg8 : arg8.IsWhole) (arg9 : Memref sig .tc .vmem S1x3x8x128 .f32) (harg9 : arg9.IsWhole) (arg10 : Memref sig .tc .vmem S1x3x8x128 .f32) (harg10 : arg10.IsWhole) (arg11 : Memref sig .tc .vmem S1x2x8x128 .i32) (harg11 : arg11.IsWhole) (arg12 : Memref sig .tc .vmem S1x2x8x128 .f32) (harg12 : arg12.IsWhole) (arg13 : Memref sig .tc .vmem S1x128x8x256 .bf16) (harg13 : arg13.IsWhole) (arg14 : Memref sig .tc .vmem S1x5x8x128x256 .f32) (harg14 : arg14.IsWhole) (arg15 : Memref sig .tc .vmem S3072x128 .f32) (harg15 : arg15.IsWhole) (arg16 : Memref sig .tc .vmem S4x256x128 .bf16) (harg16 : arg16.IsWhole) (arg17 : Memref sig .tc .vmem S4x3x2x256x128 .bf16) (harg17 : arg17.IsWhole) (arg18 : Memref sig .tc .vmem S2x5x8x128 .f32) (harg18 : arg18.IsWhole) (arg19 : Memref sig .tc .vmem S2x128x128 .f32) (harg19 : arg19.IsWhole) (arg20 : Memref sig .tc .vmem S2x1024x128 .bf16) (harg20 : arg20.IsWhole)
  (v3 v4 : IVec S128x128 32) (v537 : Vec F S1x128x1x2x128 .bf16)

/-- A memref's elements held whole at contents `f`. -/
abbrev at' {sp : Space} {S : Shape} {e : EltTy} (M : Memref sig .tc sp S e) (f : Buf (Elt F) (M.view.loc (c : Thread nD τ))) : sProp 𝕄 :=
  M.view.loc (c : Thread nD τ) ↦[M.view.set]{fullShare} f

set_option warn.classDefReducibility false in
/-- The loop over head pairs: the state block and the packed output block at some contents, all else as found. -/
@[sl_loop] def loopInv
    (f15 : Buf (Elt F) (arg15.view.loc (c : Thread nD τ))) (f16 : Buf (Elt F) (arg16.view.loc (c : Thread nD τ)))
    (f17 : Buf (Elt F) (arg17.view.loc (c : Thread nD τ))) (f18 : Buf (Elt F) (arg18.view.loc (c : Thread nD τ)))
    (f19 : Buf (Elt F) (arg19.view.loc (c : Thread nD τ))) :
    LoopInvTy_k0_t1 (F := F) Unit ℕ (UR sig nD τ) ℕ Variants.none c none Set.univ i
      arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v537 where
  inv k _ := iprop((∃ f, at' c arg14 f) ∗ at' c arg15 f15 ∗ at' c arg16 f16 ∗ at' c arg17 f17 ∗ at' c arg18 f18 ∗ at' c arg19 f19 ∗ (∃ f, at' c arg20 f))
  step k _ := by
    unfold k0_t1_body
    iintro ⟨⟨%f14, H14⟩, H15, H16, H17, H18, H19, ⟨%f20, H20⟩⟩
    sl_exec_parts
    sl_step
    sl_close

/-- The body's triple, for any continuation: the inputs as found, every other buffer at some contents. -/
theorem kernelRun (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (K : PUnit → sProp 𝕄) :
    iprop(at' c arg4 f4 ∗ at' c arg5 f5 ∗ at' c arg6 f6 ∗ at' c arg7 f7 ∗ at' c arg8 f8 ∗ at' c arg9 f9 ∗ at' c arg10 f10 ∗ at' c arg11 f11 ∗ at' c arg12 f12 ∗ (∃ f, at' c arg13 f) ∗ (∃ f, at' c arg14 f) ∗ (∃ f, at' c arg15 f) ∗ (∃ f, at' c arg16 f) ∗ (∃ f, at' c arg17 f) ∗ (∃ f, at' c arg18 f) ∗ (∃ f, at' c arg19 f) ∗ (∃ f, at' c arg20 f) ∗ (iprop(at' c arg4 f4 ∗ at' c arg5 f5 ∗ at' c arg6 f6 ∗ at' c arg7 f7 ∗ at' c arg8 f8 ∗ at' c arg9 f9 ∗ at' c arg10 f10 ∗ at' c arg11 f11 ∗ at' c arg12 f12 ∗ (∃ f, at' c arg13 f) ∗ (∃ f, at' c arg14 f) ∗ (∃ f, at' c arg15 f) ∗ (∃ f, at' c arg16 f) ∗ (∃ f, at' c arg17 f) ∗ (∃ f, at' c arg18 f) ∗ (∃ f, at' c arg19 f) ∗ (∃ f, at' c arg20 f)) -∗ K ⟨⟩))
      ⊢ wp frame (wpE (defs₀ (F := F)) Variants.none c none) Set.univ (cc0_mom_chunk i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_mom_chunk_eq_skeleton]; unfold cc0_mom_chunk_skel
  iintro ⟨H4, H5, H6, H7, H8, H9, H10, H11, H12, ⟨%f13, H13⟩, ⟨%f14, H14⟩, ⟨%f15, H15⟩, ⟨%f16, H16⟩, ⟨%f17, H17⟩, ⟨%f18, H18⟩, ⟨%f19, H19⟩, ⟨%f20, H20⟩, Hk⟩
  sl_exec_parts
  sl_step
  iapply Hk
  sl_close

end Trip

end Cert.KernelIdeal.FrameHand

end
-- ==== Proof.FrameLaunchIdeal.lean ====
module

public import proofs.«01_k».proof.Proof.FrameBodyIdeal
public import Idealize.ShloMosaic.Lib.StableHlo.Run
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.Frame
public import Idealize.ShloMosaic.Lib.Pipeline.FrameBody
public import Idealize.ShloMosaic.Lib.Tactic

@[expose] public section

set_option maxRecDepth 16384

noncomputable section

namespace Cert.KernelIdeal.FrameHand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The arrays and the table as the region finds them -/

/-- Core `c`'s buffers when the region is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- A buffer that no host operation writes is found as launched. -/
theorem V_of (c : Dev nD) (b : Ref sig .tc) (h : b ≠ main_v0 ∧ b ≠ main_v1 ∧ b ≠ main_v2 ∧ b ≠ main_v3 ∧ b ≠ main_v4 ∧ b ≠ main_v5 ∧ b ≠ main_c ∧ b ≠ main_v6) :
    V m c b = m ((c : Thread nD τ).loc b) :=
  StableHlo.after_of_forall_not_mem (b := Proc.devRef .tc b) _ _ (List.forall_iff_forall_mem.mp (by
    obtain ⟨h0, h1, h2, h3, h4, h5, h6, h7⟩ := h
    simp only [hostOps0, List.Forall, StableHlo.nullary_writes, StableHlo.unary_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7⟩))

/-- The one prefetched table at the contents the host operations leave (the kernel never reads it). -/
def tbl : pre0.Contents (Elt F) := fun k => V m 0 (pre0.ref k)

/-- The table is admissible: the pipeline asks nothing of it. -/
def adm (p : Fin 1) : (pcfgs (F := F) p).Adm := ⟨tbl m, trivial⟩

abbrev cfgA : Pipeline.Cfg sig Λ₀ := Pipeline.pin (pcfgs (F := F)) (adm m) 0

theorem hmain (𝒱₀ : Variants) : Pipeline.HMainP (Ix := Unit) (Name := ℕ) (U := UR sig nD τ) (Lvl := ℕ) (pcfgs (F := F)) 0 defs₀ 𝒱₀ m (main (F := F)) (V m) :=
  Pipeline.hmainP_prefix (pcfgs (F := F)) 0 defs₀ 𝒱₀ m main hostOps0 hostOps0_sub hostOps0_fresh main_chain

/-! ## The proof data -/

/-- The two output windows. -/
def isOut (w : Fin 11) : Bool := w == 9 || w == 10

/-- An input window is left as found; nothing is said of an output. -/
def rdat (c : Dev nD) : Pipeline.RDat τ (Elt F) Unit ℕ (UR sig nD τ) ℕ (cfgA m) c where
  A w := V m c (Pipeline.arrRef spec0 w)
  after w _ Y X := isOut w = false → X = Y
  Φ _ := iprop(Pipeline.ΦA spec0 c ∗ Pipeline.ΦT pre0 (tbl m) c)
  q w := Pipeline.shareOf spec0 w
  owed _ := 0

/-- The staging memref of window `w` at point `t`. -/
abbrev ms (t : Fin (cfgA m).N) (w : Fin 11) := (spec0 w).stage ((cfgA m).slots t w)

/-- The kernel's body at point `t`. -/
abbrev bodyAt (t : Fin (cfgA m).N) : Prog (TpuEff nD τ sig (Elt F) Λ₀ .tc) PUnit :=
  cc0_mom_chunk (grid0.coords t) (Memref.whole main_v6) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (spec0_8.stage ((cfgA m).slots t 8)) (hstage0_8 (((cfgA m).slots t 8).cast nbuf0_8)) (spec0_9.stage ((cfgA m).slots t 9)) (hstage0_9 (((cfgA m).slots t 9).cast nbuf0_9)) (spec0_10.stage ((cfgA m).slots t 10)) (hstage0_10 (((cfgA m).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

theorem defs₀_row (t : Fin (cfgA m).N) : defs₀ (F := F) .tc (cfgA m).body ((cfgA m).bodyArgs t ((cfgA m).slots t)) = bodyAt m t := by
  unfold defs₀; rw [Defs.onTc_tc]

theorem PhiA_eq (c : Dev nD) :
    (Pipeline.ΦA spec0 c : sProp 𝕄)
      = iprop(((∃ f, at' c (Memref.whole cc0_scratch0) f) ∗ (∃ f, at' c (Memref.whole cc0_scratch1) f) ∗ (∃ f, at' c (Memref.whole cc0_scratch2) f) ∗ (∃ f, at' c (Memref.whole cc0_scratch3) f) ∗ (∃ f, at' c (Memref.whole cc0_scratch4) f) ∗ (∃ f, at' c (Memref.whole cc0_scratch5) f)) ∗ (∃ r, prngReg c r)) := by
  unfold Pipeline.ΦA; rw [scopedRest0_eq]; simp only [at', Memref.view_whole, View.set_whole]; try rfl

def bodyPre (c : Dev nD) (t : Fin (cfgA m).N) (Y : (w : Fin 11) → ((cfgA m).win w).block.Idx → Elt F ((cfgA m).win w).elt) : sProp 𝕄 :=
  iprop((rdat m c).Φ t.castSucc ∗ (rdat m c).owesAt () t.castSucc ∗ owns (c : Thread nD τ) (spec0_0.stage ((cfgA m).slots t 0)) fullShare (Y 0) ∗ owns (c : Thread nD τ) (spec0_1.stage ((cfgA m).slots t 1)) fullShare (Y 1) ∗ owns (c : Thread nD τ) (spec0_2.stage ((cfgA m).slots t 2)) fullShare (Y 2) ∗ owns (c : Thread nD τ) (spec0_3.stage ((cfgA m).slots t 3)) fullShare (Y 3) ∗ owns (c : Thread nD τ) (spec0_4.stage ((cfgA m).slots t 4)) fullShare (Y 4) ∗ owns (c : Thread nD τ) (spec0_5.stage ((cfgA m).slots t 5)) fullShare (Y 5) ∗ owns (c : Thread nD τ) (spec0_6.stage ((cfgA m).slots t 6)) fullShare (Y 6) ∗ owns (c : Thread nD τ) (spec0_7.stage ((cfgA m).slots t 7)) fullShare (Y 7) ∗ owns (c : Thread nD τ) (spec0_8.stage ((cfgA m).slots t 8)) fullShare (Y 8) ∗ owns (c : Thread nD τ) (spec0_9.stage ((cfgA m).slots t 9)) fullShare (Y 9) ∗ owns (c : Thread nD τ) (spec0_10.stage ((cfgA m).slots t 10)) fullShare (Y 10))
def bodyPost (c : Dev nD) (t : Fin (cfgA m).N) (Y : (w : Fin 11) → ((cfgA m).win w).block.Idx → Elt F ((cfgA m).win w).elt) : sProp 𝕄 :=
  iprop((rdat m c).Φ t.succ ∗ (rdat m c).owesAt () t.succ ∗ (∃ X, ⌜(rdat m c).after 0 t (Y 0) X⌝ ∗ owns (c : Thread nD τ) (spec0_0.stage ((cfgA m).slots t 0)) fullShare X) ∗ (∃ X, ⌜(rdat m c).after 1 t (Y 1) X⌝ ∗ owns (c : Thread nD τ) (spec0_1.stage ((cfgA m).slots t 1)) fullShare X) ∗ (∃ X, ⌜(rdat m c).after 2 t (Y 2) X⌝ ∗ owns (c : Thread nD τ) (spec0_2.stage ((cfgA m).slots t 2)) fullShare X) ∗ (∃ X, ⌜(rdat m c).after 3 t (Y 3) X⌝ ∗ owns (c : Thread nD τ) (spec0_3.stage ((cfgA m).slots t 3)) fullShare X) ∗ (∃ X, ⌜(rdat m c).after 4 t (Y 4) X⌝ ∗ owns (c : Thread nD τ) (spec0_4.stage ((cfgA m).slots t 4)) fullShare X) ∗ (∃ X, ⌜(rdat m c).after 5 t (Y 5) X⌝ ∗ owns (c : Thread nD τ) (spec0_5.stage ((cfgA m).slots t 5)) fullShare X) ∗ (∃ X, ⌜(rdat m c).after 6 t (Y 6) X⌝ ∗ owns (c : Thread nD τ) (spec0_6.stage ((cfgA m).slots t 6)) fullShare X) ∗ (∃ X, ⌜(rdat m c).after 7 t (Y 7) X⌝ ∗ owns (c : Thread nD τ) (spec0_7.stage ((cfgA m).slots t 7)) fullShare X) ∗ (∃ X, ⌜(rdat m c).after 8 t (Y 8) X⌝ ∗ owns (c : Thread nD τ) (spec0_8.stage ((cfgA m).slots t 8)) fullShare X) ∗ (∃ X, ⌜(rdat m c).after 9 t (Y 9) X⌝ ∗ owns (c : Thread nD τ) (spec0_9.stage ((cfgA m).slots t 9)) fullShare X) ∗ (∃ X, ⌜(rdat m c).after 10 t (Y 10) X⌝ ∗ owns (c : Thread nD τ) (spec0_10.stage ((cfgA m).slots t 10)) fullShare X))

theorem sound_body (c : Dev nD) (t : Fin (cfgA m).N) (Y : (w : Fin 11) → ((cfgA m).win w).block.Idx → Elt F ((cfgA m).win w).elt) :
    bodyPre m c t Y ⊢ wp frame (wpE (defs₀ (F := F)) Variants.none c none) Set.univ (bodyAt m t) (fun _ => bodyPost m c t Y) := by
  unfold bodyPre bodyPost bodyAt
  rw [show (rdat m c).Φ t.succ = (rdat m c).Φ t.castSucc from rfl,
    show (rdat m c).owesAt () t.succ = (rdat m c).owesAt () t.castSucc from rfl,
    show (rdat m c).Φ t.castSucc = iprop(Pipeline.ΦA spec0 c ∗ Pipeline.ΦT pre0 (tbl m) c) from rfl, PhiA_eq]
  unfold owns
  iintro ⟨⟨⟨⟨S0, S1, S2, S3, S4, S5⟩, Hg⟩, HT⟩, HO, ⟨%g0, %e0, H0⟩, ⟨%g1, %e1, H1⟩, ⟨%g2, %e2, H2⟩, ⟨%g3, %e3, H3⟩, ⟨%g4, %e4, H4⟩, ⟨%g5, %e5, H5⟩, ⟨%g6, %e6, H6⟩, ⟨%g7, %e7, H7⟩, ⟨%g8, %e8, H8⟩, ⟨%g9, %e9, H9⟩, ⟨%g10, %e10, H10⟩⟩
  iapply (kernelRun c (grid0.coords t) (Memref.whole main_v6) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (spec0_8.stage ((cfgA m).slots t 8)) (hstage0_8 (((cfgA m).slots t 8).cast nbuf0_8)) (spec0_9.stage ((cfgA m).slots t 9)) (hstage0_9 (((cfgA m).slots t 9).cast nbuf0_9)) (spec0_10.stage ((cfgA m).slots t 10)) (hstage0_10 (((cfgA m).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) g0 g1 g2 g3 g4 g5 g6 g7 g8 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, ⟨%g9', H9⟩, ⟨%g10', H10⟩, S0, S1, S2, S3, S4, S5⟩
  isplitl [S0 S1 S2 S3 S4 S5 Hg HT]
  · isplitr [HT]
    · isplitr [Hg]; rotate_left; · iexact Hg
      isplitl [S0]; · iexact S0
      isplitl [S1]; · iexact S1
      isplitl [S2]; · iexact S2
      isplitl [S3]; · iexact S3
      isplitl [S4]; · iexact S4
      iexact S5
    iexact HT
  isplitl [HO]; · iexact HO
  isplitl [H0]
  · iexists Y 0; isplitr; · ipureintro; exact fun _ => rfl
    iexists _; isplitr; swap; · iexact H0
    ipureintro; exact e0
  isplitl [H1]
  · iexists Y 1; isplitr; · ipureintro; exact fun _ => rfl
    iexists _; isplitr; swap; · iexact H1
    ipureintro; exact e1
  isplitl [H2]
  · iexists Y 2; isplitr; · ipureintro; exact fun _ => rfl
    iexists _; isplitr; swap; · iexact H2
    ipureintro; exact e2
  isplitl [H3]
  · iexists Y 3; isplitr; · ipureintro; exact fun _ => rfl
    iexists _; isplitr; swap; · iexact H3
    ipureintro; exact e3
  isplitl [H4]
  · iexists Y 4; isplitr; · ipureintro; exact fun _ => rfl
    iexists _; isplitr; swap; · iexact H4
    ipureintro; exact e4
  isplitl [H5]
  · iexists Y 5; isplitr; · ipureintro; exact fun _ => rfl
    iexists _; isplitr; swap; · iexact H5
    ipureintro; exact e5
  isplitl [H6]
  · iexists Y 6; isplitr; · ipureintro; exact fun _ => rfl
    iexists _; isplitr; swap; · iexact H6
    ipureintro; exact e6
  isplitl [H7]
  · iexists Y 7; isplitr; · ipureintro; exact fun _ => rfl
    iexists _; isplitr; swap; · iexact H7
    ipureintro; exact e7
  isplitl [H8]
  · iexists Y 8; isplitr; · ipureintro; exact fun _ => rfl
    iexists _; isplitr; swap; · iexact H8
    ipureintro; exact e8
  isplitl [H9]
  · iexists ((spec0_9.stage ((cfgA m).slots t 9)).view.read (Elt F) g9'); isplitr; · ipureintro; intro h; cases h
    iexists _; isplitr; swap; · iexact H9
    ipureintro; rfl
  iexists ((spec0_10.stage ((cfgA m).slots t 10)).view.read (Elt F) g10'); isplitr; · ipureintro; intro h; cases h
  iexists _; isplitr; swap; · iexact H10
  ipureintro; rfl

theorem body_obligation (c : Dev nD) : (rdat m c).BodyObligation (defs₀ (F := F)) Variants.none () Set.univ := fun t Y _ => by
  rw [bigSep_W0, bigSep_W0, defs₀_row]
  exact triple_restated (sound_body m c t Y) rfl .rfl fun _ => .rfl

theorem hout (c : Dev nD) : (rdat m c).Φ (Fin.last (cfgA m).N) ⊢ Pipeline.ΦA spec0 c := by
  rw [show (rdat m c).Φ (Fin.last (cfgA m).N) = iprop(Pipeline.ΦA spec0 c ∗ Pipeline.ΦT pre0 (tbl m) c) from rfl]
  iintro ⟨H, -⟩; iexact H

/-- The arrays the host operations read, and no window stages. -/
theorem mem_rest (b : Ref sig .tc) (h : b ∈ [main_arg1, main_arg2, main_arg4, main_arg5, main_arg6, main_arg7]) : b ∈ Pipeline.restRefs sig spec0 := by
  revert b; decide

set_option backward.isDefEq.respectTransparency.types false in
/-- Every weakly fair execution of @main terminates with every input array and every buffer no window stages at its entry
    contents, and every semaphore counter at zero. -/
theorem run_main :
    θ_run defs (onTc (τ := τ) (main (F := F))) (s₀ m ρ)
      (fun r => Pipeline.RDat.FramePost (cfgA m) (rdat m) (V m) r ∧ r.2.sem = fun _ => 0) :=
  Pipeline.RDat.θ_run_frameP_track_shared (Q' := _) (pcfgs (F := F)) (adm m) (0 : Fin 1) launch₀0 defs₀ Variants.none (rdat m) m ρ main
    (hbody := body_obligation m) (hq := fun _ _ _ => rfl) (howed := fun _ _ => rfl) (V := V m) (hmain := hmain m Variants.none)
    (hA := fun _ _ => rfl) (hpf := fun c k => by obtain rfl : c = 0 := Subsingleton.elim _ _; rfl)
    (hin := fun _ => .rfl) (hout := fun c => hout m c)

/-- The frame: every argument array as launched, and every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨fun c =>
      ⟨(h.1.arr_in c 0 rfl).trans (V_of m c main_arg0 (by decide)),
      ((h.1 c).2 main_arg1 (mem_rest main_arg1 (by decide))).trans (V_of m c main_arg1 (by decide)),
      ((h.1 c).2 main_arg2 (mem_rest main_arg2 (by decide))).trans (V_of m c main_arg2 (by decide)),
      (h.1.arr_in c 3 rfl).trans (V_of m c main_arg3 (by decide)),
      ((h.1 c).2 main_arg4 (mem_rest main_arg4 (by decide))).trans (V_of m c main_arg4 (by decide)),
      ((h.1 c).2 main_arg5 (mem_rest main_arg5 (by decide))).trans (V_of m c main_arg5 (by decide)),
      ((h.1 c).2 main_arg6 (mem_rest main_arg6 (by decide))).trans (V_of m c main_arg6 (by decide)),
      ((h.1 c).2 main_arg7 (mem_rest main_arg7 (by decide))).trans (V_of m c main_arg7 (by decide))⟩, h.2⟩) (run_main m ρ)

end Cert.KernelIdeal.FrameHand

end
-- ==== Proof.TripIdeal.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.Frame
public import Idealize.ShloMosaic.Lib.Pipeline.FrameBody
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (UR sig nD τ) ℕ

section Trip

variable (c : Dev nD) (i : grid0.Coords)
  (arg3 : Memref sig .tc .smem S1 .i32) (harg3 : arg3.IsWhole) (arg4 : Memref sig .tc .vmem S1x128x8x128 .bf16) (harg4 : arg4.IsWhole) (arg5 : Memref sig .tc .vmem S1x128x3x8x128 .fp8e4m3) (harg5 : arg5.IsWhole) (arg6 : Memref sig .tc .vmem S1x128x3x8x128 .bf16) (harg6 : arg6.IsWhole) (arg7 : Memref sig .tc .vmem S1x128x3x8x128 .bf16) (harg7 : arg7.IsWhole) (arg8 : Memref sig .tc .vmem S1x3x8x128 .f32) (harg8 : arg8.IsWhole) (arg9 : Memref sig .tc .vmem S1x3x8x128 .f32) (harg9 : arg9.IsWhole) (arg10 : Memref sig .tc .vmem S1x3x8x128 .f32) (harg10 : arg10.IsWhole) (arg11 : Memref sig .tc .vmem S1x2x8x128 .i32) (harg11 : arg11.IsWhole) (arg12 : Memref sig .tc .vmem S1x2x8x128 .f32) (harg12 : arg12.IsWhole) (arg13 : Memref sig .tc .vmem S1x128x8x256 .bf16) (harg13 : arg13.IsWhole) (arg14 : Memref sig .tc .vmem S1x5x8x128x256 .f32) (harg14 : arg14.IsWhole) (arg15 : Memref sig .tc .vmem S3072x128 .f32) (harg15 : arg15.IsWhole) (arg16 : Memref sig .tc .vmem S4x256x128 .bf16) (harg16 : arg16.IsWhole) (arg17 : Memref sig .tc .vmem S4x3x2x256x128 .bf16) (harg17 : arg17.IsWhole) (arg18 : Memref sig .tc .vmem S2x5x8x128 .f32) (harg18 : arg18.IsWhole) (arg19 : Memref sig .tc .vmem S2x128x128 .f32) (harg19 : arg19.IsWhole) (arg20 : Memref sig .tc .vmem S2x1024x128 .bf16) (harg20 : arg20.IsWhole)
  (v3 v4 : IVec S128x128 32) (v537 : Vec F S1x128x1x2x128 .bf16)

/-- A memref's elements held whole at contents `f`. -/
abbrev at' {sp : Space} {S : Shape} {e : EltTy} (M : Memref sig .tc sp S e) (f : Buf (Elt F) (M.view.loc (c : Thread nD τ))) : sProp 𝕄 :=
  M.view.loc (c : Thread nD τ) ↦[M.view.set]{fullShare} f

/-- One trip over a pair of heads: the list of what it stores into the state block, and its triple. -/
def trip (k : Fin k0_t1_loop.trips)
    (f14 : Buf (Elt F) (arg14.view.loc (c : Thread nD τ))) (f15 : Buf (Elt F) (arg15.view.loc (c : Thread nD τ))) (f16 : Buf (Elt F) (arg16.view.loc (c : Thread nD τ)))
    (f17 : Buf (Elt F) (arg17.view.loc (c : Thread nD τ))) (f18 : Buf (Elt F) (arg18.view.loc (c : Thread nD τ)))
    (f19 : Buf (Elt F) (arg19.view.loc (c : Thread nD τ))) :
    { L : List (View.Piece (Elt F) S1x5x8x128x256 .f32) //
      iprop(at' c arg14 f14 ∗ at' c arg15 f15 ∗ at' c arg16 f16 ∗ at' c arg17 f17 ∗ at' c arg18 f18 ∗ at' c arg19 f19 ∗ (∃ f, at' c arg20 f))
        ⊢ wp frame (wpE (defs₀ (F := F)) Variants.none (c : Thread nD τ) none) Set.univ (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v537 k ())
          (fun _ => iprop(at' c arg14 (arg14.view.writes (Elt F) f14 L) ∗ at' c arg15 f15 ∗ at' c arg16 f16 ∗ at' c arg17 f17 ∗ at' c arg18 f18 ∗ at' c arg19 f19 ∗ (∃ f, at' c arg20 f))) } := by
  refine ⟨?_, ?run⟩
  case run =>
    unfold k0_t1_body
    iintro ⟨H14, H15, H16, H17, H18, H19, ⟨%f20, H20⟩⟩
    sl_exec_parts
    sl_step
    sl_close

end Trip

end Cert.KernelIdeal.Hand

end
-- ==== Proof.SysDef.lean ====
module

public import proofs.«01_k».proof.Proof.Gen.KernelIdeal

@[expose] public section

set_option maxRecDepth 16384

noncomputable section

/-! # One system of the loop body, as a function of what it reads

The same operations as the printed body, written once for a head and a memory. -/

namespace Cert.KernelIdeal.Hand

open Cert.KernelIdeal Cert.KernelIdeal.Gen
open Idealize.ShloMosaic Idealize.ShloMosaic.TcCoe

variable {F : FTy → Type} [FloatOps F] [Named F]

/-- The floor of `x / s`, as printed. -/
def fdiv (x : IVec S128x128 32) (s : BitVec 32) : IVec S128x128 32 :=
  have d : IVec S128x128 32 := divsi x (broadcast S128x128 s)
  have p : IVec S128x128 32 := extui 32 (cmpi .sgt x (broadcast S128x128 0#32)) natLt_1_32
  have q : IVec S128x128 32 := extui 32 (cmpi .slt x (broadcast S128x128 0#32)) natLt_1_32
  have sg : BitVec 32 := Scalar.subi (Scalar.extui (Scalar.cmpi .sgt s 0#32)) (Scalar.extui (Scalar.cmpi .slt s 0#32))
  have ne : IVec S128x128 1 := cmpi .ne (subi p q) (broadcast S128x128 sg)
  have rm : IVec S128x128 1 := cmpi .ne (remsi x (broadcast S128x128 s)) (broadcast S128x128 0#32)
  select (andi ne rm) (subi d (broadcast S128x128 1#32)) d

/-- The mask of one doubling level: same block of `s2`, later block of `s`. -/
def lmask (v3 v4 : IVec S128x128 32) (s2 s : BitVec 32) : IVec S128x128 1 :=
  andi (cmpi .eq (fdiv v3 s2) (fdiv v4 s2)) (cmpi .sgt (fdiv v3 s) (fdiv v4 s))

/-- The part of `L` a level selects. -/
def lsel (v3 v4 : IVec S128x128 32) (s2 s : BitVec 32) (L : FVec F S128x128 .f32) : FVec F S128x128 .f32 :=
  select (lmask v3 v4 s2 s) L (broadcast S128x128 (Scalar.ofBits .f32 0x00000000#32))

/-- The high half of a split. -/
def hi {S : Shape} (x : FVec F S .f32) : FVec F S .bf16 := truncf .bf16 x bitsLt_bf16_f32
/-- The low half of a split, at the ideal instance's reading. -/
def lo {S : Shape} (x : FVec F S .f32) : FVec F S .bf16 := truncf .bf16 (subf x x) bitsLt_bf16_f32

/-- The three-product contraction of two split operands, 128 lanes. -/
def mm (a b : FVec F S128x128 .f32) : FVec F S128x128 .f32 :=
  addf (matmul dot_S128x128_S128x128_S128x128_1_0_0_1_n_n none (hi a) (hi b) (constant S128x128 .f32 0x00000000#32))
    (addf (matmul dot_S128x128_S128x128_S128x128_1_0_0_1_n_n none (lo a) (hi b) (constant S128x128 .f32 0x00000000#32))
      (matmul dot_S128x128_S128x128_S128x128_1_0_0_1_n_n none (hi a) (lo b) (constant S128x128 .f32 0x00000000#32)))

/-- The three-product contraction of two split operands, 256 lanes. -/
def mmw (a : FVec F S128x128 .f32) (b : FVec F S128x256 .f32) : FVec F S128x256 .f32 :=
  addf (matmul dot_S128x128_S128x256_S128x256_1_0_0_1_n_n none (hi a) (hi b) (constant S128x256 .f32 0x00000000#32))
    (addf (matmul dot_S128x128_S128x256_S128x256_1_0_0_1_n_n none (lo a) (hi b) (constant S128x256 .f32 0x00000000#32))
      (matmul dot_S128x128_S128x256_S128x256_1_0_0_1_n_n none (hi a) (lo b) (constant S128x256 .f32 0x00000000#32)))

/-- A bf16 operand against a split one, 256 lanes. -/
def mmq (a : FVec F S128x128 .bf16) (b : FVec F S128x256 .f32) : FVec F S128x256 .f32 :=
  addf (matmul dot_S128x128_S128x256_S128x256_1_0_0_1_n_n none a (hi b) (constant S128x256 .f32 0x00000000#32))
    (matmul dot_S128x128_S128x256_S128x256_1_0_0_1_n_n none a (lo b) (constant S128x256 .f32 0x00000000#32))

/-- A level of the doubling. -/
def level (v3 v4 : IVec S128x128 32) (s2 s : BitVec 32) (L T : FVec F S128x128 .f32) : FVec F S128x128 .f32 :=
  subf T (mm T (mm (lsel v3 v4 s2 s L) T))

/-- The unit diagonal. -/
def eyeV (v3 v4 : IVec S128x128 32) : FVec F S128x128 .f32 :=
  select (cmpi .eq v3 v4) (broadcast S128x128 (Scalar.ofBits .f32 0x3F800000#32)) (broadcast S128x128 (Scalar.ofBits .f32 0x00000000#32))

/-- The inverse of `1 + L`. -/
def triV (v3 v4 : IVec S128x128 32) (eye L : FVec F S128x128 .f32) : FVec F S128x128 .f32 :=
  level v3 v4 128#32 64#32 L (level v3 v4 64#32 32#32 L (level v3 v4 32#32 16#32 L (level v3 v4 16#32 8#32 L
    (level v3 v4 8#32 4#32 L (level v3 v4 4#32 2#32 L (subf eye (lsel v3 v4 2#32 1#32 L)))))))

/-- One lane of a plane of columns, along every row's lanes. -/
def laneV (l : BitVec 32) (x : Vec F S1x128x128 .f32) : FVec F S128x128 .f32 :=
  have i : IVec S128x128 32 := broadcast S128x128 l
  have y : IVec S128x128 32 := select (cmpi .slt i (broadcast S128x128 0#32)) (addi i (broadcast S128x128 128#32)) i
  dynamicGather 1 (shapeCast S128x128 x shapeCasts_S1x128x128_S128x128)
    (shapeCast S128x128 (shapeCast S128x128x1 y shapeCasts_S128x128_S128x128x1) shapeCasts_S128x128x1_S128x128)

/-- The chunk's strictly lower-triangular matrix. -/
def Lv (v3 v4 : IVec S128x128 32) (gs : FVec F S128x128 .f32) (kb : FVec F S128x128 .bf16) (gr sr : Vec F S1x1x1x128 .f32) :
    FVec F S128x128 .f32 :=
  mulf (matmul dot_S128x128_S128x128_S128x128_1_1_0_0_n_n none kb kb (constant S128x128 .f32 0x00000000#32))
    (mulf (exp2 (select (cmpi .sgt v3 v4) (subf gs (broadcastTo S128x128 (shapeCast S1x128 gr shapeCasts_S1x1x1x128_S1x128) broadcasts_S1x128_S128x128))
        (broadcast S128x128 (Named.named κ "mask" 0xF149F2CA#32))))
      (broadcastTo S128x128 (shapeCast S1x128 sr shapeCasts_S1x1x1x128_S1x128) broadcasts_S1x128_S128x128))

/-- The chunk's right-hand side. -/
def Rv (gs : FVec F S128x128 .f32) (kb : FVec F S128x128 .bf16) (vv : FVec F S128x256 .f32) (S0 : FVec F S128x256 .f32) : FVec F S128x256 .f32 :=
  subf vv (mulf (concatenate S128x256 1 [⟨S128x128, exp2 gs⟩, ⟨S128x128, exp2 gs⟩] concatenates_S128x128_S128x128_S128x256_d1) (mmq kb S0))

/-- The chunk's solved differences. -/
def Dv (v3 v4 : IVec S128x128 32) (eye gs : FVec F S128x128 .f32) (kb : FVec F S128x128 .bf16) (vv : FVec F S128x256 .f32) (gr sr : Vec F S1x1x1x128 .f32)
    (S0 : Vec F S1x1x1x128x256 .f32) : FVec F S128x256 .f32 :=
  mmw (triV v3 v4 eye (Lv v3 v4 gs kb gr sr)) (Rv gs kb vv (shapeCast S128x256 S0 shapeCasts_S1x1x1x128x256_S128x256))

/-- The keys, transposed and decayed to the chunk's end. -/
def ktV (kb : FVec F S128x128 .bf16) (gr sr : Vec F S1x1x1x128 .f32) : FVec F S128x128 .f32 :=
  mulf (extf .f32 (transpose S128x128 [1, 0] kb transposes_S128x128_p1_0_S128x128) bitsLt_bf16_f32)
    (broadcastTo S128x128 (mulf (exp2 (subf (broadcastTo S1x128 (extractStridedSlice S1x1 ![0, 127] (shapeCast S1x128 gr shapeCasts_S1x1x1x128_S1x128) slices_S1x128_o0_127_S1x1) broadcasts_S1x1_S1x128)
      (shapeCast S1x128 gr shapeCasts_S1x1x1x128_S1x128))) (shapeCast S1x128 sr shapeCasts_S1x1x1x128_S1x128)) broadcasts_S1x128_S128x128)

/-- The state a system stores. -/
def sysS (v3 v4 : IVec S128x128 32) (eye gs : FVec F S128x128 .f32) (kb : FVec F S128x128 .bf16) (vv : FVec F S128x256 .f32) (gr sr : Vec F S1x1x1x128 .f32)
    (S0 : Vec F S1x1x1x128x256 .f32) : FVec F S1x1x1x128x256 .f32 :=
  shapeCast S1x1x1x128x256
    (addf (mulf (broadcastTo S128x256 (exp2 (extractStridedSlice S1x1 ![0, 127] (shapeCast S1x128 gr shapeCasts_S1x1x1x128_S1x128) slices_S1x128_o0_127_S1x1)) broadcasts_S1x1_S128x256)
        (shapeCast S128x256 S0 shapeCasts_S1x1x1x128x256_S128x256))
      (mmw (ktV kb gr sr) (Dv v3 v4 eye gs kb vv gr sr S0))) shapeCasts_S128x256_S1x1x1x128x256

end Cert.KernelIdeal.Hand

end
end
-- ==== Proof.TripStores.lean ====
module

public import proofs.«01_k».proof.Proof.TripIdeal
public import proofs.«01_k».proof.Proof.SysDef

@[expose] public section

set_option maxRecDepth 65536

noncomputable section

/-! # What each store of a trip leaves, as one system's function of what the trip reads -/

namespace Cert.KernelIdeal.Hand

open Cert.KernelIdeal Cert.KernelIdeal.Gen
open Idealize.ShloMosaic Idealize.ShloMosaic.TcCoe

variable {F : FTy → Type} [FloatOps F] [Named F] [∀ e, Nonempty (Elt F e)]

/-- The head of a trip. -/
def headW (k : Fin k0_t1_loop.trips) (hh : BitVec 32) : BitVec 32 := Scalar.addi (Scalar.muli 2#32 (Scf.iv 0#32 1#32 k)) hh

/-- One head's rows of a packed block. -/
def rowsV (p : Fin 2) (x : Vec F S1x1x1x256x128 .bf16) : FVec F S128x128 .f32 :=
  extf .f32 (shapeCast S128x128 (rowsOfParity p S1x1x1x128x128 x bitcasts_S1x1x1x256x128_w16_S1x1x1x128x128_w32) shapeCasts_S1x1x1x128x128_S128x128) bitsLt_bf16_f32

/-- One head's values of a slot, both lane halves. -/
def valsV (p : Fin 2) (x y : Vec F S1x1x1x256x128 .bf16) : FVec F S128x256 .f32 :=
  concatenate S128x256 1 [⟨S128x128, rowsV p x⟩, ⟨S128x128, rowsV p y⟩] concatenates_S128x128_S128x128_S128x256_d1

/-- Whether a memory's token comes from slot 0. -/
def selV (l : BitVec 32) (x : Vec F S1x128x128 .f32) : IVec S128x128 1 :=
  cmpf .ogt (laneV l x) (broadcast S128x128 (Scalar.ofBits .f32 0x3F000000#32))

/-- The keys of a routed memory. -/
def rkV (s : IVec S128x128 1) (a b : Vec F S128x128 .f32) : FVec F S128x128 .bf16 := truncf .bf16 (select s a b) bitsLt_bf16_f32

/-- The values of a routed memory. -/
def rvV (s : IVec S128x128 1) (a b : FVec F S128x256 .f32) : FVec F S128x256 .f32 :=
  select (concatenate S128x256 1 [⟨S128x128, s⟩, ⟨S128x128, s⟩] concatenates_S128x128_S128x128_S128x256_d1) a b

/-- A store from its system's values, step by step. -/
theorem sysS_of {v3 v4 : IVec S128x128 32} {eye gs : FVec F S128x128 .f32} {kb : FVec F S128x128 .bf16} {vv : FVec F S128x256 .f32} {gr sr : Vec F S1x1x1x128 .f32}
    {S0 : Vec F S1x1x1x128x256 .f32} (L T2 T4 T8 T16 T32 T64 T128 kt : FVec F S128x128 .f32) (R D : FVec F S128x256 .f32) {st : FVec F S1x1x1x128x256 .f32}
    (hL : L = Lv v3 v4 gs kb gr sr) (h2 : T2 = subf eye (lsel v3 v4 2#32 1#32 L)) (h4 : T4 = level v3 v4 4#32 2#32 L T2)
    (h8 : T8 = level v3 v4 8#32 4#32 L T4) (h16 : T16 = level v3 v4 16#32 8#32 L T8) (h32 : T32 = level v3 v4 32#32 16#32 L T16)
    (h64 : T64 = level v3 v4 64#32 32#32 L T32) (h128 : T128 = level v3 v4 128#32 64#32 L T64)
    (hR : R = Rv gs kb vv (shapeCast S128x256 S0 shapeCasts_S1x1x1x128x256_S128x256)) (hD : D = mmw T128 R) (hk : kt = ktV kb gr sr)
    (hs : st = shapeCast S1x1x1x128x256
      (addf (mulf (broadcastTo S128x256 (exp2 (extractStridedSlice S1x1 ![0, 127] (shapeCast S1x128 gr shapeCasts_S1x1x1x128_S1x128) slices_S1x128_o0_127_S1x1)) broadcasts_S1x1_S128x256)
          (shapeCast S128x256 S0 shapeCasts_S1x1x1x128x256_S128x256)) (mmw kt D)) shapeCasts_S128x256_S1x1x1x128x256) :
    st = sysS v3 v4 eye gs kb vv gr sr S0 := by
  subst hL h2 h4 h8 h16 h32 h64 h128 hR hD hk hs
  rfl

/-- The store of memory 4 for head 0 of the pair. -/
theorem store_0_4 (c : Dev nD) (arg14 : Memref sig .tc .vmem S1x5x8x128x256 .f32) (arg15 : Memref sig .tc .vmem S3072x128 .f32)
    (arg17 : Memref sig .tc .vmem S4x3x2x256x128 .bf16) (arg18 : Memref sig .tc .vmem S2x5x8x128 .f32) (arg19 : Memref sig .tc .vmem S2x128x128 .f32)
    (v3 v4 : IVec S128x128 32)
    (k : Fin k0_t1_loop.trips) (f14 : Buf (Elt F) (arg14.view.loc (c : Thread nD τ)))
    (f15 : Buf (Elt F) (arg15.view.loc (c : Thread nD τ))) (f17 : Buf (Elt F) (arg17.view.loc (c : Thread nD τ)))
    (f18 : Buf (Elt F) (arg18.view.loc (c : Thread nD τ))) (f19 : Buf (Elt F) (arg19.view.loc (c : Thread nD τ))) :
    trip.sl.v1623 c arg14 arg15 arg17 arg18 arg19 v3 v4 k f14 f15 f17 f18 f19
      = sysS v3 v4 (k0_pay1098 v3 v4) (laneV (Scalar.addi 32#32 (headW k 0#32)) (View.readAt (Elt F) arg19.view (Rect.unit (s := S2x128x128) ![1, 0, 0] S1x128x128.size inb_S2x128x128_S1x128x128_1_0_0).toLoadRect f19))
        (truncf .bf16 (View.readAt (Elt F) arg15.view (⟨k0_off8 k 16#32 0#32, S128x128.size, ![24, 1], (k0_off8_inb k 2 0)⟩ : LoadRect S3072x128) f15) bitsLt_bf16_f32)
        (valsV 0 (View.readAt (Elt F) arg17.view (Rect.unit (s := S4x3x2x256x128) (k0_off6 k) S1x1x1x256x128.size (k0_off6_inb k)).toLoadRect f17) (View.readAt (Elt F) arg17.view (Rect.unit (s := S4x3x2x256x128) (k0_off7 k) S1x1x1x256x128.size (k0_off7_inb k)).toLoadRect f17))
        (View.readAt (Elt F) arg18.view (Rect.unit (s := S2x5x8x128) (k0_off9 k 0#32) S1x1x1x128.size (k0_off9_inb k 0)).toLoadRect f18)
        (View.readAt (Elt F) arg18.view (Rect.unit (s := S2x5x8x128) (k0_off10 k 0#32) S1x1x1x128.size (k0_off10_inb k 0)).toLoadRect f18)
        (View.readAt (Elt F) arg14.view (Rect.unit (s := S1x5x8x128x256) (k0_off11 k 0#32) S1x1x1x128x256.size (k0_off11_inb k 0)).toLoadRect f14) :=
  sysS_of (trip.sl.r_7 c arg15 arg18 arg19 v3 v4 k f15 f18 f19) (trip.sl.v802 c arg15 arg18 arg19 v3 v4 k f15 f18 f19) (trip.sl.v926 c arg15 arg18 arg19 v3 v4 k f15 f18 f19) (trip.sl.v1050 c arg15 arg18 arg19 v3 v4 k f15 f18 f19) (trip.sl.v1174 c arg15 arg18 arg19 v3 v4 k f15 f18 f19) (trip.sl.v1298 c arg15 arg18 arg19 v3 v4 k f15 f18 f19) (trip.sl.v1422 c arg15 arg18 arg19 v3 v4 k f15 f18 f19) (trip.sl.v1546 c arg15 arg18 arg19 v3 v4 k f15 f18 f19) (trip.sl.v1602 c arg15 arg18 k f15 f18) (trip.sl.v1560 c arg14 arg15 arg17 arg19 k f14 f15 f17 f19) (trip.sl.v1573 c arg14 arg15 arg17 arg18 arg19 v3 v4 k f14 f15 f17 f18 f19)
    rfl rfl rfl rfl rfl rfl rfl rfl rfl rfl rfl rfl

/-- The store of memory 0 for head 0 of the pair. -/
theorem store_0_0 (c : Dev nD) (arg14 : Memref sig .tc .vmem S1x5x8x128x256 .f32) (arg15 : Memref sig .tc .vmem S3072x128 .f32)
    (arg17 : Memref sig .tc .vmem S4x3x2x256x128 .bf16) (arg18 : Memref sig .tc .vmem S2x5x8x128 .f32) (arg19 : Memref sig .tc .vmem S2x128x128 .f32)
    (v3 v4 : IVec S128x128 32)
    (k : Fin k0_t1_loop.trips) (f14 : Buf (Elt F) (arg14.view.loc (c : Thread nD τ)))
    (f15 : Buf (Elt F) (arg15.view.loc (c : Thread nD τ))) (f17 : Buf (Elt F) (arg17.view.loc (c : Thread nD τ)))
    (f18 : Buf (Elt F) (arg18.view.loc (c : Thread nD τ))) (f19 : Buf (Elt F) (arg19.view.loc (c : Thread nD τ))) :
    trip.sl.v2627 c arg14 arg15 arg17 arg18 arg19 v3 v4 k f14 f15 f17 f18 f19
      = sysS v3 v4 (k0_pay1098 v3 v4) (laneV (Scalar.addi 0#32 (headW k 0#32)) (View.readAt (Elt F) arg19.view (Rect.unit (s := S2x128x128) ![1, 0, 0] S1x128x128.size inb_S2x128x128_S1x128x128_1_0_0).toLoadRect f19))
        (rkV (selV (Scalar.addi 40#32 (headW k 0#32)) (View.readAt (Elt F) arg19.view (Rect.unit (s := S2x128x128) ![1, 0, 0] S1x128x128.size inb_S2x128x128_S1x128x128_1_0_0).toLoadRect f19)) (View.readAt (Elt F) arg15.view (⟨k0_off8 k 0#32 0#32, S128x128.size, ![24, 1], (k0_off8_inb k 0 0)⟩ : LoadRect S3072x128) f15) (View.readAt (Elt F) arg15.view (⟨k0_off8 k 8#32 0#32, S128x128.size, ![24, 1], (k0_off8_inb k 1 0)⟩ : LoadRect S3072x128) f15))
        (rvV (selV (Scalar.addi 40#32 (headW k 0#32)) (View.readAt (Elt F) arg19.view (Rect.unit (s := S2x128x128) ![1, 0, 0] S1x128x128.size inb_S2x128x128_S1x128x128_1_0_0).toLoadRect f19)) (valsV 0 (View.readAt (Elt F) arg17.view (Rect.unit (s := S4x3x2x256x128) (k0_off2 k) S1x1x1x256x128.size (k0_off2_inb k)).toLoadRect f17) (View.readAt (Elt F) arg17.view (Rect.unit (s := S4x3x2x256x128) (k0_off3 k) S1x1x1x256x128.size (k0_off3_inb k)).toLoadRect f17)) (valsV 0 (View.readAt (Elt F) arg17.view (Rect.unit (s := S4x3x2x256x128) (k0_off4 k) S1x1x1x256x128.size (k0_off4_inb k)).toLoadRect f17) (View.readAt (Elt F) arg17.view (Rect.unit (s := S4x3x2x256x128) (k0_off5 k) S1x1x1x256x128.size (k0_off5_inb k)).toLoadRect f17)))
        (View.readAt (Elt F) arg18.view (Rect.unit (s := S2x5x8x128) (k0_off12 k 0#32) S1x1x1x128.size (k0_off12_inb k 0)).toLoadRect f18)
        (View.readAt (Elt F) arg18.view (Rect.unit (s := S2x5x8x128) (k0_off13 k 0#32) S1x1x1x128.size (k0_off13_inb k 0)).toLoadRect f18)
        (View.readAt (Elt F) arg14.view (Rect.unit (s := S1x5x8x128x256) (k0_off14 k 0#32) S1x1x1x128x256.size (k0_off14_inb k 0)).toLoadRect f14) :=
  sysS_of (trip.sl.r_19 c arg15 arg18 arg19 v3 v4 k f15 f18 f19) (trip.sl.v1806 c arg15 arg18 arg19 v3 v4 k f15 f18 f19) (trip.sl.v1930 c arg15 arg18 arg19 v3 v4 k f15 f18 f19) (trip.sl.v2054 c arg15 arg18 arg19 v3 v4 k f15 f18 f19) (trip.sl.v2178 c arg15 arg18 arg19 v3 v4 k f15 f18 f19) (trip.sl.v2302 c arg15 arg18 arg19 v3 v4 k f15 f18 f19) (trip.sl.v2426 c arg15 arg18 arg19 v3 v4 k f15 f18 f19) (trip.sl.v2550 c arg15 arg18 arg19 v3 v4 k f15 f18 f19) (trip.sl.v2606 c arg15 arg18 arg19 k f15 f18 f19) (trip.sl.v2564 c arg14 arg15 arg17 arg19 k f14 f15 f17 f19) (trip.sl.v2577 c arg14 arg15 arg17 arg18 arg19 v3 v4 k f14 f15 f17 f18 f19)
    rfl rfl rfl rfl rfl rfl rfl rfl rfl rfl rfl rfl

/-- The store of memory 1 for head 0 of the pair. -/
theorem store_0_1 (c : Dev nD) (arg14 : Memref sig .tc .vmem S1x5x8x128x256 .f32) (arg15 : Memref sig .tc .vmem S3072x128 .f32)
    (arg17 : Memref sig .tc .vmem S4x3x2x256x128 .bf16) (arg18 : Memref sig .tc .vmem S2x5x8x128 .f32) (arg19 : Memref sig .tc .vmem S2x128x128 .f32)
    (v3 v4 : IVec S128x128 32)
    (k : Fin k0_t1_loop.trips) (f14 : Buf (Elt F) (arg14.view.loc (c : Thread nD τ)))
    (f15 : Buf (Elt F) (arg15.view.loc (c : Thread nD τ))) (f17 : Buf (Elt F) (arg17.view.loc (c : Thread nD τ)))
    (f18 : Buf (Elt F) (arg18.view.loc (c : Thread nD τ))) (f19 : Buf (Elt F) (arg19.view.loc (c : Thread nD τ))) :
    trip.sl.v3632 c arg14 arg15 arg17 arg18 arg19 v3 v4 k f14 f15 f17 f18 f19
      = sysS v3 v4 (k0_pay1098 v3 v4) (laneV (Scalar.addi 8#32 (headW k 0#32)) (View.readAt (Elt F) arg19.view (Rect.unit (s := S2x128x128) ![1, 0, 0] S1x128x128.size inb_S2x128x128_S1x128x128_1_0_0).toLoadRect f19))
        (rkV (selV (Scalar.addi 48#32 (headW k 0#32)) (View.readAt (Elt F) arg19.view (Rect.unit (s := S2x128x128) ![1, 0, 0] S1x128x128.size inb_S2x128x128_S1x128x128_1_0_0).toLoadRect f19)) (View.readAt (Elt F) arg15.view (⟨k0_off8 k 0#32 0#32, S128x128.size, ![24, 1], (k0_off8_inb k 0 0)⟩ : LoadRect S3072x128) f15) (View.readAt (Elt F) arg15.view (⟨k0_off8 k 8#32 0#32, S128x128.size, ![24, 1], (k0_off8_inb k 1 0)⟩ : LoadRect S3072x128) f15))
        (rvV (selV (Scalar.addi 48#32 (headW k 0#32)) (View.readAt (Elt F) arg19.view (Rect.unit (s := S2x128x128) ![1, 0, 0] S1x128x128.size inb_S2x128x128_S1x128x128_1_0_0).toLoadRect f19)) (valsV 0 (View.readAt (Elt F) arg17.view (Rect.unit (s := S4x3x2x256x128) (k0_off2 k) S1x1x1x256x128.size (k0_off2_inb k)).toLoadRect f17) (View.readAt (Elt F) arg17.view (Rect.unit (s := S4x3x2x256x128) (k0_off3 k) S1x1x1x256x128.size (k0_off3_inb k)).toLoadRect f17)) (valsV 0 (View.readAt (Elt F) arg17.view (Rect.unit (s := S4x3x2x256x128) (k0_off4 k) S1x1x1x256x128.size (k0_off4_inb k)).toLoadRect f17) (View.readAt (Elt F) arg17.view (Rect.unit (s := S4x3x2x256x128) (k0_off5 k) S1x1x1x256x128.size (k0_off5_inb k)).toLoadRect f17)))
        (View.readAt (Elt F) arg18.view (Rect.unit (s := S2x5x8x128) (k0_off15 k 0#32) S1x1x1x128.size (k0_off15_inb k 0)).toLoadRect f18)
        (View.readAt (Elt F) arg18.view (Rect.unit (s := S2x5x8x128) (k0_off16 k 0#32) S1x1x1x128.size (k0_off16_inb k 0)).toLoadRect f18)
        (View.readAt (Elt F) arg14.view (Rect.unit (s := S1x5x8x128x256) (k0_off17 k 0#32) S1x1x1x128x256.size (k0_off17_inb k 0)).toLoadRect f14) :=
  sysS_of (trip.sl.r_26 c arg15 arg18 arg19 v3 v4 k f15 f18 f19) (trip.sl.v2811 c arg15 arg18 arg19 v3 v4 k f15 f18 f19) (trip.sl.v2935 c arg15 arg18 arg19 v3 v4 k f15 f18 f19) (trip.sl.v3059 c arg15 arg18 arg19 v3 v4 k f15 f18 f19) (trip.sl.v3183 c arg15 arg18 arg19 v3 v4 k f15 f18 f19) (trip.sl.v3307 c arg15 arg18 arg19 v3 v4 k f15 f18 f19) (trip.sl.v3431 c arg15 arg18 arg19 v3 v4 k f15 f18 f19) (trip.sl.v3555 c arg15 arg18 arg19 v3 v4 k f15 f18 f19) (trip.sl.v3611 c arg15 arg18 arg19 k f15 f18 f19) (trip.sl.v3569 c arg14 arg15 arg17 arg19 k f14 f15 f17 f19) (trip.sl.v3582 c arg14 arg15 arg17 arg18 arg19 v3 v4 k f14 f15 f17 f18 f19)
    rfl rfl rfl rfl rfl rfl rfl rfl rfl rfl rfl rfl

/-- The store of memory 2 for head 0 of the pair. -/
theorem store_0_2 (c : Dev nD) (arg14 : Memref sig .tc .vmem S1x5x8x128x256 .f32) (arg15 : Memref sig .tc .vmem S3072x128 .f32)
    (arg17 : Memref sig .tc .vmem S4x3x2x256x128 .bf16) (arg18 : Memref sig .tc .vmem S2x5x8x128 .f32) (arg19 : Memref sig .tc .vmem S2x128x128 .f32)
    (v3 v4 : IVec S128x128 32)
    (k : Fin k0_t1_loop.trips) (f14 : Buf (Elt F) (arg14.view.loc (c : Thread nD τ)))
    (f15 : Buf (Elt F) (arg15.view.loc (c : Thread nD τ))) (f17 : Buf (Elt F) (arg17.view.loc (c : Thread nD τ)))
    (f18 : Buf (Elt F) (arg18.view.loc (c : Thread nD τ))) (f19 : Buf (Elt F) (arg19.view.loc (c : Thread nD τ))) :
    trip.sl.v4637 c arg14 arg15 arg17 arg18 arg19 v3 v4 k f14 f15 f17 f18 f19
      = sysS v3 v4 (k0_pay1098 v3 v4) (laneV (Scalar.addi 16#32 (headW k 0#32)) (View.readAt (Elt F) arg19.view (Rect.unit (s := S2x128x128) ![1, 0, 0] S1x128x128.size inb_S2x128x128_S1x128x128_1_0_0).toLoadRect f19))
        (rkV (selV (Scalar.addi 56#32 (headW k 0#32)) (View.readAt (Elt F) arg19.view (Rect.unit (s := S2x128x128) ![1, 0, 0] S1x128x128.size inb_S2x128x128_S1x128x128_1_0_0).toLoadRect f19)) (View.readAt (Elt F) arg15.view (⟨k0_off8 k 0#32 0#32, S128x128.size, ![24, 1], (k0_off8_inb k 0 0)⟩ : LoadRect S3072x128) f15) (View.readAt (Elt F) arg15.view (⟨k0_off8 k 8#32 0#32, S128x128.size, ![24, 1], (k0_off8_inb k 1 0)⟩ : LoadRect S3072x128) f15))
        (rvV (selV (Scalar.addi 56#32 (headW k 0#32)) (View.readAt (Elt F) arg19.view (Rect.unit (s := S2x128x128) ![1, 0, 0] S1x128x128.size inb_S2x128x128_S1x128x128_1_0_0).toLoadRect f19)) (valsV 0 (View.readAt (Elt F) arg17.view (Rect.unit (s := S4x3x2x256x128) (k0_off2 k) S1x1x1x256x128.size (k0_off2_inb k)).toLoadRect f17) (View.readAt (Elt F) arg17.view (Rect.unit (s := S4x3x2x256x128) (k0_off3 k) S1x1x1x256x128.size (k0_off3_inb k)).toLoadRect f17)) (valsV 0 (View.readAt (Elt F) arg17.view (Rect.unit (s := S4x3x2x256x128) (k0_off4 k) S1x1x1x256x128.size (k0_off4_inb k)).toLoadRect f17) (View.readAt (Elt F) arg17.view (Rect.unit (s := S4x3x2x256x128) (k0_off5 k) S1x1x1x256x128.size (k0_off5_inb k)).toLoadRect f17)))
        (View.readAt (Elt F) arg18.view (Rect.unit (s := S2x5x8x128) (k0_off18 k 0#32) S1x1x1x128.size (k0_off18_inb k 0)).toLoadRect f18)
        (View.readAt (Elt F) arg18.view (Rect.unit (s := S2x5x8x128) (k0_off19 k 0#32) S1x1x1x128.size (k0_off19_inb k 0)).toLoadRect f18)
        (View.readAt (Elt F) arg14.view (Rect.unit (s := S1x5x8x128x256) (k0_off20 k 0#32) S1x1x1x128x256.size (k0_off20_inb k 0)).toLoadRect f14) :=
  sysS_of (trip.sl.r_31 c arg15 arg18 arg19 v3 v4 k f15 f18 f19) (trip.sl.v3816 c arg15 arg18 arg19 v3 v4 k f15 f18 f19) (trip.sl.v3940 c arg15 arg18 arg19 v3 v4 k f15 f18 f19) (trip.sl.v4064 c arg15 arg18 arg19 v3 v4 k f15 f18 f19) (trip.sl.v4188 c arg15 arg18 arg19 v3 v4 k f15 f18 f19) (trip.sl.v4312 c arg15 arg18 arg19 v3 v4 k f15 f18 f19) (trip.sl.v4436 c arg15 arg18 arg19 v3 v4 k f15 f18 f19) (trip.sl.v4560 c arg15 arg18 arg19 v3 v4 k f15 f18 f19) (trip.sl.v4616 c arg15 arg18 arg19 k f15 f18 f19) (trip.sl.v4574 c arg14 arg15 arg17 arg19 k f14 f15 f17 f19) (trip.sl.v4587 c arg14 arg15 arg17 arg18 arg19 v3 v4 k f14 f15 f17 f18 f19)
    rfl rfl rfl rfl rfl rfl rfl rfl rfl rfl rfl rfl

/-- The store of memory 3 for head 0 of the pair. -/
theorem store_0_3 (c : Dev nD) (arg14 : Memref sig .tc .vmem S1x5x8x128x256 .f32) (arg15 : Memref sig .tc .vmem S3072x128 .f32)
    (arg17 : Memref sig .tc .vmem S4x3x2x256x128 .bf16) (arg18 : Memref sig .tc .vmem S2x5x8x128 .f32) (arg19 : Memref sig .tc .vmem S2x128x128 .f32)
    (v3 v4 : IVec S128x128 32)
    (k : Fin k0_t1_loop.trips) (f14 : Buf (Elt F) (arg14.view.loc (c : Thread nD τ)))
    (f15 : Buf (Elt F) (arg15.view.loc (c : Thread nD τ))) (f17 : Buf (Elt F) (arg17.view.loc (c : Thread nD τ)))
    (f18 : Buf (Elt F) (arg18.view.loc (c : Thread nD τ))) (f19 : Buf (Elt F) (arg19.view.loc (c : Thread nD τ))) :
    trip.sl.v5642 c arg14 arg15 arg17 arg18 arg19 v3 v4 k f14 f15 f17 f18 f19
      = sysS v3 v4 (k0_pay1098 v3 v4) (laneV (Scalar.addi 24#32 (headW k 0#32)) (View.readAt (Elt F) arg19.view (Rect.unit (s := S2x128x128) ![1, 0, 0] S1x128x128.size inb_S2x128x128_S1x128x128_1_0_0).toLoadRect f19))
        (rkV (selV (Scalar.addi 64#32 (headW k 0#32)) (View.readAt (Elt F) arg19.view (Rect.unit (s := S2x128x128) ![1, 0, 0] S1x128x128.size inb_S2x128x128_S1x128x128_1_0_0).toLoadRect f19)) (View.readAt (Elt F) arg15.view (⟨k0_off8 k 0#32 0#32, S128x128.size, ![24, 1], (k0_off8_inb k 0 0)⟩ : LoadRect S3072x128) f15) (View.readAt (Elt F) arg15.view (⟨k0_off8 k 8#32 0#32, S128x128.size, ![24, 1], (k0_off8_inb k 1 0)⟩ : LoadRect S3072x128) f15))
        (rvV (selV (Scalar.addi 64#32 (headW k 0#32)) (View.readAt (Elt F) arg19.view (Rect.unit (s := S2x128x128) ![1, 0, 0] S1x128x128.size inb_S2x128x128_S1x128x128_1_0_0).toLoadRect f19)) (valsV 0 (View.readAt (Elt F) arg17.view (Rect.unit (s := S4x3x2x256x128) (k0_off2 k) S1x1x1x256x128.size (k0_off2_inb k)).toLoadRect f17) (View.readAt (Elt F) arg17.view (Rect.unit (s := S4x3x2x256x128) (k0_off3 k) S1x1x1x256x128.size (k0_off3_inb k)).toLoadRect f17)) (valsV 0 (View.readAt (Elt F) arg17.view (Rect.unit (s := S4x3x2x256x128) (k0_off4 k) S1x1x1x256x128.size (k0_off4_inb k)).toLoadRect f17) (View.readAt (Elt F) arg17.view (Rect.unit (s := S4x3x2x256x128) (k0_off5 k) S1x1x1x256x128.size (k0_off5_inb k)).toLoadRect f17)))
        (View.readAt (Elt F) arg18.view (Rect.unit (s := S2x5x8x128) (k0_off21 k 0#32) S1x1x1x128.size (k0_off21_inb k 0)).toLoadRect f18)
        (View.readAt (Elt F) arg18.view (Rect.unit (s := S2x5x8x128) (k0_off22 k 0#32) S1x1x1x128.size (k0_off22_inb k 0)).toLoadRect f18)
        (View.readAt (Elt F) arg14.view (Rect.unit (s := S1x5x8x128x256) (k0_off23 k 0#32) S1x1x1x128x256.size (k0_off23_inb k 0)).toLoadRect f14) :=
  sysS_of (trip.sl.r_42 c arg15 arg18 arg19 v3 v4 k f15 f18 f19) (trip.sl.v4821 c arg15 arg18 arg19 v3 v4 k f15 f18 f19) (trip.sl.v4945 c arg15 arg18 arg19 v3 v4 k f15 f18 f19) (trip.sl.v5069 c arg15 arg18 arg19 v3 v4 k f15 f18 f19) (trip.sl.v5193 c arg15 arg18 arg19 v3 v4 k f15 f18 f19) (trip.sl.v5317 c arg15 arg18 arg19 v3 v4 k f15 f18 f19) (trip.sl.v5441 c arg15 arg18 arg19 v3 v4 k f15 f18 f19) (trip.sl.v5565 c arg15 arg18 arg19 v3 v4 k f15 f18 f19) (trip.sl.v5621 c arg15 arg18 arg19 k f15 f18 f19) (trip.sl.v5579 c arg14 arg15 arg17 arg19 k f14 f15 f17 f19) (trip.sl.v5592 c arg14 arg15 arg17 arg18 arg19 v3 v4 k f14 f15 f17 f18 f19)
    rfl rfl rfl rfl rfl rfl rfl rfl rfl rfl rfl rfl

/-- The store of memory 4 for head 1 of the pair. -/
theorem store_1_4 (c : Dev nD) (arg14 : Memref sig .tc .vmem S1x5x8x128x256 .f32) (arg15 : Memref sig .tc .vmem S3072x128 .f32)
    (arg17 : Memref sig .tc .vmem S4x3x2x256x128 .bf16) (arg18 : Memref sig .tc .vmem S2x5x8x128 .f32) (arg19 : Memref sig .tc .vmem S2x128x128 .f32)
    (v3 v4 : IVec S128x128 32)
    (k : Fin k0_t1_loop.trips) (f14 : Buf (Elt F) (arg14.view.loc (c : Thread nD τ)))
    (f15 : Buf (Elt F) (arg15.view.loc (c : Thread nD τ))) (f17 : Buf (Elt F) (arg17.view.loc (c : Thread nD τ)))
    (f18 : Buf (Elt F) (arg18.view.loc (c : Thread nD τ))) (f19 : Buf (Elt F) (arg19.view.loc (c : Thread nD τ))) :
    trip.sl.v6666 c arg14 arg15 arg17 arg18 arg19 v3 v4 k f14 f15 f17 f18 f19
      = sysS v3 v4 (k0_pay1098 v3 v4) (laneV (Scalar.addi 32#32 (headW k 1#32)) (View.readAt (Elt F) arg19.view (Rect.unit (s := S2x128x128) ![1, 0, 0] S1x128x128.size inb_S2x128x128_S1x128x128_1_0_0).toLoadRect f19))
        (truncf .bf16 (View.readAt (Elt F) arg15.view (⟨k0_off8 k 16#32 1#32, S128x128.size, ![24, 1], (k0_off8_inb k 2 1)⟩ : LoadRect S3072x128) f15) bitsLt_bf16_f32)
        (valsV 1 (View.readAt (Elt F) arg17.view (Rect.unit (s := S4x3x2x256x128) (k0_off6 k) S1x1x1x256x128.size (k0_off6_inb k)).toLoadRect f17) (View.readAt (Elt F) arg17.view (Rect.unit (s := S4x3x2x256x128) (k0_off7 k) S1x1x1x256x128.size (k0_off7_inb k)).toLoadRect f17))
        (View.readAt (Elt F) arg18.view (Rect.unit (s := S2x5x8x128) (k0_off9 k 1#32) S1x1x1x128.size (k0_off9_inb k 1)).toLoadRect f18)
        (View.readAt (Elt F) arg18.view (Rect.unit (s := S2x5x8x128) (k0_off10 k 1#32) S1x1x1x128.size (k0_off10_inb k 1)).toLoadRect f18)
        (View.readAt (Elt F) arg14.view (Rect.unit (s := S1x5x8x128x256) (k0_off11 k 1#32) S1x1x1x128x256.size (k0_off11_inb k 1)).toLoadRect f14) :=
  sysS_of (trip.sl.r_57 c arg15 arg18 arg19 v3 v4 k f15 f18 f19) (trip.sl.v5845 c arg15 arg18 arg19 v3 v4 k f15 f18 f19) (trip.sl.v5969 c arg15 arg18 arg19 v3 v4 k f15 f18 f19) (trip.sl.v6093 c arg15 arg18 arg19 v3 v4 k f15 f18 f19) (trip.sl.v6217 c arg15 arg18 arg19 v3 v4 k f15 f18 f19) (trip.sl.v6341 c arg15 arg18 arg19 v3 v4 k f15 f18 f19) (trip.sl.v6465 c arg15 arg18 arg19 v3 v4 k f15 f18 f19) (trip.sl.v6589 c arg15 arg18 arg19 v3 v4 k f15 f18 f19) (trip.sl.v6645 c arg15 arg18 k f15 f18) (trip.sl.v6603 c arg14 arg15 arg17 arg19 k f14 f15 f17 f19) (trip.sl.v6616 c arg14 arg15 arg17 arg18 arg19 v3 v4 k f14 f15 f17 f18 f19)
    rfl rfl rfl rfl rfl rfl rfl rfl rfl rfl rfl rfl

/-- The store of memory 0 for head 1 of the pair. -/
theorem store_1_0 (c : Dev nD) (arg14 : Memref sig .tc .vmem S1x5x8x128x256 .f32) (arg15 : Memref sig .tc .vmem S3072x128 .f32)
    (arg17 : Memref sig .tc .vmem S4x3x2x256x128 .bf16) (arg18 : Memref sig .tc .vmem S2x5x8x128 .f32) (arg19 : Memref sig .tc .vmem S2x128x128 .f32)
    (v3 v4 : IVec S128x128 32)
    (k : Fin k0_t1_loop.trips) (f14 : Buf (Elt F) (arg14.view.loc (c : Thread nD τ)))
    (f15 : Buf (Elt F) (arg15.view.loc (c : Thread nD τ))) (f17 : Buf (Elt F) (arg17.view.loc (c : Thread nD τ)))
    (f18 : Buf (Elt F) (arg18.view.loc (c : Thread nD τ))) (f19 : Buf (Elt F) (arg19.view.loc (c : Thread nD τ))) :
    trip.sl.v7670 c arg14 arg15 arg17 arg18 arg19 v3 v4 k f14 f15 f17 f18 f19
      = sysS v3 v4 (k0_pay1098 v3 v4) (laneV (Scalar.addi 0#32 (headW k 1#32)) (View.readAt (Elt F) arg19.view (Rect.unit (s := S2x128x128) ![1, 0, 0] S1x128x128.size inb_S2x128x128_S1x128x128_1_0_0).toLoadRect f19))
        (rkV (selV (Scalar.addi 40#32 (headW k 1#32)) (View.readAt (Elt F) arg19.view (Rect.unit (s := S2x128x128) ![1, 0, 0] S1x128x128.size inb_S2x128x128_S1x128x128_1_0_0).toLoadRect f19)) (View.readAt (Elt F) arg15.view (⟨k0_off8 k 0#32 1#32, S128x128.size, ![24, 1], (k0_off8_inb k 0 1)⟩ : LoadRect S3072x128) f15) (View.readAt (Elt F) arg15.view (⟨k0_off8 k 8#32 1#32, S128x128.size, ![24, 1], (k0_off8_inb k 1 1)⟩ : LoadRect S3072x128) f15))
        (rvV (selV (Scalar.addi 40#32 (headW k 1#32)) (View.readAt (Elt F) arg19.view (Rect.unit (s := S2x128x128) ![1, 0, 0] S1x128x128.size inb_S2x128x128_S1x128x128_1_0_0).toLoadRect f19)) (valsV 1 (View.readAt (Elt F) arg17.view (Rect.unit (s := S4x3x2x256x128) (k0_off2 k) S1x1x1x256x128.size (k0_off2_inb k)).toLoadRect f17) (View.readAt (Elt F) arg17.view (Rect.unit (s := S4x3x2x256x128) (k0_off3 k) S1x1x1x256x128.size (k0_off3_inb k)).toLoadRect f17)) (valsV 1 (View.readAt (Elt F) arg17.view (Rect.unit (s := S4x3x2x256x128) (k0_off4 k) S1x1x1x256x128.size (k0_off4_inb k)).toLoadRect f17) (View.readAt (Elt F) arg17.view (Rect.unit (s := S4x3x2x256x128) (k0_off5 k) S1x1x1x256x128.size (k0_off5_inb k)).toLoadRect f17)))
        (View.readAt (Elt F) arg18.view (Rect.unit (s := S2x5x8x128) (k0_off12 k 1#32) S1x1x1x128.size (k0_off12_inb k 1)).toLoadRect f18)
        (View.readAt (Elt F) arg18.view (Rect.unit (s := S2x5x8x128) (k0_off13 k 1#32) S1x1x1x128.size (k0_off13_inb k 1)).toLoadRect f18)
        (View.readAt (Elt F) arg14.view (Rect.unit (s := S1x5x8x128x256) (k0_off14 k 1#32) S1x1x1x128x256.size (k0_off14_inb k 1)).toLoadRect f14) :=
  sysS_of (trip.sl.r_64 c arg15 arg18 arg19 v3 v4 k f15 f18 f19) (trip.sl.v6849 c arg15 arg18 arg19 v3 v4 k f15 f18 f19) (trip.sl.v6973 c arg15 arg18 arg19 v3 v4 k f15 f18 f19) (trip.sl.v7097 c arg15 arg18 arg19 v3 v4 k f15 f18 f19) (trip.sl.v7221 c arg15 arg18 arg19 v3 v4 k f15 f18 f19) (trip.sl.v7345 c arg15 arg18 arg19 v3 v4 k f15 f18 f19) (trip.sl.v7469 c arg15 arg18 arg19 v3 v4 k f15 f18 f19) (trip.sl.v7593 c arg15 arg18 arg19 v3 v4 k f15 f18 f19) (trip.sl.v7649 c arg15 arg18 arg19 k f15 f18 f19) (trip.sl.v7607 c arg14 arg15 arg17 arg19 k f14 f15 f17 f19) (trip.sl.v7620 c arg14 arg15 arg17 arg18 arg19 v3 v4 k f14 f15 f17 f18 f19)
    rfl rfl rfl rfl rfl rfl rfl rfl rfl rfl rfl rfl

/-- The store of memory 1 for head 1 of the pair. -/
theorem store_1_1 (c : Dev nD) (arg14 : Memref sig .tc .vmem S1x5x8x128x256 .f32) (arg15 : Memref sig .tc .vmem S3072x128 .f32)
    (arg17 : Memref sig .tc .vmem S4x3x2x256x128 .bf16) (arg18 : Memref sig .tc .vmem S2x5x8x128 .f32) (arg19 : Memref sig .tc .vmem S2x128x128 .f32)
    (v3 v4 : IVec S128x128 32)
    (k : Fin k0_t1_loop.trips) (f14 : Buf (Elt F) (arg14.view.loc (c : Thread nD τ)))
    (f15 : Buf (Elt F) (arg15.view.loc (c : Thread nD τ))) (f17 : Buf (Elt F) (arg17.view.loc (c : Thread nD τ)))
    (f18 : Buf (Elt F) (arg18.view.loc (c : Thread nD τ))) (f19 : Buf (Elt F) (arg19.view.loc (c : Thread nD τ))) :
    trip.sl.v8675 c arg14 arg15 arg17 arg18 arg19 v3 v4 k f14 f15 f17 f18 f19
      = sysS v3 v4 (k0_pay1098 v3 v4) (laneV (Scalar.addi 8#32 (headW k 1#32)) (View.readAt (Elt F) arg19.view (Rect.unit (s := S2x128x128) ![1, 0, 0] S1x128x128.size inb_S2x128x128_S1x128x128_1_0_0).toLoadRect f19))
        (rkV (selV (Scalar.addi 48#32 (headW k 1#32)) (View.readAt (Elt F) arg19.view (Rect.unit (s := S2x128x128) ![1, 0, 0] S1x128x128.size inb_S2x128x128_S1x128x128_1_0_0).toLoadRect f19)) (View.readAt (Elt F) arg15.view (⟨k0_off8 k 0#32 1#32, S128x128.size, ![24, 1], (k0_off8_inb k 0 1)⟩ : LoadRect S3072x128) f15) (View.readAt (Elt F) arg15.view (⟨k0_off8 k 8#32 1#32, S128x128.size, ![24, 1], (k0_off8_inb k 1 1)⟩ : LoadRect S3072x128) f15))
        (rvV (selV (Scalar.addi 48#32 (headW k 1#32)) (View.readAt (Elt F) arg19.view (Rect.unit (s := S2x128x128) ![1, 0, 0] S1x128x128.size inb_S2x128x128_S1x128x128_1_0_0).toLoadRect f19)) (valsV 1 (View.readAt (Elt F) arg17.view (Rect.unit (s := S4x3x2x256x128) (k0_off2 k) S1x1x1x256x128.size (k0_off2_inb k)).toLoadRect f17) (View.readAt (Elt F) arg17.view (Rect.unit (s := S4x3x2x256x128) (k0_off3 k) S1x1x1x256x128.size (k0_off3_inb k)).toLoadRect f17)) (valsV 1 (View.readAt (Elt F) arg17.view (Rect.unit (s := S4x3x2x256x128) (k0_off4 k) S1x1x1x256x128.size (k0_off4_inb k)).toLoadRect f17) (View.readAt (Elt F) arg17.view (Rect.unit (s := S4x3x2x256x128) (k0_off5 k) S1x1x1x256x128.size (k0_off5_inb k)).toLoadRect f17)))
        (View.readAt (Elt F) arg18.view (Rect.unit (s := S2x5x8x128) (k0_off15 k 1#32) S1x1x1x128.size (k0_off15_inb k 1)).toLoadRect f18)
        (View.readAt (Elt F) arg18.view (Rect.unit (s := S2x5x8x128) (k0_off16 k 1#32) S1x1x1x128.size (k0_off16_inb k 1)).toLoadRect f18)
        (View.readAt (Elt F) arg14.view (Rect.unit (s := S1x5x8x128x256) (k0_off17 k 1#32) S1x1x1x128x256.size (k0_off17_inb k 1)).toLoadRect f14) :=
  sysS_of (trip.sl.r_69 c arg15 arg18 arg19 v3 v4 k f15 f18 f19) (trip.sl.v7854 c arg15 arg18 arg19 v3 v4 k f15 f18 f19) (trip.sl.v7978 c arg15 arg18 arg19 v3 v4 k f15 f18 f19) (trip.sl.v8102 c arg15 arg18 arg19 v3 v4 k f15 f18 f19) (trip.sl.v8226 c arg15 arg18 arg19 v3 v4 k f15 f18 f19) (trip.sl.v8350 c arg15 arg18 arg19 v3 v4 k f15 f18 f19) (trip.sl.v8474 c arg15 arg18 arg19 v3 v4 k f15 f18 f19) (trip.sl.v8598 c arg15 arg18 arg19 v3 v4 k f15 f18 f19) (trip.sl.v8654 c arg15 arg18 arg19 k f15 f18 f19) (trip.sl.v8612 c arg14 arg15 arg17 arg19 k f14 f15 f17 f19) (trip.sl.v8625 c arg14 arg15 arg17 arg18 arg19 v3 v4 k f14 f15 f17 f18 f19)
    rfl rfl rfl rfl rfl rfl rfl rfl rfl rfl rfl rfl

/-- The store of memory 2 for head 1 of the pair. -/
theorem store_1_2 (c : Dev nD) (arg14 : Memref sig .tc .vmem S1x5x8x128x256 .f32) (arg15 : Memref sig .tc .vmem S3072x128 .f32)
    (arg17 : Memref sig .tc .vmem S4x3x2x256x128 .bf16) (arg18 : Memref sig .tc .vmem S2x5x8x128 .f32) (arg19 : Memref sig .tc .vmem S2x128x128 .f32)
    (v3 v4 : IVec S128x128 32)
    (k : Fin k0_t1_loop.trips) (f14 : Buf (Elt F) (arg14.view.loc (c : Thread nD τ)))
    (f15 : Buf (Elt F) (arg15.view.loc (c : Thread nD τ))) (f17 : Buf (Elt F) (arg17.view.loc (c : Thread nD τ)))
    (f18 : Buf (Elt F) (arg18.view.loc (c : Thread nD τ))) (f19 : Buf (Elt F) (arg19.view.loc (c : Thread nD τ))) :
    trip.sl.v9680 c arg14 arg15 arg17 arg18 arg19 v3 v4 k f14 f15 f17 f18 f19
      = sysS v3 v4 (k0_pay1098 v3 v4) (laneV (Scalar.addi 16#32 (headW k 1#32)) (View.readAt (Elt F) arg19.view (Rect.unit (s := S2x128x128) ![1, 0, 0] S1x128x128.size inb_S2x128x128_S1x128x128_1_0_0).toLoadRect f19))
        (rkV (selV (Scalar.addi 56#32 (headW k 1#32)) (View.readAt (Elt F) arg19.view (Rect.unit (s := S2x128x128) ![1, 0, 0] S1x128x128.size inb_S2x128x128_S1x128x128_1_0_0).toLoadRect f19)) (View.readAt (Elt F) arg15.view (⟨k0_off8 k 0#32 1#32, S128x128.size, ![24, 1], (k0_off8_inb k 0 1)⟩ : LoadRect S3072x128) f15) (View.readAt (Elt F) arg15.view (⟨k0_off8 k 8#32 1#32, S128x128.size, ![24, 1], (k0_off8_inb k 1 1)⟩ : LoadRect S3072x128) f15))
        (rvV (selV (Scalar.addi 56#32 (headW k 1#32)) (View.readAt (Elt F) arg19.view (Rect.unit (s := S2x128x128) ![1, 0, 0] S1x128x128.size inb_S2x128x128_S1x128x128_1_0_0).toLoadRect f19)) (valsV 1 (View.readAt (Elt F) arg17.view (Rect.unit (s := S4x3x2x256x128) (k0_off2 k) S1x1x1x256x128.size (k0_off2_inb k)).toLoadRect f17) (View.readAt (Elt F) arg17.view (Rect.unit (s := S4x3x2x256x128) (k0_off3 k) S1x1x1x256x128.size (k0_off3_inb k)).toLoadRect f17)) (valsV 1 (View.readAt (Elt F) arg17.view (Rect.unit (s := S4x3x2x256x128) (k0_off4 k) S1x1x1x256x128.size (k0_off4_inb k)).toLoadRect f17) (View.readAt (Elt F) arg17.view (Rect.unit (s := S4x3x2x256x128) (k0_off5 k) S1x1x1x256x128.size (k0_off5_inb k)).toLoadRect f17)))
        (View.readAt (Elt F) arg18.view (Rect.unit (s := S2x5x8x128) (k0_off18 k 1#32) S1x1x1x128.size (k0_off18_inb k 1)).toLoadRect f18)
        (View.readAt (Elt F) arg18.view (Rect.unit (s := S2x5x8x128) (k0_off19 k 1#32) S1x1x1x128.size (k0_off19_inb k 1)).toLoadRect f18)
        (View.readAt (Elt F) arg14.view (Rect.unit (s := S1x5x8x128x256) (k0_off20 k 1#32) S1x1x1x128x256.size (k0_off20_inb k 1)).toLoadRect f14) :=
  sysS_of (trip.sl.r_71 c arg15 arg18 arg19 v3 v4 k f15 f18 f19) (trip.sl.v8859 c arg15 arg18 arg19 v3 v4 k f15 f18 f19) (trip.sl.v8983 c arg15 arg18 arg19 v3 v4 k f15 f18 f19) (trip.sl.v9107 c arg15 arg18 arg19 v3 v4 k f15 f18 f19) (trip.sl.v9231 c arg15 arg18 arg19 v3 v4 k f15 f18 f19) (trip.sl.v9355 c arg15 arg18 arg19 v3 v4 k f15 f18 f19) (trip.sl.v9479 c arg15 arg18 arg19 v3 v4 k f15 f18 f19) (trip.sl.v9603 c arg15 arg18 arg19 v3 v4 k f15 f18 f19) (trip.sl.v9659 c arg15 arg18 arg19 k f15 f18 f19) (trip.sl.v9617 c arg14 arg15 arg17 arg19 k f14 f15 f17 f19) (trip.sl.v9630 c arg14 arg15 arg17 arg18 arg19 v3 v4 k f14 f15 f17 f18 f19)
    rfl rfl rfl rfl rfl rfl rfl rfl rfl rfl rfl rfl

/-- The store of memory 3 for head 1 of the pair. -/
theorem store_1_3 (c : Dev nD) (arg14 : Memref sig .tc .vmem S1x5x8x128x256 .f32) (arg15 : Memref sig .tc .vmem S3072x128 .f32)
    (arg17 : Memref sig .tc .vmem S4x3x2x256x128 .bf16) (arg18 : Memref sig .tc .vmem S2x5x8x128 .f32) (arg19 : Memref sig .tc .vmem S2x128x128 .f32)
    (v3 v4 : IVec S128x128 32)
    (k : Fin k0_t1_loop.trips) (f14 : Buf (Elt F) (arg14.view.loc (c : Thread nD τ)))
    (f15 : Buf (Elt F) (arg15.view.loc (c : Thread nD τ))) (f17 : Buf (Elt F) (arg17.view.loc (c : Thread nD τ)))
    (f18 : Buf (Elt F) (arg18.view.loc (c : Thread nD τ))) (f19 : Buf (Elt F) (arg19.view.loc (c : Thread nD τ))) :
    trip.sl.v10685 c arg14 arg15 arg17 arg18 arg19 v3 v4 k f14 f15 f17 f18 f19
      = sysS v3 v4 (k0_pay1098 v3 v4) (laneV (Scalar.addi 24#32 (headW k 1#32)) (View.readAt (Elt F) arg19.view (Rect.unit (s := S2x128x128) ![1, 0, 0] S1x128x128.size inb_S2x128x128_S1x128x128_1_0_0).toLoadRect f19))
        (rkV (selV (Scalar.addi 64#32 (headW k 1#32)) (View.readAt (Elt F) arg19.view (Rect.unit (s := S2x128x128) ![1, 0, 0] S1x128x128.size inb_S2x128x128_S1x128x128_1_0_0).toLoadRect f19)) (View.readAt (Elt F) arg15.view (⟨k0_off8 k 0#32 1#32, S128x128.size, ![24, 1], (k0_off8_inb k 0 1)⟩ : LoadRect S3072x128) f15) (View.readAt (Elt F) arg15.view (⟨k0_off8 k 8#32 1#32, S128x128.size, ![24, 1], (k0_off8_inb k 1 1)⟩ : LoadRect S3072x128) f15))
        (rvV (selV (Scalar.addi 64#32 (headW k 1#32)) (View.readAt (Elt F) arg19.view (Rect.unit (s := S2x128x128) ![1, 0, 0] S1x128x128.size inb_S2x128x128_S1x128x128_1_0_0).toLoadRect f19)) (valsV 1 (View.readAt (Elt F) arg17.view (Rect.unit (s := S4x3x2x256x128) (k0_off2 k) S1x1x1x256x128.size (k0_off2_inb k)).toLoadRect f17) (View.readAt (Elt F) arg17.view (Rect.unit (s := S4x3x2x256x128) (k0_off3 k) S1x1x1x256x128.size (k0_off3_inb k)).toLoadRect f17)) (valsV 1 (View.readAt (Elt F) arg17.view (Rect.unit (s := S4x3x2x256x128) (k0_off4 k) S1x1x1x256x128.size (k0_off4_inb k)).toLoadRect f17) (View.readAt (Elt F) arg17.view (Rect.unit (s := S4x3x2x256x128) (k0_off5 k) S1x1x1x256x128.size (k0_off5_inb k)).toLoadRect f17)))
        (View.readAt (Elt F) arg18.view (Rect.unit (s := S2x5x8x128) (k0_off21 k 1#32) S1x1x1x128.size (k0_off21_inb k 1)).toLoadRect f18)
        (View.readAt (Elt F) arg18.view (Rect.unit (s := S2x5x8x128) (k0_off22 k 1#32) S1x1x1x128.size (k0_off22_inb k 1)).toLoadRect f18)
        (View.readAt (Elt F) arg14.view (Rect.unit (s := S1x5x8x128x256) (k0_off23 k 1#32) S1x1x1x128x256.size (k0_off23_inb k 1)).toLoadRect f14) :=
  sysS_of (trip.sl.r_78 c arg15 arg18 arg19 v3 v4 k f15 f18 f19) (trip.sl.v9864 c arg15 arg18 arg19 v3 v4 k f15 f18 f19) (trip.sl.v9988 c arg15 arg18 arg19 v3 v4 k f15 f18 f19) (trip.sl.v10112 c arg15 arg18 arg19 v3 v4 k f15 f18 f19) (trip.sl.v10236 c arg15 arg18 arg19 v3 v4 k f15 f18 f19) (trip.sl.v10360 c arg15 arg18 arg19 v3 v4 k f15 f18 f19) (trip.sl.v10484 c arg15 arg18 arg19 v3 v4 k f15 f18 f19) (trip.sl.v10608 c arg15 arg18 arg19 v3 v4 k f15 f18 f19) (trip.sl.v10664 c arg15 arg18 arg19 k f15 f18 f19) (trip.sl.v10622 c arg14 arg15 arg17 arg19 k f14 f15 f17 f19) (trip.sl.v10635 c arg14 arg15 arg17 arg18 arg19 v3 v4 k f14 f15 f17 f18 f19)
    rfl rfl rfl rfl rfl rfl rfl rfl rfl rfl rfl rfl

/-- The ten stores of a trip, the newest first. -/
def tripL (c : Dev nD) (arg14 : Memref sig .tc .vmem S1x5x8x128x256 .f32) (arg15 : Memref sig .tc .vmem S3072x128 .f32)
    (arg17 : Memref sig .tc .vmem S4x3x2x256x128 .bf16) (arg18 : Memref sig .tc .vmem S2x5x8x128 .f32) (arg19 : Memref sig .tc .vmem S2x128x128 .f32)
    (v3 v4 : IVec S128x128 32)
    (k : Fin k0_t1_loop.trips) (f14 : Buf (Elt F) (arg14.view.loc (c : Thread nD τ)))
    (f15 : Buf (Elt F) (arg15.view.loc (c : Thread nD τ))) (f17 : Buf (Elt F) (arg17.view.loc (c : Thread nD τ)))
    (f18 : Buf (Elt F) (arg18.view.loc (c : Thread nD τ))) (f19 : Buf (Elt F) (arg19.view.loc (c : Thread nD τ))) : List (View.Piece (Elt F) S1x5x8x128x256 .f32) :=
  [⟨Rect.unit (s := S1x5x8x128x256) (k0_off23 k 1#32) S1x1x1x128x256.size (k0_off23_inb k 1),
      sysS v3 v4 (k0_pay1098 v3 v4) (laneV (Scalar.addi 24#32 (headW k 1#32)) (View.readAt (Elt F) arg19.view (Rect.unit (s := S2x128x128) ![1, 0, 0] S1x128x128.size inb_S2x128x128_S1x128x128_1_0_0).toLoadRect f19))
        (rkV (selV (Scalar.addi 64#32 (headW k 1#32)) (View.readAt (Elt F) arg19.view (Rect.unit (s := S2x128x128) ![1, 0, 0] S1x128x128.size inb_S2x128x128_S1x128x128_1_0_0).toLoadRect f19)) (View.readAt (Elt F) arg15.view (⟨k0_off8 k 0#32 1#32, S128x128.size, ![24, 1], (k0_off8_inb k 0 1)⟩ : LoadRect S3072x128) f15) (View.readAt (Elt F) arg15.view (⟨k0_off8 k 8#32 1#32, S128x128.size, ![24, 1], (k0_off8_inb k 1 1)⟩ : LoadRect S3072x128) f15))
        (rvV (selV (Scalar.addi 64#32 (headW k 1#32)) (View.readAt (Elt F) arg19.view (Rect.unit (s := S2x128x128) ![1, 0, 0] S1x128x128.size inb_S2x128x128_S1x128x128_1_0_0).toLoadRect f19)) (valsV 1 (View.readAt (Elt F) arg17.view (Rect.unit (s := S4x3x2x256x128) (k0_off2 k) S1x1x1x256x128.size (k0_off2_inb k)).toLoadRect f17) (View.readAt (Elt F) arg17.view (Rect.unit (s := S4x3x2x256x128) (k0_off3 k) S1x1x1x256x128.size (k0_off3_inb k)).toLoadRect f17)) (valsV 1 (View.readAt (Elt F) arg17.view (Rect.unit (s := S4x3x2x256x128) (k0_off4 k) S1x1x1x256x128.size (k0_off4_inb k)).toLoadRect f17) (View.readAt (Elt F) arg17.view (Rect.unit (s := S4x3x2x256x128) (k0_off5 k) S1x1x1x256x128.size (k0_off5_inb k)).toLoadRect f17)))
        (View.readAt (Elt F) arg18.view (Rect.unit (s := S2x5x8x128) (k0_off21 k 1#32) S1x1x1x128.size (k0_off21_inb k 1)).toLoadRect f18)
        (View.readAt (Elt F) arg18.view (Rect.unit (s := S2x5x8x128) (k0_off22 k 1#32) S1x1x1x128.size (k0_off22_inb k 1)).toLoadRect f18)
        (View.readAt (Elt F) arg14.view (Rect.unit (s := S1x5x8x128x256) (k0_off23 k 1#32) S1x1x1x128x256.size (k0_off23_inb k 1)).toLoadRect f14)⟩,
   ⟨Rect.unit (s := S1x5x8x128x256) (k0_off20 k 1#32) S1x1x1x128x256.size (k0_off20_inb k 1),
      sysS v3 v4 (k0_pay1098 v3 v4) (laneV (Scalar.addi 16#32 (headW k 1#32)) (View.readAt (Elt F) arg19.view (Rect.unit (s := S2x128x128) ![1, 0, 0] S1x128x128.size inb_S2x128x128_S1x128x128_1_0_0).toLoadRect f19))
        (rkV (selV (Scalar.addi 56#32 (headW k 1#32)) (View.readAt (Elt F) arg19.view (Rect.unit (s := S2x128x128) ![1, 0, 0] S1x128x128.size inb_S2x128x128_S1x128x128_1_0_0).toLoadRect f19)) (View.readAt (Elt F) arg15.view (⟨k0_off8 k 0#32 1#32, S128x128.size, ![24, 1], (k0_off8_inb k 0 1)⟩ : LoadRect S3072x128) f15) (View.readAt (Elt F) arg15.view (⟨k0_off8 k 8#32 1#32, S128x128.size, ![24, 1], (k0_off8_inb k 1 1)⟩ : LoadRect S3072x128) f15))
        (rvV (selV (Scalar.addi 56#32 (headW k 1#32)) (View.readAt (Elt F) arg19.view (Rect.unit (s := S2x128x128) ![1, 0, 0] S1x128x128.size inb_S2x128x128_S1x128x128_1_0_0).toLoadRect f19)) (valsV 1 (View.readAt (Elt F) arg17.view (Rect.unit (s := S4x3x2x256x128) (k0_off2 k) S1x1x1x256x128.size (k0_off2_inb k)).toLoadRect f17) (View.readAt (Elt F) arg17.view (Rect.unit (s := S4x3x2x256x128) (k0_off3 k) S1x1x1x256x128.size (k0_off3_inb k)).toLoadRect f17)) (valsV 1 (View.readAt (Elt F) arg17.view (Rect.unit (s := S4x3x2x256x128) (k0_off4 k) S1x1x1x256x128.size (k0_off4_inb k)).toLoadRect f17) (View.readAt (Elt F) arg17.view (Rect.unit (s := S4x3x2x256x128) (k0_off5 k) S1x1x1x256x128.size (k0_off5_inb k)).toLoadRect f17)))
        (View.readAt (Elt F) arg18.view (Rect.unit (s := S2x5x8x128) (k0_off18 k 1#32) S1x1x1x128.size (k0_off18_inb k 1)).toLoadRect f18)
        (View.readAt (Elt F) arg18.view (Rect.unit (s := S2x5x8x128) (k0_off19 k 1#32) S1x1x1x128.size (k0_off19_inb k 1)).toLoadRect f18)
        (View.readAt (Elt F) arg14.view (Rect.unit (s := S1x5x8x128x256) (k0_off20 k 1#32) S1x1x1x128x256.size (k0_off20_inb k 1)).toLoadRect f14)⟩,
   ⟨Rect.unit (s := S1x5x8x128x256) (k0_off17 k 1#32) S1x1x1x128x256.size (k0_off17_inb k 1),
      sysS v3 v4 (k0_pay1098 v3 v4) (laneV (Scalar.addi 8#32 (headW k 1#32)) (View.readAt (Elt F) arg19.view (Rect.unit (s := S2x128x128) ![1, 0, 0] S1x128x128.size inb_S2x128x128_S1x128x128_1_0_0).toLoadRect f19))
        (rkV (selV (Scalar.addi 48#32 (headW k 1#32)) (View.readAt (Elt F) arg19.view (Rect.unit (s := S2x128x128) ![1, 0, 0] S1x128x128.size inb_S2x128x128_S1x128x128_1_0_0).toLoadRect f19)) (View.readAt (Elt F) arg15.view (⟨k0_off8 k 0#32 1#32, S128x128.size, ![24, 1], (k0_off8_inb k 0 1)⟩ : LoadRect S3072x128) f15) (View.readAt (Elt F) arg15.view (⟨k0_off8 k 8#32 1#32, S128x128.size, ![24, 1], (k0_off8_inb k 1 1)⟩ : LoadRect S3072x128) f15))
        (rvV (selV (Scalar.addi 48#32 (headW k 1#32)) (View.readAt (Elt F) arg19.view (Rect.unit (s := S2x128x128) ![1, 0, 0] S1x128x128.size inb_S2x128x128_S1x128x128_1_0_0).toLoadRect f19)) (valsV 1 (View.readAt (Elt F) arg17.view (Rect.unit (s := S4x3x2x256x128) (k0_off2 k) S1x1x1x256x128.size (k0_off2_inb k)).toLoadRect f17) (View.readAt (Elt F) arg17.view (Rect.unit (s := S4x3x2x256x128) (k0_off3 k) S1x1x1x256x128.size (k0_off3_inb k)).toLoadRect f17)) (valsV 1 (View.readAt (Elt F) arg17.view (Rect.unit (s := S4x3x2x256x128) (k0_off4 k) S1x1x1x256x128.size (k0_off4_inb k)).toLoadRect f17) (View.readAt (Elt F) arg17.view (Rect.unit (s := S4x3x2x256x128) (k0_off5 k) S1x1x1x256x128.size (k0_off5_inb k)).toLoadRect f17)))
        (View.readAt (Elt F) arg18.view (Rect.unit (s := S2x5x8x128) (k0_off15 k 1#32) S1x1x1x128.size (k0_off15_inb k 1)).toLoadRect f18)
        (View.readAt (Elt F) arg18.view (Rect.unit (s := S2x5x8x128) (k0_off16 k 1#32) S1x1x1x128.size (k0_off16_inb k 1)).toLoadRect f18)
        (View.readAt (Elt F) arg14.view (Rect.unit (s := S1x5x8x128x256) (k0_off17 k 1#32) S1x1x1x128x256.size (k0_off17_inb k 1)).toLoadRect f14)⟩,
   ⟨Rect.unit (s := S1x5x8x128x256) (k0_off14 k 1#32) S1x1x1x128x256.size (k0_off14_inb k 1),
      sysS v3 v4 (k0_pay1098 v3 v4) (laneV (Scalar.addi 0#32 (headW k 1#32)) (View.readAt (Elt F) arg19.view (Rect.unit (s := S2x128x128) ![1, 0, 0] S1x128x128.size inb_S2x128x128_S1x128x128_1_0_0).toLoadRect f19))
        (rkV (selV (Scalar.addi 40#32 (headW k 1#32)) (View.readAt (Elt F) arg19.view (Rect.unit (s := S2x128x128) ![1, 0, 0] S1x128x128.size inb_S2x128x128_S1x128x128_1_0_0).toLoadRect f19)) (View.readAt (Elt F) arg15.view (⟨k0_off8 k 0#32 1#32, S128x128.size, ![24, 1], (k0_off8_inb k 0 1)⟩ : LoadRect S3072x128) f15) (View.readAt (Elt F) arg15.view (⟨k0_off8 k 8#32 1#32, S128x128.size, ![24, 1], (k0_off8_inb k 1 1)⟩ : LoadRect S3072x128) f15))
        (rvV (selV (Scalar.addi 40#32 (headW k 1#32)) (View.readAt (Elt F) arg19.view (Rect.unit (s := S2x128x128) ![1, 0, 0] S1x128x128.size inb_S2x128x128_S1x128x128_1_0_0).toLoadRect f19)) (valsV 1 (View.readAt (Elt F) arg17.view (Rect.unit (s := S4x3x2x256x128) (k0_off2 k) S1x1x1x256x128.size (k0_off2_inb k)).toLoadRect f17) (View.readAt (Elt F) arg17.view (Rect.unit (s := S4x3x2x256x128) (k0_off3 k) S1x1x1x256x128.size (k0_off3_inb k)).toLoadRect f17)) (valsV 1 (View.readAt (Elt F) arg17.view (Rect.unit (s := S4x3x2x256x128) (k0_off4 k) S1x1x1x256x128.size (k0_off4_inb k)).toLoadRect f17) (View.readAt (Elt F) arg17.view (Rect.unit (s := S4x3x2x256x128) (k0_off5 k) S1x1x1x256x128.size (k0_off5_inb k)).toLoadRect f17)))
        (View.readAt (Elt F) arg18.view (Rect.unit (s := S2x5x8x128) (k0_off12 k 1#32) S1x1x1x128.size (k0_off12_inb k 1)).toLoadRect f18)
        (View.readAt (Elt F) arg18.view (Rect.unit (s := S2x5x8x128) (k0_off13 k 1#32) S1x1x1x128.size (k0_off13_inb k 1)).toLoadRect f18)
        (View.readAt (Elt F) arg14.view (Rect.unit (s := S1x5x8x128x256) (k0_off14 k 1#32) S1x1x1x128x256.size (k0_off14_inb k 1)).toLoadRect f14)⟩,
   ⟨Rect.unit (s := S1x5x8x128x256) (k0_off11 k 1#32) S1x1x1x128x256.size (k0_off11_inb k 1),
      sysS v3 v4 (k0_pay1098 v3 v4) (laneV (Scalar.addi 32#32 (headW k 1#32)) (View.readAt (Elt F) arg19.view (Rect.unit (s := S2x128x128) ![1, 0, 0] S1x128x128.size inb_S2x128x128_S1x128x128_1_0_0).toLoadRect f19))
        (truncf .bf16 (View.readAt (Elt F) arg15.view (⟨k0_off8 k 16#32 1#32, S128x128.size, ![24, 1], (k0_off8_inb k 2 1)⟩ : LoadRect S3072x128) f15) bitsLt_bf16_f32)
        (valsV 1 (View.readAt (Elt F) arg17.view (Rect.unit (s := S4x3x2x256x128) (k0_off6 k) S1x1x1x256x128.size (k0_off6_inb k)).toLoadRect f17) (View.readAt (Elt F) arg17.view (Rect.unit (s := S4x3x2x256x128) (k0_off7 k) S1x1x1x256x128.size (k0_off7_inb k)).toLoadRect f17))
        (View.readAt (Elt F) arg18.view (Rect.unit (s := S2x5x8x128) (k0_off9 k 1#32) S1x1x1x128.size (k0_off9_inb k 1)).toLoadRect f18)
        (View.readAt (Elt F) arg18.view (Rect.unit (s := S2x5x8x128) (k0_off10 k 1#32) S1x1x1x128.size (k0_off10_inb k 1)).toLoadRect f18)
        (View.readAt (Elt F) arg14.view (Rect.unit (s := S1x5x8x128x256) (k0_off11 k 1#32) S1x1x1x128x256.size (k0_off11_inb k 1)).toLoadRect f14)⟩,
   ⟨Rect.unit (s := S1x5x8x128x256) (k0_off23 k 0#32) S1x1x1x128x256.size (k0_off23_inb k 0),
      sysS v3 v4 (k0_pay1098 v3 v4) (laneV (Scalar.addi 24#32 (headW k 0#32)) (View.readAt (Elt F) arg19.view (Rect.unit (s := S2x128x128) ![1, 0, 0] S1x128x128.size inb_S2x128x128_S1x128x128_1_0_0).toLoadRect f19))
        (rkV (selV (Scalar.addi 64#32 (headW k 0#32)) (View.readAt (Elt F) arg19.view (Rect.unit (s := S2x128x128) ![1, 0, 0] S1x128x128.size inb_S2x128x128_S1x128x128_1_0_0).toLoadRect f19)) (View.readAt (Elt F) arg15.view (⟨k0_off8 k 0#32 0#32, S128x128.size, ![24, 1], (k0_off8_inb k 0 0)⟩ : LoadRect S3072x128) f15) (View.readAt (Elt F) arg15.view (⟨k0_off8 k 8#32 0#32, S128x128.size, ![24, 1], (k0_off8_inb k 1 0)⟩ : LoadRect S3072x128) f15))
        (rvV (selV (Scalar.addi 64#32 (headW k 0#32)) (View.readAt (Elt F) arg19.view (Rect.unit (s := S2x128x128) ![1, 0, 0] S1x128x128.size inb_S2x128x128_S1x128x128_1_0_0).toLoadRect f19)) (valsV 0 (View.readAt (Elt F) arg17.view (Rect.unit (s := S4x3x2x256x128) (k0_off2 k) S1x1x1x256x128.size (k0_off2_inb k)).toLoadRect f17) (View.readAt (Elt F) arg17.view (Rect.unit (s := S4x3x2x256x128) (k0_off3 k) S1x1x1x256x128.size (k0_off3_inb k)).toLoadRect f17)) (valsV 0 (View.readAt (Elt F) arg17.view (Rect.unit (s := S4x3x2x256x128) (k0_off4 k) S1x1x1x256x128.size (k0_off4_inb k)).toLoadRect f17) (View.readAt (Elt F) arg17.view (Rect.unit (s := S4x3x2x256x128) (k0_off5 k) S1x1x1x256x128.size (k0_off5_inb k)).toLoadRect f17)))
        (View.readAt (Elt F) arg18.view (Rect.unit (s := S2x5x8x128) (k0_off21 k 0#32) S1x1x1x128.size (k0_off21_inb k 0)).toLoadRect f18)
        (View.readAt (Elt F) arg18.view (Rect.unit (s := S2x5x8x128) (k0_off22 k 0#32) S1x1x1x128.size (k0_off22_inb k 0)).toLoadRect f18)
        (View.readAt (Elt F) arg14.view (Rect.unit (s := S1x5x8x128x256) (k0_off23 k 0#32) S1x1x1x128x256.size (k0_off23_inb k 0)).toLoadRect f14)⟩,
   ⟨Rect.unit (s := S1x5x8x128x256) (k0_off20 k 0#32) S1x1x1x128x256.size (k0_off20_inb k 0),
      sysS v3 v4 (k0_pay1098 v3 v4) (laneV (Scalar.addi 16#32 (headW k 0#32)) (View.readAt (Elt F) arg19.view (Rect.unit (s := S2x128x128) ![1, 0, 0] S1x128x128.size inb_S2x128x128_S1x128x128_1_0_0).toLoadRect f19))
        (rkV (selV (Scalar.addi 56#32 (headW k 0#32)) (View.readAt (Elt F) arg19.view (Rect.unit (s := S2x128x128) ![1, 0, 0] S1x128x128.size inb_S2x128x128_S1x128x128_1_0_0).toLoadRect f19)) (View.readAt (Elt F) arg15.view (⟨k0_off8 k 0#32 0#32, S128x128.size, ![24, 1], (k0_off8_inb k 0 0)⟩ : LoadRect S3072x128) f15) (View.readAt (Elt F) arg15.view (⟨k0_off8 k 8#32 0#32, S128x128.size, ![24, 1], (k0_off8_inb k 1 0)⟩ : LoadRect S3072x128) f15))
        (rvV (selV (Scalar.addi 56#32 (headW k 0#32)) (View.readAt (Elt F) arg19.view (Rect.unit (s := S2x128x128) ![1, 0, 0] S1x128x128.size inb_S2x128x128_S1x128x128_1_0_0).toLoadRect f19)) (valsV 0 (View.readAt (Elt F) arg17.view (Rect.unit (s := S4x3x2x256x128) (k0_off2 k) S1x1x1x256x128.size (k0_off2_inb k)).toLoadRect f17) (View.readAt (Elt F) arg17.view (Rect.unit (s := S4x3x2x256x128) (k0_off3 k) S1x1x1x256x128.size (k0_off3_inb k)).toLoadRect f17)) (valsV 0 (View.readAt (Elt F) arg17.view (Rect.unit (s := S4x3x2x256x128) (k0_off4 k) S1x1x1x256x128.size (k0_off4_inb k)).toLoadRect f17) (View.readAt (Elt F) arg17.view (Rect.unit (s := S4x3x2x256x128) (k0_off5 k) S1x1x1x256x128.size (k0_off5_inb k)).toLoadRect f17)))
        (View.readAt (Elt F) arg18.view (Rect.unit (s := S2x5x8x128) (k0_off18 k 0#32) S1x1x1x128.size (k0_off18_inb k 0)).toLoadRect f18)
        (View.readAt (Elt F) arg18.view (Rect.unit (s := S2x5x8x128) (k0_off19 k 0#32) S1x1x1x128.size (k0_off19_inb k 0)).toLoadRect f18)
        (View.readAt (Elt F) arg14.view (Rect.unit (s := S1x5x8x128x256) (k0_off20 k 0#32) S1x1x1x128x256.size (k0_off20_inb k 0)).toLoadRect f14)⟩,
   ⟨Rect.unit (s := S1x5x8x128x256) (k0_off17 k 0#32) S1x1x1x128x256.size (k0_off17_inb k 0),
      sysS v3 v4 (k0_pay1098 v3 v4) (laneV (Scalar.addi 8#32 (headW k 0#32)) (View.readAt (Elt F) arg19.view (Rect.unit (s := S2x128x128) ![1, 0, 0] S1x128x128.size inb_S2x128x128_S1x128x128_1_0_0).toLoadRect f19))
        (rkV (selV (Scalar.addi 48#32 (headW k 0#32)) (View.readAt (Elt F) arg19.view (Rect.unit (s := S2x128x128) ![1, 0, 0] S1x128x128.size inb_S2x128x128_S1x128x128_1_0_0).toLoadRect f19)) (View.readAt (Elt F) arg15.view (⟨k0_off8 k 0#32 0#32, S128x128.size, ![24, 1], (k0_off8_inb k 0 0)⟩ : LoadRect S3072x128) f15) (View.readAt (Elt F) arg15.view (⟨k0_off8 k 8#32 0#32, S128x128.size, ![24, 1], (k0_off8_inb k 1 0)⟩ : LoadRect S3072x128) f15))
        (rvV (selV (Scalar.addi 48#32 (headW k 0#32)) (View.readAt (Elt F) arg19.view (Rect.unit (s := S2x128x128) ![1, 0, 0] S1x128x128.size inb_S2x128x128_S1x128x128_1_0_0).toLoadRect f19)) (valsV 0 (View.readAt (Elt F) arg17.view (Rect.unit (s := S4x3x2x256x128) (k0_off2 k) S1x1x1x256x128.size (k0_off2_inb k)).toLoadRect f17) (View.readAt (Elt F) arg17.view (Rect.unit (s := S4x3x2x256x128) (k0_off3 k) S1x1x1x256x128.size (k0_off3_inb k)).toLoadRect f17)) (valsV 0 (View.readAt (Elt F) arg17.view (Rect.unit (s := S4x3x2x256x128) (k0_off4 k) S1x1x1x256x128.size (k0_off4_inb k)).toLoadRect f17) (View.readAt (Elt F) arg17.view (Rect.unit (s := S4x3x2x256x128) (k0_off5 k) S1x1x1x256x128.size (k0_off5_inb k)).toLoadRect f17)))
        (View.readAt (Elt F) arg18.view (Rect.unit (s := S2x5x8x128) (k0_off15 k 0#32) S1x1x1x128.size (k0_off15_inb k 0)).toLoadRect f18)
        (View.readAt (Elt F) arg18.view (Rect.unit (s := S2x5x8x128) (k0_off16 k 0#32) S1x1x1x128.size (k0_off16_inb k 0)).toLoadRect f18)
        (View.readAt (Elt F) arg14.view (Rect.unit (s := S1x5x8x128x256) (k0_off17 k 0#32) S1x1x1x128x256.size (k0_off17_inb k 0)).toLoadRect f14)⟩,
   ⟨Rect.unit (s := S1x5x8x128x256) (k0_off14 k 0#32) S1x1x1x128x256.size (k0_off14_inb k 0),
      sysS v3 v4 (k0_pay1098 v3 v4) (laneV (Scalar.addi 0#32 (headW k 0#32)) (View.readAt (Elt F) arg19.view (Rect.unit (s := S2x128x128) ![1, 0, 0] S1x128x128.size inb_S2x128x128_S1x128x128_1_0_0).toLoadRect f19))
        (rkV (selV (Scalar.addi 40#32 (headW k 0#32)) (View.readAt (Elt F) arg19.view (Rect.unit (s := S2x128x128) ![1, 0, 0] S1x128x128.size inb_S2x128x128_S1x128x128_1_0_0).toLoadRect f19)) (View.readAt (Elt F) arg15.view (⟨k0_off8 k 0#32 0#32, S128x128.size, ![24, 1], (k0_off8_inb k 0 0)⟩ : LoadRect S3072x128) f15) (View.readAt (Elt F) arg15.view (⟨k0_off8 k 8#32 0#32, S128x128.size, ![24, 1], (k0_off8_inb k 1 0)⟩ : LoadRect S3072x128) f15))
        (rvV (selV (Scalar.addi 40#32 (headW k 0#32)) (View.readAt (Elt F) arg19.view (Rect.unit (s := S2x128x128) ![1, 0, 0] S1x128x128.size inb_S2x128x128_S1x128x128_1_0_0).toLoadRect f19)) (valsV 0 (View.readAt (Elt F) arg17.view (Rect.unit (s := S4x3x2x256x128) (k0_off2 k) S1x1x1x256x128.size (k0_off2_inb k)).toLoadRect f17) (View.readAt (Elt F) arg17.view (Rect.unit (s := S4x3x2x256x128) (k0_off3 k) S1x1x1x256x128.size (k0_off3_inb k)).toLoadRect f17)) (valsV 0 (View.readAt (Elt F) arg17.view (Rect.unit (s := S4x3x2x256x128) (k0_off4 k) S1x1x1x256x128.size (k0_off4_inb k)).toLoadRect f17) (View.readAt (Elt F) arg17.view (Rect.unit (s := S4x3x2x256x128) (k0_off5 k) S1x1x1x256x128.size (k0_off5_inb k)).toLoadRect f17)))
        (View.readAt (Elt F) arg18.view (Rect.unit (s := S2x5x8x128) (k0_off12 k 0#32) S1x1x1x128.size (k0_off12_inb k 0)).toLoadRect f18)
        (View.readAt (Elt F) arg18.view (Rect.unit (s := S2x5x8x128) (k0_off13 k 0#32) S1x1x1x128.size (k0_off13_inb k 0)).toLoadRect f18)
        (View.readAt (Elt F) arg14.view (Rect.unit (s := S1x5x8x128x256) (k0_off14 k 0#32) S1x1x1x128x256.size (k0_off14_inb k 0)).toLoadRect f14)⟩,
   ⟨Rect.unit (s := S1x5x8x128x256) (k0_off11 k 0#32) S1x1x1x128x256.size (k0_off11_inb k 0),
      sysS v3 v4 (k0_pay1098 v3 v4) (laneV (Scalar.addi 32#32 (headW k 0#32)) (View.readAt (Elt F) arg19.view (Rect.unit (s := S2x128x128) ![1, 0, 0] S1x128x128.size inb_S2x128x128_S1x128x128_1_0_0).toLoadRect f19))
        (truncf .bf16 (View.readAt (Elt F) arg15.view (⟨k0_off8 k 16#32 0#32, S128x128.size, ![24, 1], (k0_off8_inb k 2 0)⟩ : LoadRect S3072x128) f15) bitsLt_bf16_f32)
        (valsV 0 (View.readAt (Elt F) arg17.view (Rect.unit (s := S4x3x2x256x128) (k0_off6 k) S1x1x1x256x128.size (k0_off6_inb k)).toLoadRect f17) (View.readAt (Elt F) arg17.view (Rect.unit (s := S4x3x2x256x128) (k0_off7 k) S1x1x1x256x128.size (k0_off7_inb k)).toLoadRect f17))
        (View.readAt (Elt F) arg18.view (Rect.unit (s := S2x5x8x128) (k0_off9 k 0#32) S1x1x1x128.size (k0_off9_inb k 0)).toLoadRect f18)
        (View.readAt (Elt F) arg18.view (Rect.unit (s := S2x5x8x128) (k0_off10 k 0#32) S1x1x1x128.size (k0_off10_inb k 0)).toLoadRect f18)
        (View.readAt (Elt F) arg14.view (Rect.unit (s := S1x5x8x128x256) (k0_off11 k 0#32) S1x1x1x128x256.size (k0_off11_inb k 0)).toLoadRect f14)⟩]

section Trip

variable
  (c : Dev nD) (i : grid0.Coords)
  (arg3 : Memref sig .tc .smem S1 .i32) (harg3 : arg3.IsWhole) (arg4 : Memref sig .tc .vmem S1x128x8x128 .bf16) (harg4 : arg4.IsWhole) (arg5 : Memref sig .tc .vmem S1x128x3x8x128 .fp8e4m3) (harg5 : arg5.IsWhole) (arg6 : Memref sig .tc .vmem S1x128x3x8x128 .bf16) (harg6 : arg6.IsWhole) (arg7 : Memref sig .tc .vmem S1x128x3x8x128 .bf16) (harg7 : arg7.IsWhole) (arg8 : Memref sig .tc .vmem S1x3x8x128 .f32) (harg8 : arg8.IsWhole) (arg9 : Memref sig .tc .vmem S1x3x8x128 .f32) (harg9 : arg9.IsWhole) (arg10 : Memref sig .tc .vmem S1x3x8x128 .f32) (harg10 : arg10.IsWhole) (arg11 : Memref sig .tc .vmem S1x2x8x128 .i32) (harg11 : arg11.IsWhole) (arg12 : Memref sig .tc .vmem S1x2x8x128 .f32) (harg12 : arg12.IsWhole) (arg13 : Memref sig .tc .vmem S1x128x8x256 .bf16) (harg13 : arg13.IsWhole) (arg14 : Memref sig .tc .vmem S1x5x8x128x256 .f32) (harg14 : arg14.IsWhole) (arg15 : Memref sig .tc .vmem S3072x128 .f32) (harg15 : arg15.IsWhole) (arg16 : Memref sig .tc .vmem S4x256x128 .bf16) (harg16 : arg16.IsWhole) (arg17 : Memref sig .tc .vmem S4x3x2x256x128 .bf16) (harg17 : arg17.IsWhole) (arg18 : Memref sig .tc .vmem S2x5x8x128 .f32) (harg18 : arg18.IsWhole) (arg19 : Memref sig .tc .vmem S2x128x128 .f32) (harg19 : arg19.IsWhole) (arg20 : Memref sig .tc .vmem S2x1024x128 .bf16) (harg20 : arg20.IsWhole)
  (v3 v4 : IVec S128x128 32) (v537 : Vec F S1x128x1x2x128 .bf16)

/-- What a trip stores, system by system. -/
theorem trip_pieces (k : Fin k0_t1_loop.trips)
    (f14 : Buf (Elt F) (arg14.view.loc (c : Thread nD τ))) (f15 : Buf (Elt F) (arg15.view.loc (c : Thread nD τ))) (f16 : Buf (Elt F) (arg16.view.loc (c : Thread nD τ)))
    (f17 : Buf (Elt F) (arg17.view.loc (c : Thread nD τ))) (f18 : Buf (Elt F) (arg18.view.loc (c : Thread nD τ)))
    (f19 : Buf (Elt F) (arg19.view.loc (c : Thread nD τ))) :
    (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v537 k f14 f15 f16 f17 f18 f19).1 = tripL c arg14 arg15 arg17 arg18 arg19 v3 v4 k f14 f15 f17 f18 f19 := by
  unfold tripL
  rw [← store_1_3 c arg14 arg15 arg17 arg18 arg19 v3 v4 k f14 f15 f17 f18 f19]
  rw [← store_1_2 c arg14 arg15 arg17 arg18 arg19 v3 v4 k f14 f15 f17 f18 f19]
  rw [← store_1_1 c arg14 arg15 arg17 arg18 arg19 v3 v4 k f14 f15 f17 f18 f19]
  rw [← store_1_0 c arg14 arg15 arg17 arg18 arg19 v3 v4 k f14 f15 f17 f18 f19]
  rw [← store_1_4 c arg14 arg15 arg17 arg18 arg19 v3 v4 k f14 f15 f17 f18 f19]
  rw [← store_0_3 c arg14 arg15 arg17 arg18 arg19 v3 v4 k f14 f15 f17 f18 f19]
  rw [← store_0_2 c arg14 arg15 arg17 arg18 arg19 v3 v4 k f14 f15 f17 f18 f19]
  rw [← store_0_1 c arg14 arg15 arg17 arg18 arg19 v3 v4 k f14 f15 f17 f18 f19]
  rw [← store_0_0 c arg14 arg15 arg17 arg18 arg19 v3 v4 k f14 f15 f17 f18 f19]
  rw [← store_0_4 c arg14 arg15 arg17 arg18 arg19 v3 v4 k f14 f15 f17 f18 f19]
  rfl

end Trip

end Cert.KernelIdeal.Hand

end
end
-- ==== Proof.BodyIdeal.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.Frame
public import Idealize.ShloMosaic.Lib.Pipeline.FrameBody
public import Idealize.ShloMosaic.Lib.Tactic
public import proofs.«01_k».proof.Proof.TripStores

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig Unit (Elt F) ℕ (UR sig nD τ) ℕ

/-- The state block before trip `n`. -/
def stateTo (c : Dev nD) (arg14 : Memref sig .tc .vmem S1x5x8x128x256 .f32) (arg15 : Memref sig .tc .vmem S3072x128 .f32)
    (arg17 : Memref sig .tc .vmem S4x3x2x256x128 .bf16) (arg18 : Memref sig .tc .vmem S2x5x8x128 .f32) (arg19 : Memref sig .tc .vmem S2x128x128 .f32)
    (v3 v4 : IVec S128x128 32)
    (f14 : Buf (Elt F) (arg14.view.loc (c : Thread nD τ))) (f15 : Buf (Elt F) (arg15.view.loc (c : Thread nD τ)))
    (f17 : Buf (Elt F) (arg17.view.loc (c : Thread nD τ))) (f18 : Buf (Elt F) (arg18.view.loc (c : Thread nD τ)))
    (f19 : Buf (Elt F) (arg19.view.loc (c : Thread nD τ))) (n : ℕ) : Buf (Elt F) (arg14.view.loc (c : Thread nD τ)) :=
  Nat.rec f14 (fun n f => if h : n < k0_t1_loop.trips then
    arg14.view.writes (Elt F) f (tripL c arg14 arg15 arg17 arg18 arg19 v3 v4 ⟨n, h⟩ f f15 f17 f18 f19) else f) n

theorem stateTo_succ (c : Dev nD) (arg14 : Memref sig .tc .vmem S1x5x8x128x256 .f32) (arg15 : Memref sig .tc .vmem S3072x128 .f32)
    (arg17 : Memref sig .tc .vmem S4x3x2x256x128 .bf16) (arg18 : Memref sig .tc .vmem S2x5x8x128 .f32) (arg19 : Memref sig .tc .vmem S2x128x128 .f32)
    (v3 v4 : IVec S128x128 32)
    (f14 : Buf (Elt F) (arg14.view.loc (c : Thread nD τ))) (f15 : Buf (Elt F) (arg15.view.loc (c : Thread nD τ)))
    (f17 : Buf (Elt F) (arg17.view.loc (c : Thread nD τ))) (f18 : Buf (Elt F) (arg18.view.loc (c : Thread nD τ)))
    (f19 : Buf (Elt F) (arg19.view.loc (c : Thread nD τ))) (k : Fin k0_t1_loop.trips) :
    stateTo c arg14 arg15 arg17 arg18 arg19 v3 v4 f14 f15 f17 f18 f19 (k + 1)
      = arg14.view.writes (Elt F) (stateTo c arg14 arg15 arg17 arg18 arg19 v3 v4 f14 f15 f17 f18 f19 k) (tripL c arg14 arg15 arg17 arg18 arg19 v3 v4 k (stateTo c arg14 arg15 arg17 arg18 arg19 v3 v4 f14 f15 f17 f18 f19 k) f15 f17 f18 f19) :=
  dif_pos k.isLt

section Trip

variable (c : Dev nD) (i : grid0.Coords)
  (arg3 : Memref sig .tc .smem S1 .i32) (harg3 : arg3.IsWhole) (arg4 : Memref sig .tc .vmem S1x128x8x128 .bf16) (harg4 : arg4.IsWhole) (arg5 : Memref sig .tc .vmem S1x128x3x8x128 .fp8e4m3) (harg5 : arg5.IsWhole) (arg6 : Memref sig .tc .vmem S1x128x3x8x128 .bf16) (harg6 : arg6.IsWhole) (arg7 : Memref sig .tc .vmem S1x128x3x8x128 .bf16) (harg7 : arg7.IsWhole) (arg8 : Memref sig .tc .vmem S1x3x8x128 .f32) (harg8 : arg8.IsWhole) (arg9 : Memref sig .tc .vmem S1x3x8x128 .f32) (harg9 : arg9.IsWhole) (arg10 : Memref sig .tc .vmem S1x3x8x128 .f32) (harg10 : arg10.IsWhole) (arg11 : Memref sig .tc .vmem S1x2x8x128 .i32) (harg11 : arg11.IsWhole) (arg12 : Memref sig .tc .vmem S1x2x8x128 .f32) (harg12 : arg12.IsWhole) (arg13 : Memref sig .tc .vmem S1x128x8x256 .bf16) (harg13 : arg13.IsWhole) (arg14 : Memref sig .tc .vmem S1x5x8x128x256 .f32) (harg14 : arg14.IsWhole) (arg15 : Memref sig .tc .vmem S3072x128 .f32) (harg15 : arg15.IsWhole) (arg16 : Memref sig .tc .vmem S4x256x128 .bf16) (harg16 : arg16.IsWhole) (arg17 : Memref sig .tc .vmem S4x3x2x256x128 .bf16) (harg17 : arg17.IsWhole) (arg18 : Memref sig .tc .vmem S2x5x8x128 .f32) (harg18 : arg18.IsWhole) (arg19 : Memref sig .tc .vmem S2x128x128 .f32) (harg19 : arg19.IsWhole) (arg20 : Memref sig .tc .vmem S2x1024x128 .bf16) (harg20 : arg20.IsWhole)
  (v3 v4 : IVec S128x128 32) (v537 : Vec F S1x128x1x2x128 .bf16)

set_option warn.classDefReducibility false in
/-- The loop over head pairs: the state block by its recursion, the packed output block at some contents, all else as found. -/
@[sl_loop] def loopInv
    (f14 : Buf (Elt F) (arg14.view.loc (c : Thread nD τ))) (f15 : Buf (Elt F) (arg15.view.loc (c : Thread nD τ))) (f16 : Buf (Elt F) (arg16.view.loc (c : Thread nD τ)))
    (f17 : Buf (Elt F) (arg17.view.loc (c : Thread nD τ))) (f18 : Buf (Elt F) (arg18.view.loc (c : Thread nD τ)))
    (f19 : Buf (Elt F) (arg19.view.loc (c : Thread nD τ))) :
    LoopInvTy_k0_t1 (F := F) Unit ℕ (UR sig nD τ) ℕ Variants.none c none Set.univ i
      arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v537 where
  inv k _ := iprop((∃ f, at' c arg14 f ∗ ⌜f = stateTo c arg14 arg15 arg17 arg18 arg19 v3 v4 f14 f15 f17 f18 f19 k⌝) ∗ at' c arg15 f15 ∗ at' c arg16 f16 ∗ at' c arg17 f17 ∗ at' c arg18 f18 ∗ at' c arg19 f19 ∗ (∃ f, at' c arg20 f))
  step k _ := by
    iintro ⟨⟨%g14, H14, %h14⟩, H15, H16, H17, H18, H19, H20⟩
    iapply (wp_wand_r Idealize.ShloMosaic.frame (wpE (defs₀ (F := F)) Variants.none (c : Thread nD τ) none) Set.univ)
    isplitl [H14 H15 H16 H17 H18 H19 H20]
    · iapply ((trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v4 v537 k g14 f15 f16 f17 f18 f19).2)
      isplitl [H14]; · iexact H14
      isplitl [H15]; · iexact H15
      isplitl [H16]; · iexact H16
      isplitl [H17]; · iexact H17
      isplitl [H18]; · iexact H18
      isplitl [H19]; · iexact H19
      iexact H20
    · iintro %_ ⟨H14, H15, H16, H17, H18, H19, H20⟩
      isplitl [H14]
      · iexists _
        isplitl [H14]; · iexact H14
        ipureintro
        rw [stateTo_succ, trip_pieces, ← h14]
      isplitl [H15]; · iexact H15
      isplitl [H16]; · iexact H16
      isplitl [H17]; · iexact H17
      isplitl [H18]; · iexact H18
      isplitl [H19]; · iexact H19
      iexact H20

/-- The state block the body leaves, and the body's triple for any continuation: the inputs as found, every other buffer at some contents. -/
def kernelRun (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f14 : Buf (Elt F) (arg14.view.loc (c : Thread nD τ))) :
    { g : Buf (Elt F) (arg14.view.loc (c : Thread nD τ)) // ∀ K : PUnit → sProp 𝕄, iprop(at' c arg4 f4 ∗ at' c arg5 f5 ∗ at' c arg6 f6 ∗ at' c arg7 f7 ∗ at' c arg8 f8 ∗ at' c arg9 f9 ∗ at' c arg10 f10 ∗ at' c arg11 f11 ∗ at' c arg12 f12 ∗ (∃ f, at' c arg13 f) ∗ at' c arg14 f14 ∗ (∃ f, at' c arg15 f) ∗ (∃ f, at' c arg16 f) ∗ (∃ f, at' c arg17 f) ∗ (∃ f, at' c arg18 f) ∗ (∃ f, at' c arg19 f) ∗ (∃ f, at' c arg20 f) ∗ (iprop(at' c arg4 f4 ∗ at' c arg5 f5 ∗ at' c arg6 f6 ∗ at' c arg7 f7 ∗ at' c arg8 f8 ∗ at' c arg9 f9 ∗ at' c arg10 f10 ∗ at' c arg11 f11 ∗ at' c arg12 f12 ∗ (∃ f, at' c arg13 f) ∗ at' c arg14 g ∗ (∃ f, at' c arg15 f) ∗ (∃ f, at' c arg16 f) ∗ (∃ f, at' c arg17 f) ∗ (∃ f, at' c arg18 f) ∗ (∃ f, at' c arg19 f) ∗ (∃ f, at' c arg20 f)) -∗ K ⟨⟩))
      ⊢ wp frame (wpE (defs₀ (F := F)) Variants.none c none) Set.univ (cc0_mom_chunk i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, fun K => ?run⟩
  case run =>
  simp only [cc0_mom_chunk_eq_skeleton]; unfold cc0_mom_chunk_skel
  iintro ⟨H4, H5, H6, H7, H8, H9, H10, H11, H12, ⟨%f13, H13⟩, H14, ⟨%f15, H15⟩, ⟨%f16, H16⟩, ⟨%f17, H17⟩, ⟨%f18, H18⟩, ⟨%f19, H19⟩, ⟨%f20, H20⟩, Hk⟩
  sl_exec_parts
  sl_step
  iapply Hk
  sl_close

end Trip

end Cert.KernelIdeal.Hand

end
-- ==== Proof.Math.lean ====
module

public import Mathlib.Data.Matrix.Mul
public import Mathlib.Data.Real.Basic
public import Mathlib.Algebra.BigOperators.Field
public import Mathlib.Tactic.NoncommRing
public import Mathlib.Tactic.Linarith
public import Mathlib.Tactic.Ring
public import Mathlib.Tactic.FieldSimp

@[expose] public section

/-! # The mathematics of one chunk, over the reals

`invStep_*`: the doubling steps invert a unit lower-triangular matrix block by block.
`chunk_state`: solving the chunk's triangular system gives the state the recurrence reaches. -/

namespace Cert.Chunk

open Matrix

variable {n : ℕ}

/-- The part of `L` whose row and column lie in the same block of `s`. -/
def blk (L : Matrix (Fin n) (Fin n) ℝ) (s : ℕ) : Matrix (Fin n) (Fin n) ℝ :=
  fun i j => if i.val / s = j.val / s then L i j else 0

/-- The part of `L` in the same block of `2 s` with the row in a later block of `s`. -/
def lev (L : Matrix (Fin n) (Fin n) ℝ) (s : ℕ) : Matrix (Fin n) (Fin n) ℝ :=
  fun i j => if i.val / (2 * s) = j.val / (2 * s) ∧ j.val / s < i.val / s then L i j else 0

/-- One doubling step. -/
def dbl (L : Matrix (Fin n) (Fin n) ℝ) (s : ℕ) (T : Matrix (Fin n) (Fin n) ℝ) : Matrix (Fin n) (Fin n) ℝ :=
  T - T * (lev L s * T)

/-- `T` is zero off the blocks of `s` and inverts the blocks of `1 + L`. -/
structure Inv (L : Matrix (Fin n) (Fin n) ℝ) (s : ℕ) (T : Matrix (Fin n) (Fin n) ℝ) : Prop where
  off : ∀ i j, i.val / s ≠ j.val / s → T i j = 0
  inv : (1 + blk L s) * T = 1

theorem div_two_mul (i s : ℕ) : i / (2 * s) = i / s / 2 := by
  rw [Nat.mul_comm, Nat.div_div_eq_div_mul]

theorem Inv.one {L : Matrix (Fin n) (Fin n) ℝ} (hL : ∀ i j, i ≤ j → L i j = 0) : Inv L 1 1 := by
  constructor
  · intro i j h
    simp only [Nat.div_one] at h
    exact Matrix.one_apply_ne (fun e => h (by rw [e]))
  · have : blk L 1 = 0 := by
      ext i j
      simp only [blk, Nat.div_one, Matrix.zero_apply]
      split_ifs with h
      · exact hL i j (le_of_eq (Fin.ext h))
      · rfl
    rw [this]; simp

theorem Inv.dbl {L : Matrix (Fin n) (Fin n) ℝ} (hL : ∀ i j, i ≤ j → L i j = 0) {s : ℕ} {T : Matrix (Fin n) (Fin n) ℝ}
    (hT : Inv L s T) : Inv L (2 * s) (dbl L s T) := by
  have hsum : blk L (2 * s) = blk L s + lev L s := by
    ext i j
    simp only [blk, lev, Matrix.add_apply]
    rcases lt_trichotomy (i.val / s) (j.val / s) with h | h | h
    · have : L i j = 0 := by
        apply hL
        by_contra hc
        exact absurd (Nat.div_le_div_right (c := s) (le_of_lt (Fin.lt_def.mp (not_le.mp hc)))) (by omega)
      simp [this]
    · have h2 : i.val / (2 * s) = j.val / (2 * s) := by rw [div_two_mul, div_two_mul, h]
      simp [h, h2]
    · have h1 : i.val / s ≠ j.val / s := by omega
      simp [h1, h]
  have hNTN : lev L s * (T * lev L s) = 0 := by
    ext i j
    rw [Matrix.mul_apply]
    refine Finset.sum_eq_zero fun a _ => ?_
    rw [Matrix.mul_apply, Finset.mul_sum]
    refine Finset.sum_eq_zero fun b _ => ?_
    by_cases h1 : i.val / (2 * s) = a.val / (2 * s) ∧ a.val / s < i.val / s
    · by_cases h2 : b.val / (2 * s) = j.val / (2 * s) ∧ j.val / s < b.val / s
      · have : T a b = 0 := by
          apply hT.off
          obtain ⟨h1, h1'⟩ := h1
          obtain ⟨h2, h2'⟩ := h2
          rw [div_two_mul, div_two_mul] at h1 h2
          omega
        simp [this]
      · simp [lev, h2]
    · simp [lev, h1]
  constructor
  · intro i j h
    have hT0 : T i j = 0 := by
      apply hT.off
      intro e
      exact h (by rw [div_two_mul, div_two_mul, e])
    simp only [Chunk.dbl, Matrix.sub_apply, hT0, zero_sub, neg_eq_zero]
    rw [Matrix.mul_apply]
    refine Finset.sum_eq_zero fun a _ => ?_
    rw [Matrix.mul_apply, Finset.mul_sum]
    refine Finset.sum_eq_zero fun b _ => ?_
    by_cases h1 : i.val / s = a.val / s
    · by_cases h2 : b.val / s = j.val / s
      · have : ¬ (a.val / (2 * s) = b.val / (2 * s) ∧ b.val / s < a.val / s) := by
          rintro ⟨e, -⟩
          apply h
          rw [div_two_mul, div_two_mul] at e ⊢
          rw [h1, e, h2]
        simp [lev, this]
      · simp [hT.off b j h2]
    · simp [hT.off i a h1]
  · rw [hsum, Chunk.dbl]
    have e1 := hT.inv
    calc (1 + (blk L s + lev L s)) * (T - T * (lev L s * T))
        = (1 + blk L s) * T - ((1 + blk L s) * T) * (lev L s * T) + lev L s * T - (lev L s * (T * lev L s)) * T := by
          noncomm_ring
      _ = 1 := by rw [e1, hNTN]; simp

theorem Inv.full {L T : Matrix (Fin n) (Fin n) ℝ} {s : ℕ} (hs : n ≤ s) (hT : Inv L s T) : (1 + L) * T = 1 := by
  have : blk L s = L := by
    ext i j
    simp [blk, Nat.div_eq_of_lt (lt_of_lt_of_le i.isLt hs), Nat.div_eq_of_lt (lt_of_lt_of_le j.isLt hs)]
  rw [← this]; exact hT.inv

/-- The kernel's inverse of `1 + L` at 128 rows. -/
def tri (L : Matrix (Fin 128) (Fin 128) ℝ) : Matrix (Fin 128) (Fin 128) ℝ :=
  dbl L 64 (dbl L 32 (dbl L 16 (dbl L 8 (dbl L 4 (dbl L 2 (1 - lev L 1))))))

theorem tri_inv (L : Matrix (Fin 128) (Fin 128) ℝ) (hL : ∀ i j, i ≤ j → L i j = 0) : (1 + L) * tri L = 1 := by
  have h1 : Inv L 2 (1 - lev L 1) := by
    have := (Inv.one hL).dbl hL
    simpa [dbl] using this
  exact ((((((h1.dbl hL).dbl hL).dbl hL).dbl hL).dbl hL).dbl hL).full (le_refl _)

/-! ## The recurrence -/

section Rec

variable {K V : Type} [Fintype K]

/-- One step of the gated delta rule on one memory: decay `a`, scaled key `s k`, strength `b`, value `v`. -/
def step (a s b : ℝ) (k : K → ℝ) (v : V → ℝ) (S : K → V → ℝ) : K → V → ℝ :=
  fun x y => a * S x y + b * (s * k x) * (v y - ∑ z, a * S z y * (s * k z))

/-- The state after the first `i` tokens. -/
def run (a s b : ℕ → ℝ) (k : ℕ → K → ℝ) (v : ℕ → V → ℝ) (S : K → V → ℝ) : ℕ → K → V → ℝ
  | 0 => S
  | i + 1 => step (a i) (s i) (b i) (k i) (v i) (run a s b k v S i)

theorem run_add (a s b : ℕ → ℝ) (k : ℕ → K → ℝ) (v : ℕ → V → ℝ) (S : K → V → ℝ) (c : ℕ) : ∀ i,
    run a s b k v S (c + i) = run (fun j => a (c + j)) (fun j => s (c + j)) (fun j => b (c + j)) (fun j => k (c + j))
      (fun j => v (c + j)) (run a s b k v S c) i
  | 0 => rfl
  | i + 1 => by
      show step _ _ _ _ _ (run a s b k v S (c + i)) = _
      rw [run_add a s b k v S c i]; rfl

theorem run_congr {a s b a' s' b' : ℕ → ℝ} {k k' : ℕ → K → ℝ} {v v' : ℕ → V → ℝ} (S : K → V → ℝ) : ∀ i,
    (∀ j < i, a j = a' j ∧ s j = s' j ∧ b j = b' j ∧ k j = k' j ∧ v j = v' j) →
    run a s b k v S i = run a' s' b' k' v' S i
  | 0, _ => rfl
  | i + 1, h => by
      obtain ⟨h1, h2, h3, h4, h5⟩ := h i (Nat.lt_succ_self i)
      show step _ _ _ _ _ _ = step _ _ _ _ _ _
      rw [run_congr S i (fun j hj => h j (Nat.lt_succ_of_lt hj)), h1, h2, h3, h4, h5]

/-- The product of the first `i` decays. -/
def prd (a : ℕ → ℝ) (i : ℕ) : ℝ := ∏ j ∈ Finset.range i, a j

theorem prd_succ (a : ℕ → ℝ) (i : ℕ) : prd a (i + 1) = prd a i * a i := Finset.prod_range_succ _ _

theorem prd_ne (a : ℕ → ℝ) (ha : ∀ i, a i ≠ 0) (i : ℕ) : prd a i ≠ 0 := Finset.prod_ne_zero_iff.mpr fun j _ => ha j

/-- If `D` solves the chunk's triangular system, the chunk formula is the recurrence's state. -/
theorem chunk_state (a s b : ℕ → ℝ) (k : ℕ → K → ℝ) (v : ℕ → V → ℝ) (S : K → V → ℝ) (ha : ∀ i, a i ≠ 0)
    (D : ℕ → V → ℝ) (N : ℕ)
    (hD : ∀ i < N, ∀ y, D i y + ∑ j ∈ Finset.range i,
        (∑ z, k i z * k j z) * (prd a (i + 1) * s i / prd a (j + 1) * (b j * s j)) * D j y
      = v i y - prd a (i + 1) * s i * ∑ z, k i z * S z y) :
    ∀ i ≤ N, ∀ x y, run a s b k v S i x y
      = prd a i * S x y + ∑ j ∈ Finset.range i, k j x * (prd a i / prd a (j + 1) * (b j * s j)) * D j y := by
  intro i
  induction i with
  | zero => intro _ x y; simp [run, prd]
  | succ i ih =>
    intro hi x y
    have ih := ih (by omega)
    have hδ : v i y - ∑ z, a i * run a s b k v S i z y * (s i * k i z) = D i y := by
      have h := hD i (by omega) y
      have e : ∑ z, a i * run a s b k v S i z y * (s i * k i z)
          = prd a (i + 1) * s i * ∑ z, k i z * S z y + ∑ j ∈ Finset.range i,
            (∑ z, k i z * k j z) * (prd a (i + 1) * s i / prd a (j + 1) * (b j * s j)) * D j y := by
        have e1 : ∀ z, a i * run a s b k v S i z y * (s i * k i z)
            = prd a (i + 1) * s i * (k i z * S z y) + ∑ j ∈ Finset.range i,
              (k i z * k j z) * (prd a (i + 1) * s i / prd a (j + 1) * (b j * s j)) * D j y := by
          intro z
          rw [ih z y, prd_succ, mul_add, add_mul, Finset.mul_sum, Finset.sum_mul]
          congr 1
          · ring
          · refine Finset.sum_congr rfl fun j _ => ?_
            ring
        rw [Finset.sum_congr rfl fun z _ => e1 z, Finset.sum_add_distrib, Finset.mul_sum, Finset.sum_comm]
        congr 1
        refine Finset.sum_congr rfl fun j _ => ?_
        rw [Finset.sum_mul, Finset.sum_mul]
      rw [e]; linarith
    show a i * run a s b k v S i x y + b i * (s i * k i x) * (v i y - ∑ z, a i * run a s b k v S i z y * (s i * k i z)) = _
    rw [hδ, ih x y, Finset.sum_range_succ, div_self (prd_ne a ha (i + 1)), prd_succ, mul_add, Finset.mul_sum]
    rw [add_assoc]
    congr 1
    · ring
    congr 1
    · refine Finset.sum_congr rfl fun j _ => ?_
      ring
    · ring

end Rec

end Cert.Chunk

end
-- ==== Proof.SysVal.lean ====
module

public import proofs.«01_k».proof.Proof.SysDef
public import proofs.«01_k».proof.Proof.Math
public import proofs.«01_k».proof.Proof.Gen.KernelIdeal.Skeleton
public import Idealize.ShloMosaic.Lib.Pointwise
public import Mathlib.Analysis.SpecialFunctions.Pow.Real

@[expose] public section

set_option maxRecDepth 16384

noncomputable section

/-! # One system over the reals -/

namespace Cert.KernelIdeal.Hand

open Cert.KernelIdeal Cert.KernelIdeal.Gen
open Idealize.ShloMosaic Idealize.ShloMosaic.TcCoe
open Cert (Chunk.lev Chunk.tri)

/-- A real matrix as a block of elements. -/
def toM (A : Matrix (Fin 128) (Fin 128) ℝ) : FVec Ideal S128x128 .f32 := fun i => ((A (i 0) (i 1) : ℝ) : EReal)
def toW (A : Matrix (Fin 128) (Fin 256) ℝ) : FVec Ideal S128x256 .f32 := fun i => ((A (i 0) (i 1) : ℝ) : EReal)

theorem toM_at (A : Matrix (Fin 128) (Fin 128) ℝ) (i j : Fin 128) : toM A (ix2 i j) = ((A i j : ℝ) : EReal) := rfl
theorem toW_at (A : Matrix (Fin 128) (Fin 256) ℝ) (i : Fin 128) (j : Fin 256) : toW A (ix2 i j) = ((A i j : ℝ) : EReal) := rfl

theorem ext_M {φ : FTy} {x y : FVec Ideal S128x128 φ} (h : ∀ i j : Fin 128, x (ix2 i j) = y (ix2 i j)) : x = y := by
  funext i; rw [eq_ix2 i]; exact h _ _
theorem ext_W {φ : FTy} {x y : FVec Ideal S128x256 φ} (h : ∀ (i : Fin 128) (j : Fin 256), x (ix2 i j) = y (ix2 i j)) : x = y := by
  funext i; rw [eq_ix2 i]; exact h _ _

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_mul_coe {ι : Type} [Fintype ι] (f g : ι → ℝ) : (∑ i, (f i : EReal) * (g i : EReal)) = ((∑ i, f i * g i : ℝ) : EReal) := by
  rw [coe_sum]; exact Finset.sum_congr rfl fun i _ => (EReal.coe_mul _ _).symm

theorem sub_self_coe (r : ℝ) : (r : EReal) - (r : EReal) = 0 := by rw [← EReal.coe_sub, sub_self]; rfl

theorem mm_real (A B : Matrix (Fin 128) (Fin 128) ℝ) : mm (toM A) (toM B) = toM (A * B) := by
  refine ext_M fun i j => ?_
  pointwise [mm, hi, lo, toM_at]
  simp only [sub_self_coe, zero_mul, mul_zero, Finset.sum_const_zero, add_zero, zero_add, sum_mul_coe, Matrix.mul_apply]

theorem mmw_real (A : Matrix (Fin 128) (Fin 128) ℝ) (B : Matrix (Fin 128) (Fin 256) ℝ) : mmw (toM A) (toW B) = toW (A * B) := by
  refine ext_W fun i j => ?_
  pointwise [mmw, hi, lo, toM_at, toW_at]
  simp only [sub_self_coe, zero_mul, mul_zero, Finset.sum_const_zero, add_zero, zero_add, sum_mul_coe, Matrix.mul_apply]

theorem mmq_real (A : Matrix (Fin 128) (Fin 128) ℝ) (B : Matrix (Fin 128) (Fin 256) ℝ) : mmq (toM A) (toW B) = toW (A * B) := by
  refine ext_W fun i j => ?_
  pointwise [mmq, hi, lo, toM_at, toW_at]
  simp only [sub_self_coe, zero_mul, mul_zero, Finset.sum_const_zero, add_zero, zero_add, sum_mul_coe, Matrix.mul_apply]

theorem subf_real (A B : Matrix (Fin 128) (Fin 128) ℝ) : subf (toM A) (toM B) = toM (A - B) := by
  refine ext_M fun i j => ?_
  pointwise [toM_at]
  rw [← EReal.coe_sub, Matrix.sub_apply]

/-! ## The masks -/

/-- The row numbers. -/
abbrev rI : IVec S128x128 32 := fun i => BitVec.ofNat 32 (i 0).val
abbrev cI : IVec S128x128 32 := fun i => BitVec.ofNat 32 (i 1).val

theorem rI_at (i j : Fin 128) : rI (ix2 i j) = BitVec.ofNat 32 i.val := rfl
theorem cI_at (i j : Fin 128) : cI (ix2 i j) = BitVec.ofNat 32 j.val := rfl

/-- `fdiv` on one element. -/
def fd (x s : BitVec 32) : BitVec 32 := (fdiv (fun _ => x) s) (ix2 (n0 := 128) (n1 := 128) 0 0)

theorem fdiv_row (s : BitVec 32) (i j : Fin 128) : fdiv rI s (ix2 i j) = fd (BitVec.ofNat 32 i.val) s := by pointwise [fd, fdiv]; rw [rI_at]
theorem fdiv_col (s : BitVec 32) (i j : Fin 128) : fdiv cI s (ix2 i j) = fd (BitVec.ofNat 32 j.val) s := by pointwise [fd, fdiv]; rw [cI_at]

theorem fd_1 : ∀ i : Fin 128, fd (BitVec.ofNat 32 i.val) 1#32 = BitVec.ofNat 32 (i.val / 1) := by decide +kernel
theorem fd_2 : ∀ i : Fin 128, fd (BitVec.ofNat 32 i.val) 2#32 = BitVec.ofNat 32 (i.val / 2) := by decide +kernel
theorem fd_4 : ∀ i : Fin 128, fd (BitVec.ofNat 32 i.val) 4#32 = BitVec.ofNat 32 (i.val / 4) := by decide +kernel
theorem fd_8 : ∀ i : Fin 128, fd (BitVec.ofNat 32 i.val) 8#32 = BitVec.ofNat 32 (i.val / 8) := by decide +kernel
theorem fd_16 : ∀ i : Fin 128, fd (BitVec.ofNat 32 i.val) 16#32 = BitVec.ofNat 32 (i.val / 16) := by decide +kernel
theorem fd_32 : ∀ i : Fin 128, fd (BitVec.ofNat 32 i.val) 32#32 = BitVec.ofNat 32 (i.val / 32) := by decide +kernel
theorem fd_64 : ∀ i : Fin 128, fd (BitVec.ofNat 32 i.val) 64#32 = BitVec.ofNat 32 (i.val / 64) := by decide +kernel
theorem fd_128 : ∀ i : Fin 128, fd (BitVec.ofNat 32 i.val) 128#32 = BitVec.ofNat 32 (i.val / 128) := by decide +kernel

theorem cmp_gt {p q : ℕ} (hp : p < 128) (hq : q < 128) :
    IntOp.cmpi .sgt (BitVec.ofNat 32 p) (BitVec.ofNat 32 q) = BitVec.ofBool (decide (q < p)) := by
  have h : ∀ p q : Fin 128, IntOp.cmpi .sgt (BitVec.ofNat 32 p.val) (BitVec.ofNat 32 q.val) = BitVec.ofBool (decide (q.val < p.val)) := by decide +kernel
  exact h ⟨p, hp⟩ ⟨q, hq⟩
theorem cmp_eq {p q : ℕ} (hp : p < 128) (hq : q < 128) :
    IntOp.cmpi .eq (BitVec.ofNat 32 p) (BitVec.ofNat 32 q) = BitVec.ofBool (decide (p = q)) := by
  have h : ∀ p q : Fin 128, IntOp.cmpi .eq (BitVec.ofNat 32 p.val) (BitVec.ofNat 32 q.val) = BitVec.ofBool (decide (p.val = q.val)) := by decide +kernel
  exact h ⟨p, hp⟩ ⟨q, hq⟩

theorem lsel_real (s : ℕ) (b2 b1 : BitVec 32) (h2 : ∀ i : Fin 128, fd (BitVec.ofNat 32 i.val) b2 = BitVec.ofNat 32 (i.val / (2 * s)))
    (h1 : ∀ i : Fin 128, fd (BitVec.ofNat 32 i.val) b1 = BitVec.ofNat 32 (i.val / s)) (L : Matrix (Fin 128) (Fin 128) ℝ) :
    lsel rI cI b2 b1 (toM L) = toM (Chunk.lev L s) := by
  refine ext_M fun i j => ?_
  show Scalar.select (IntOp.andi (IntOp.cmpi .eq (fdiv rI b2 (ix2 i j)) (fdiv cI b2 (ix2 i j)))
    (IntOp.cmpi .sgt (fdiv rI b1 (ix2 i j)) (fdiv cI b1 (ix2 i j)))) ((L i j : ℝ) : EReal) (Ideal.ofBits .f32 0#32) = _
  have l1 : ∀ (n : ℕ) (k : Fin 128), k.val / n < 128 := fun n k => lt_of_le_of_lt (Nat.div_le_self _ _) k.isLt
  rw [fdiv_row, fdiv_col, fdiv_row, fdiv_col, h2, h2, h1, h1, cmp_eq (l1 _ _) (l1 _ _), cmp_gt (l1 _ _) (l1 _ _), toM_at]
  unfold Chunk.lev
  by_cases p : i.val / (2 * s) = j.val / (2 * s) <;> by_cases q : j.val / s < i.val / s <;>
    simp [p, q, Scalar.select, IntOp.andi]

theorem level_real (s : ℕ) (b2 b1 : BitVec 32) (h2 : ∀ i : Fin 128, fd (BitVec.ofNat 32 i.val) b2 = BitVec.ofNat 32 (i.val / (2 * s)))
    (h1 : ∀ i : Fin 128, fd (BitVec.ofNat 32 i.val) b1 = BitVec.ofNat 32 (i.val / s)) (L T : Matrix (Fin 128) (Fin 128) ℝ) :
    level rI cI b2 b1 (toM L) (toM T) = toM (Chunk.dbl L s T) := by
  unfold level; rw [lsel_real s b2 b1 h2 h1, mm_real, mm_real, subf_real]; rfl

theorem eye_real : (k0_pay1098 rI cI : FVec Ideal S128x128 .f32) = toM 1 := by
  refine ext_M fun i j => ?_
  show Scalar.select (IntOp.cmpi .eq (BitVec.ofNat 32 i.val) (BitVec.ofNat 32 j.val)) (Ideal.ofBits .f32 0x3F800000#32) (Ideal.ofBits .f32 0#32) = _
  rw [cmp_eq i.isLt j.isLt, toM_at, Matrix.one_apply]
  by_cases p : i = j
  · subst p; simp [Scalar.select]
  · have : ¬ i.val = j.val := fun e => p (Fin.ext e)
    simp [Scalar.select, p, this]

theorem tri_real (L : Matrix (Fin 128) (Fin 128) ℝ) : triV rI cI (toM 1) (toM L) = toM (Chunk.tri L) := by
  unfold triV
  rw [lsel_real 1 _ _ fd_2 fd_1, subf_real, level_real 2 _ _ fd_4 fd_2, level_real 4 _ _ fd_8 fd_4, level_real 8 _ _ fd_16 fd_8,
    level_real 16 _ _ fd_32 fd_16, level_real 32 _ _ fd_64 fd_32, level_real 64 _ _ fd_128 fd_64]
  rfl

end Cert.KernelIdeal.Hand

end
end
-- ==== Proof.SysRun.lean ====
module

public import proofs.«01_k».proof.Proof.SysVal

@[expose] public section

set_option maxRecDepth 16384

noncomputable section

/-! # One system is one chunk of the recurrence -/

namespace Cert.KernelIdeal.Hand

open Cert.KernelIdeal Cert.KernelIdeal.Gen
open Idealize.ShloMosaic Idealize.ShloMosaic.TcCoe

variable (a s b g : ℕ → ℝ) (k : ℕ → Fin 128 → ℝ) (v : ℕ → Fin 256 → ℝ) (S : Fin 128 → Fin 256 → ℝ)

/-- The chunk's strictly lower-triangular matrix over the reals. -/
def LR : Matrix (Fin 128) (Fin 128) ℝ := fun i j =>
  (∑ z, k i z * k j z) * ((if j < i then (2 : ℝ) ^ (g i - g j) * s i else 0) * (b j * s j))
def RR : Matrix (Fin 128) (Fin 256) ℝ := fun i y => v i y - (2 : ℝ) ^ (g i) * s i * ∑ z, k i z * S z y
def KR : Matrix (Fin 128) (Fin 128) ℝ := fun x i => k i x * ((2 : ℝ) ^ (g 127 - g i) * (b i * s i))

theorem exp2_real (r : ℝ) : Ideal.exp2 (r : EReal) = (((2 : ℝ) ^ r : ℝ) : EReal) := by
  rw [Ideal.exp2_coe]; rfl

/-- What a system reads. -/
structure Reads (gs : FVec Ideal S128x128 .f32) (kb : FVec Ideal S128x128 .bf16) (vv : FVec Ideal S128x256 .f32) (gr sr : Vec Ideal S1x1x1x128 .f32)
    (S0 : Vec Ideal S1x1x1x128x256 .f32) : Prop where
  gs : ∀ i j : Fin 128, ∀ r : ℝ, Ideal.exp2 (gs (ix2 i j) - (r : EReal)) = (((2 : ℝ) ^ (g i - r) * s i : ℝ) : EReal)
  kb : ∀ i j : Fin 128, kb (ix2 i j) = ((k i j : ℝ) : EReal)
  vv : ∀ (i : Fin 128) (j : Fin 256), vv (ix2 i j) = ((v i j : ℝ) : EReal)
  gr : ∀ i : Fin 128, gr (ix4 0 0 0 i) = ((g i : ℝ) : EReal)
  sr : ∀ i : Fin 128, sr (ix4 0 0 0 i) = ((b i * s i : ℝ) : EReal)
  S0 : ∀ (x : Fin 128) (y : Fin 256), S0 (ix5 0 0 0 x y) = ((S x y : ℝ) : EReal)

variable {a s b g k v S}
variable {gs : FVec Ideal S128x128 .f32} {kb : FVec Ideal S128x128 .bf16} {vv : FVec Ideal S128x256 .f32} {gr sr : Vec Ideal S1x1x1x128 .f32}
  {S0 : Vec Ideal S1x1x1x128x256 .f32}

theorem Reads.gs0 (h : Reads s b g k v S gs kb vv gr sr S0) (i j : Fin 128) :
    Ideal.exp2 (gs (ix2 i j)) = (((2 : ℝ) ^ (g i) * s i : ℝ) : EReal) := by
  have := h.gs i j 0
  rwa [EReal.coe_zero, sub_zero, sub_zero] at this

theorem Lv_real (h : Reads s b g k v S gs kb vv gr sr S0) : Lv rI cI gs kb gr sr = toM (LR s b g k) := by
  refine ext_M fun i j => ?_
  have hm : IntOp.cmpi .sgt (BitVec.ofNat 32 i.val) (BitVec.ofNat 32 j.val) = BitVec.ofBool (decide (j.val < i.val)) := cmp_gt i.isLt j.isLt
  pointwise [Lv, toM_at]
  rw [rI_at, cI_at, hm, h.gr, h.sr]
  simp only [h.kb, sum_mul_coe]
  unfold LR
  by_cases p : j.val < i.val
  · have p' : j < i := p
    rw [show Scalar.select (BitVec.ofBool (decide (j.val < i.val))) (gs (ix2 i j) - ((g j : ℝ) : EReal)) (Named.named (F := Ideal) κ "mask" 4048155338#32)
      = gs (ix2 i j) - ((g j : ℝ) : EReal) by simp [Scalar.select, p]]
    rw [if_pos p']
    refine Eq.trans (congrArg₂ (· * ·) rfl (congrArg₂ (· * ·) (h.gs i j (g j)) rfl)) ?_
    rw [← EReal.coe_mul, ← EReal.coe_mul]
  · have p' : ¬ j < i := p
    rw [show Scalar.select (BitVec.ofBool (decide (j.val < i.val))) (gs (ix2 i j) - ((g j : ℝ) : EReal)) (Named.named (F := Ideal) κ "mask" 4048155338#32)
      = (⊥ : EReal) by simp [Scalar.select, p]; rfl]
    rw [if_neg p']
    refine Eq.trans (congrArg₂ (· * ·) rfl (congrArg₂ (· * ·) (show Ideal.exp2 ⊥ = ((0 : ℝ) : EReal) from rfl) rfl)) ?_
    rw [← EReal.coe_mul, ← EReal.coe_mul]

theorem Rv_real (h : Reads s b g k v S gs kb vv gr sr S0) : Rv gs kb vv (shapeCast S128x256 S0 shapeCasts_S1x1x1x128x256_S128x256) = toW (RR s g k v S) := by
  refine ext_W fun i j => ?_
  pointwise [Rv, mmq, hi, lo, toW_at]
  simp only [h.S0, h.kb, h.vv, sub_self_coe, mul_zero, Finset.sum_const_zero, add_zero, sum_mul_coe]
  have e : (if h' : j.val < 128 then (FloatOps.exp2 (gs (ix2 i ⟨j.val, h'⟩)) : Ideal .f32) else FloatOps.exp2 (gs (ix2 i ⟨j.val - 128, by omega⟩)))
      = (((2 : ℝ) ^ (g i) * s i : ℝ) : EReal) := by
    split
    · exact h.gs0 _ _
    · exact h.gs0 _ _
  refine Eq.trans (congrArg₂ (· - ·) rfl (congrArg₂ (· * ·) e rfl)) ?_
  rw [← EReal.coe_mul, ← EReal.coe_sub]; rfl

theorem ktV_real (h : Reads s b g k v S gs kb vv gr sr S0) : ktV kb gr sr = toM (KR s b g k) := by
  refine ext_M fun i j => ?_
  pointwise [ktV, toM_at]
  rw [h.kb, h.sr, h.gr, h.gr]
  refine Eq.trans (congrArg₂ (· * ·) rfl (congrArg₂ (· * ·) ((congrArg Ideal.exp2 (EReal.coe_sub _ _).symm).trans (exp2_real _)) rfl)) ?_
  rw [← EReal.coe_mul, ← EReal.coe_mul]; rfl

theorem Dv_real (h : Reads s b g k v S gs kb vv gr sr S0) :
    Dv rI cI (k0_pay1098 rI cI) gs kb vv gr sr S0 = toW (Chunk.tri (LR s b g k) * RR s g k v S) := by
  unfold Dv; rw [Lv_real h, Rv_real h, eye_real, tri_real, mmw_real]

theorem sysS_real (h : Reads s b g k v S gs kb vv gr sr S0) (x : Fin 128) (y : Fin 256) :
    sysS rI cI (k0_pay1098 rI cI) gs kb vv gr sr S0 (ix5 0 0 0 x y)
      = (((2 : ℝ) ^ (g 127) * S x y + ∑ i : Fin 128, KR s b g k x i * (Chunk.tri (LR s b g k) * RR s g k v S) i y : ℝ) : EReal) := by
  unfold sysS; rw [Dv_real h, ktV_real h, mmw_real]
  pointwise [toW_at]
  rw [h.gr, h.S0]
  refine Eq.trans (congrArg₂ (· + ·) (congrArg₂ (· * ·) (exp2_real _) rfl) rfl) ?_
  rw [← EReal.coe_mul, ← EReal.coe_add]; rfl

/-- A system's state is the recurrence's after the chunk's tokens. -/
theorem sysS_run (h : Reads s b g k v S gs kb vv gr sr S0) (ha : ∀ i, a i ≠ 0) (hg : ∀ i < 128, (2 : ℝ) ^ (g i) = Chunk.prd a (i + 1))
    (x : Fin 128) (y : Fin 256) :
    sysS rI cI (k0_pay1098 rI cI) gs kb vv gr sr S0 (ix5 0 0 0 x y) = ((Chunk.run a s b k v S 128 x y : ℝ) : EReal) := by
  rw [sysS_real h]
  have hLz : ∀ i j : Fin 128, i ≤ j → LR s b g k i j = 0 := fun i j hij => by simp [LR, not_lt.mpr hij]
  have hT := Chunk.tri_inv (LR s b g k) hLz
  have hgd : ∀ i j, i < 128 → j < 128 → (2 : ℝ) ^ (g i - g j) = Chunk.prd a (i + 1) / Chunk.prd a (j + 1) := fun i j hi hj => by
    rw [Real.rpow_sub (by norm_num), hg i hi, hg j hj]
  generalize hDm : Chunk.tri (LR s b g k) * RR s g k v S = Dm
  have hD : (1 + LR s b g k) * Dm = RR s g k v S := by rw [← hDm, ← Matrix.mul_assoc, hT, Matrix.one_mul]
  let D : ℕ → Fin 256 → ℝ := fun i y => if hi : i < 128 then Dm ⟨i, hi⟩ y else 0
  have hDi : ∀ i : Fin 128, ∀ y, D i y = Dm i y := fun i y => dif_pos i.isLt
  have key := Chunk.chunk_state a s b k v S ha D 128 (fun i hi y => by
    have e := congrFun (congrFun hD ⟨i, hi⟩) y
    rw [Matrix.add_mul, Matrix.one_mul, Matrix.add_apply, Matrix.mul_apply] at e
    simp only [RR] at e
    rw [← hg i hi, ← e]
    congr 1
    · exact hDi ⟨i, hi⟩ y
    · have : ∑ j : Fin 128, LR s b g k ⟨i, hi⟩ j * Dm j y
          = ∑ j : Fin 128, (if j.val < i then (∑ z, k i z * k j.val z) * (Chunk.prd a (i + 1) * s i / Chunk.prd a (j.val + 1) * (b j.val * s j.val)) * D j.val y else 0) := by
        refine Finset.sum_congr rfl fun j _ => ?_
        rw [hDi]
        simp only [LR, Fin.lt_def]
        by_cases hj : j.val < i
        · simp only [hj, if_true, hgd i j.val hi j.isLt]; ring
        · simp [hj]
      rw [this, Fin.sum_univ_eq_sum_range (fun j => if j < i then (∑ z, k i z * k j z) * (Chunk.prd a (i + 1) * s i / Chunk.prd a (j + 1) * (b j * s j)) * D j y else 0) 128,
        ← Finset.sum_filter, hg i hi]
      congr 1
      ext j; simp only [Finset.mem_filter, Finset.mem_range]; omega) 128 (le_refl _) x y
  rw [key, hg 127 (by norm_num), ← Fin.sum_univ_eq_sum_range (fun j => k j x * (Chunk.prd a 128 / Chunk.prd a (j + 1) * (b j * s j)) * D j y) 128]
  congr 2
  refine Finset.sum_congr rfl fun j _ => ?_
  rw [hDi]; simp only [KR]; rw [hgd 127 j.val (by norm_num) j.isLt]

end Cert.KernelIdeal.Hand

end
end
-- ==== Proof.LoopVal.lean ====
module

public import proofs.«01_k».proof.Proof.BodyIdeal
public import proofs.«01_k».proof.Proof.SysRun
public import Idealize.ShloMosaic.Lib.WritesUnit

@[expose] public section

set_option maxRecDepth 16384

noncomputable section

/-! # What the loop over head pairs leaves in the state block -/

namespace Cert.KernelIdeal.Hand

open Cert.KernelIdeal Cert.KernelIdeal.Gen
open Idealize.ShloMosaic Idealize.ShloMosaic.TcCoe

/-! ## Reads through the printed rectangles -/

section Rd

variable {c : Dev nD}

theorem rd14 (arg14 : Memref sig .tc .vmem S1x5x8x128x256 .f32) (f : Buf (Elt Ideal) (arg14.view.loc (c : Thread nD τ))) {off : Fin 5 → ℕ} (inb) (m : Fin 5) (h : Fin 8) (x : Fin 128) (y : Fin 256) (e : off = ![0, m.val, h.val, 0, 0]) :
    View.readAt (Elt Ideal) arg14.view (Rect.unit (s := S1x5x8x128x256) off S1x1x1x128x256.size inb).toLoadRect f (ix5 0 0 0 x y)
      = arg14.view.read (Elt Ideal) f (ix5 0 m h x y) := by
  subst e; rw [View.readAt_apply]; congr 1
  funext a; apply Fin.ext; fin_cases a <;> simp [LoadRect.idx, Rect.toLoadRect, Rect.unit, ix5]

theorem rd18 (arg18 : Memref sig .tc .vmem S2x5x8x128 .f32) (f : Buf (Elt Ideal) (arg18.view.loc (c : Thread nD τ))) {off : Fin 4 → ℕ} (inb) (p : Fin 2) (m : Fin 5) (h : Fin 8) (i : Fin 128) (e : off = ![p.val, m.val, h.val, 0]) :
    View.readAt (Elt Ideal) arg18.view (Rect.unit (s := S2x5x8x128) off S1x1x1x128.size inb).toLoadRect f (ix4 0 0 0 i)
      = arg18.view.read (Elt Ideal) f (ix4 p m h i) := by
  subst e; rw [View.readAt_apply]; congr 1
  funext a; apply Fin.ext; fin_cases a <;> simp [LoadRect.idx, Rect.toLoadRect, Rect.unit, ix4]

theorem rd19 (arg19 : Memref sig .tc .vmem S2x128x128 .f32) (f : Buf (Elt Ideal) (arg19.view.loc (c : Thread nD τ))) (inb) (i l : Fin 128) :
    View.readAt (Elt Ideal) arg19.view (Rect.unit (s := S2x128x128) ![1, 0, 0] S1x128x128.size inb).toLoadRect f (ix3 0 i l)
      = arg19.view.read (Elt Ideal) f (ix3 1 i l) := by
  rw [View.readAt_apply]; congr 1
  funext a; apply Fin.ext; fin_cases a <;> simp [LoadRect.idx, Rect.toLoadRect, Rect.unit, ix3]

theorem rd17 (arg17 : Memref sig .tc .vmem S4x3x2x256x128 .bf16) (f : Buf (Elt Ideal) (arg17.view.loc (c : Thread nD τ))) {off : Fin 5 → ℕ} (inb) (jj : Fin 4) (sl : Fin 3) (p : Fin 2) (r : Fin 256) (z : Fin 128) (e : off = ![jj.val, sl.val, p.val, 0, 0]) :
    View.readAt (Elt Ideal) arg17.view (Rect.unit (s := S4x3x2x256x128) off S1x1x1x256x128.size inb).toLoadRect f (ix5 0 0 0 r z)
      = arg17.view.read (Elt Ideal) f (ix5 jj sl p r z) := by
  subst e; rw [View.readAt_apply]; congr 1
  funext a; apply Fin.ext; fin_cases a <;> simp [LoadRect.idx, Rect.toLoadRect, Rect.unit, ix5]

theorem rd15 (arg15 : Memref sig .tc .vmem S3072x128 .f32) (f : Buf (Elt Ideal) (arg15.view.loc (c : Thread nD τ))) {off : Fin 2 → ℕ} (inb) (o : ℕ) (i z : Fin 128) (r : Fin 3072) (hr : r.val = o + 24 * i.val) (e : off = ![o, 0]) :
    View.readAt (Elt Ideal) arg15.view (⟨off, S128x128.size, ![24, 1], inb⟩ : LoadRect S3072x128) f (ix2 i z)
      = arg15.view.read (Elt Ideal) f (ix2 r z) := by
  subst e; rw [View.readAt_apply]; congr 1
  funext a; apply Fin.ext; fin_cases a <;> simp [LoadRect.idx, ix2, hr]

end Rd

/-! ## The lanes -/

theorem trips_eq : k0_t1_loop.trips = 4 := by decide +kernel

theorem lane_eq : ∀ (k : Fin k0_t1_loop.trips) (hh : Fin 2) (m : Fin 10),
    Scalar.addi (BitVec.ofNat 32 (8 * m.val)) (headW k (BitVec.ofNat 32 hh.val)) = BitVec.ofNat 32 (8 * m.val + (2 * k.val + hh.val)) := by decide +kernel

theorem laneV_at (l : Fin 128) (x : Vec Ideal S1x128x128 .f32) (i j : Fin 128) :
    laneV (BitVec.ofNat 32 l.val) x (ix2 i j) = x (ix3 0 i l) := by
  have h : ∀ l : Fin 128, (Scalar.select (IntOp.cmpi .slt (BitVec.ofNat 32 l.val) 0#32) (IntOp.addi (BitVec.ofNat 32 l.val) 128#32) (BitVec.ofNat 32 l.val)).toNat % 128 = l.val := by
    decide +kernel
  pointwise [laneV]
  congr 1
  exact congrArg (fun t => ix3 0 i t) (Fin.ext (h l))

theorem rowsV_at (p : Fin 2) (x : Vec Ideal S1x1x1x256x128 .bf16) (i z : Fin 128) (r : Fin 256) (hr : r.val = 2 * i.val + p.val) :
    rowsV p x (ix2 i z) = x (ix5 0 0 0 r z) := by
  pointwise [rowsV]
  congr 1
  exact congrArg (fun t => ix5 0 0 0 t z) (Fin.ext hr.symm)

theorem valsV_at (p : Fin 2) (x y : Vec Ideal S1x1x1x256x128 .bf16) (i : Fin 128) (z : Fin 256) :
    valsV p x y (ix2 i z) = if h : z.val < 128 then rowsV p x (ix2 i ⟨z.val, h⟩) else rowsV p y (ix2 i ⟨z.val - 128, by omega⟩) := by
  pointwise [valsV]

theorem rkV_at (s : IVec S128x128 1) (a b : Vec Ideal S128x128 .f32) (i z : Fin 128) :
    rkV s a b (ix2 i z) = Scalar.select (s (ix2 i z)) (a (ix2 i z)) (b (ix2 i z)) := by
  pointwise [rkV]

theorem rvV_at (s : IVec S128x128 1) (a b : FVec Ideal S128x256 .f32) (i : Fin 128) (z : Fin 256) (t : BitVec 1) (ht : ∀ j, s (ix2 i j) = t) :
    rvV s a b (ix2 i z) = Scalar.select t (a (ix2 i z)) (b (ix2 i z)) := by
  pointwise [rvV]
  simp only [ht, dite_eq_ite, ite_self]

theorem half_eq : Ideal.ofBits .f32 1056964608#32 = ((1 / 2 : ℝ) : EReal) := by
  simp [Ideal.ofBits, Ideal.ieee, -EReal.coe_mul]; norm_num

theorem selV_at (l : BitVec 32) (x : Vec Ideal S1x128x128 .f32) (i z : Fin 128) (q : Bool) (h : laneV l x (ix2 i z) = if q then (1 : EReal) else 0) :
    selV l x (ix2 i z) = BitVec.ofBool q := by
  pointwise [selV]
  rw [h, half_eq]
  have h0 : ¬ (((1 / 2 : ℝ) : EReal) < 0) := by rw [← EReal.coe_zero, EReal.coe_lt_coe_iff]; norm_num
  have h1 : ((1 / 2 : ℝ) : EReal) < 1 := by rw [← EReal.coe_one, EReal.coe_lt_coe_iff]; norm_num
  cases q
  · rw [if_neg Bool.false_ne_true, decide_eq_false h0]
  · rw [if_pos rfl, decide_eq_true h1]

/-! ## What the loop finds -/

section Held

variable {c : Dev nD} (arg14 : Memref sig .tc .vmem S1x5x8x128x256 .f32) (arg15 : Memref sig .tc .vmem S3072x128 .f32)
  (arg17 : Memref sig .tc .vmem S4x3x2x256x128 .bf16) (arg18 : Memref sig .tc .vmem S2x5x8x128 .f32) (arg19 : Memref sig .tc .vmem S2x128x128 .f32)

/-- The head of a pair. -/
def hd (jj : Fin 4) (hh : Fin 2) : Fin 8 := ⟨2 * jj.val + hh.val, by omega⟩
/-- The row of a token's slot and head. -/
def rw15 (i : Fin 128) (sl : Fin 3) (h : Fin 8) : Fin 3072 := ⟨8 * sl.val + h.val + 24 * i.val, by omega⟩
/-- The packed row of a token. -/
def rw17 (i : Fin 128) (hh : Fin 2) : Fin 256 := ⟨2 * i.val + hh.val, by omega⟩
/-- The lane of a memory's head. -/
def ln (m : Fin 10) (h : Fin 8) : Fin 128 := ⟨8 * m.val + h.val, by omega⟩

/-- The scratches, as a chunk's keys, values, log decays, strengths and scales. -/
structure Held (K : ℕ → Fin 3 → Fin 8 → Fin 128 → ℝ) (V : ℕ → Fin 3 → Fin 8 → Fin 256 → ℝ) (q : Fin 4 → Fin 8 → ℕ → Bool)
    (s b g : Fin 5 → Fin 8 → ℕ → ℝ)
    (f15 : Buf (Elt Ideal) (arg15.view.loc (c : Thread nD τ))) (f17 : Buf (Elt Ideal) (arg17.view.loc (c : Thread nD τ)))
    (f18 : Buf (Elt Ideal) (arg18.view.loc (c : Thread nD τ))) (f19 : Buf (Elt Ideal) (arg19.view.loc (c : Thread nD τ))) : Prop where
  k : ∀ (i : Fin 128) (sl : Fin 3) (h : Fin 8) (z : Fin 128), arg15.view.read (Elt Ideal) f15 (ix2 (rw15 i sl h) z) = ((K i sl h z : ℝ) : EReal)
  v : ∀ (i : Fin 128) (sl : Fin 3) (jj : Fin 4) (hh : Fin 2) (z : Fin 256),
    arg17.view.read (Elt Ideal) f17 (ix5 jj sl (if z.val < 128 then 0 else 1) (rw17 i hh) (if h : z.val < 128 then ⟨z.val, h⟩ else ⟨z.val - 128, by omega⟩)) = ((V i sl (hd jj hh) z : ℝ) : EReal)
  gr : ∀ (m : Fin 5) (h : Fin 8) (i : Fin 128), arg18.view.read (Elt Ideal) f18 (ix4 0 m h i) = ((g m h i : ℝ) : EReal)
  sr : ∀ (m : Fin 5) (h : Fin 8) (i : Fin 128), arg18.view.read (Elt Ideal) f18 (ix4 1 m h i) = ((b m h i * s m h i : ℝ) : EReal)
  gs : ∀ (m : Fin 5) (h : Fin 8) (i : Fin 128) (r : ℝ),
    Ideal.exp2 (arg19.view.read (Elt Ideal) f19 (ix3 1 i (ln (m.castLE (by omega)) h)) - (r : EReal)) = (((2 : ℝ) ^ (g m h i - r) * s m h i : ℝ) : EReal)
  q : ∀ (m : Fin 4) (h : Fin 8) (i : Fin 128), arg19.view.read (Elt Ideal) f19 (ix3 1 i (ln ⟨5 + m.val, by omega⟩ h)) = if q m h i then (1 : EReal) else 0

/-- A memory's keys. -/
def kM (K : ℕ → Fin 3 → Fin 8 → Fin 128 → ℝ) (q : Fin 4 → Fin 8 → ℕ → Bool) (m : Fin 5) (h : Fin 8) (i : ℕ) : Fin 128 → ℝ :=
  if hm : m.val < 4 then (if q ⟨m.val, hm⟩ h i then K i 0 h else K i 1 h) else K i 2 h
/-- A memory's values. -/
def vM (V : ℕ → Fin 3 → Fin 8 → Fin 256 → ℝ) (q : Fin 4 → Fin 8 → ℕ → Bool) (m : Fin 5) (h : Fin 8) (i : ℕ) : Fin 256 → ℝ :=
  if hm : m.val < 4 then (if q ⟨m.val, hm⟩ h i then V i 0 h else V i 1 h) else V i 2 h

variable {arg14 arg15 arg17 arg18 arg19}
variable {K : ℕ → Fin 3 → Fin 8 → Fin 128 → ℝ} {V : ℕ → Fin 3 → Fin 8 → Fin 256 → ℝ} {q : Fin 4 → Fin 8 → ℕ → Bool}
    {s b g : Fin 5 → Fin 8 → ℕ → ℝ}
    {f15 : Buf (Elt Ideal) (arg15.view.loc (c : Thread nD τ))} {f17 : Buf (Elt Ideal) (arg17.view.loc (c : Thread nD τ))}
    {f18 : Buf (Elt Ideal) (arg18.view.loc (c : Thread nD τ))} {f19 : Buf (Elt Ideal) (arg19.view.loc (c : Thread nD τ))}

theorem Held.k_at (H : Held arg15 arg17 arg18 arg19 K V q s b g f15 f17 f18 f19) {off : Fin 2 → ℕ} (inb) (sl : Fin 3) (h : Fin 8) (e : off = ![8 * sl.val + h.val, 0]) (i z : Fin 128) :
    View.readAt (Elt Ideal) arg15.view (⟨off, S128x128.size, ![24, 1], inb⟩ : LoadRect S3072x128) f15 (ix2 i z) = ((K i sl h z : ℝ) : EReal) :=
  (rd15 arg15 f15 inb _ i z (rw15 i sl h) rfl e).trans (H.k i sl h z)

theorem Held.v_at (H : Held arg15 arg17 arg18 arg19 K V q s b g f15 f17 f18 f19) {o0 o1 : Fin 5 → ℕ} (inb0 inb1) (sl : Fin 3) (jj : Fin 4) (hh : Fin 2)
    (e0 : o0 = ![jj.val, sl.val, 0, 0, 0]) (e1 : o1 = ![jj.val, sl.val, 1, 0, 0]) (i : Fin 128) (z : Fin 256) :
    valsV hh (View.readAt (Elt Ideal) arg17.view (Rect.unit (s := S4x3x2x256x128) o0 S1x1x1x256x128.size inb0).toLoadRect f17)
      (View.readAt (Elt Ideal) arg17.view (Rect.unit (s := S4x3x2x256x128) o1 S1x1x1x256x128.size inb1).toLoadRect f17) (ix2 i z) = ((V i sl (hd jj hh) z : ℝ) : EReal) := by
  rw [valsV_at, ← H.v]
  by_cases hz : z.val < 128
  · rw [dif_pos hz, if_pos hz, dif_pos hz, rowsV_at hh _ i _ (rw17 i hh) rfl, rd17 arg17 f17 inb0 jj sl 0 _ _ e0]
  · rw [dif_neg hz, if_neg hz, dif_neg hz, rowsV_at hh _ i _ (rw17 i hh) rfl, rd17 arg17 f17 inb1 jj sl 1 _ _ e1]

/-- What a system of a memory reads: the part common to the routed memories and the shared one. -/
theorem Held.reads (H : Held arg15 arg17 arg18 arg19 K V q s b g f15 f17 f18 f19) (m : Fin 5) (h : Fin 8) {f14 : Buf (Elt Ideal) (arg14.view.loc (c : Thread nD τ))}
    {S : Fin 128 → Fin 256 → ℝ} (hS : ∀ x y, arg14.view.read (Elt Ideal) f14 (ix5 0 m h x y) = ((S x y : ℝ) : EReal)) {lw : BitVec 32} (hlw : lw = BitVec.ofNat 32 (8 * m.val + h.val))
    {o18a o18b : Fin 4 → ℕ} {o14 : Fin 5 → ℕ} (ia ib i14 i19) (ea : o18a = ![0, m.val, h.val, 0]) (eb : o18b = ![1, m.val, h.val, 0]) (e14 : o14 = ![0, m.val, h.val, 0, 0])
    {kb : FVec Ideal S128x128 .bf16} {vv : FVec Ideal S128x256 .f32} (hk : ∀ i j : Fin 128, kb (ix2 i j) = ((kM K q m h i j : ℝ) : EReal))
    (hv : ∀ (i : Fin 128) (j : Fin 256), vv (ix2 i j) = ((vM V q m h i j : ℝ) : EReal)) :
    Reads (s m h) (b m h) (g m h) (kM K q m h) (vM V q m h) S
      (laneV lw (View.readAt (Elt Ideal) arg19.view (Rect.unit (s := S2x128x128) ![1, 0, 0] S1x128x128.size i19).toLoadRect f19)) kb vv
      (View.readAt (Elt Ideal) arg18.view (Rect.unit (s := S2x5x8x128) o18a S1x1x1x128.size ia).toLoadRect f18)
      (View.readAt (Elt Ideal) arg18.view (Rect.unit (s := S2x5x8x128) o18b S1x1x1x128.size ib).toLoadRect f18)
      (View.readAt (Elt Ideal) arg14.view (Rect.unit (s := S1x5x8x128x256) o14 S1x1x1x128x256.size i14).toLoadRect f14) where
  gs i j r := by
    subst hlw
    rw [show BitVec.ofNat 32 (8 * m.val + h.val) = BitVec.ofNat 32 (ln (m.castLE (by omega)) h).val from rfl, laneV_at, rd19]; exact H.gs m h i r
  kb := hk
  vv := hv
  gr i := (rd18 arg18 f18 ia 0 m h i ea).trans (H.gr m h i)
  sr i := (rd18 arg18 f18 ib 1 m h i eb).trans (H.sr m h i)
  S0 x y := (rd14 arg14 f14 i14 m h x y e14).trans (hS x y)

theorem Held.sel (H : Held arg15 arg17 arg18 arg19 K V q s b g f15 f17 f18 f19) (m : Fin 4) (h : Fin 8) {sw : BitVec 32} (hsw : sw = BitVec.ofNat 32 (8 * (5 + m.val) + h.val)) (i19) (i z : Fin 128) :
    selV sw (View.readAt (Elt Ideal) arg19.view (Rect.unit (s := S2x128x128) ![1, 0, 0] S1x128x128.size i19).toLoadRect f19) (ix2 i z) = BitVec.ofBool (q m h i) := by
  subst hsw
  refine selV_at _ _ _ _ _ ?_
  rw [show BitVec.ofNat 32 (8 * (5 + m.val) + h.val) = BitVec.ofNat 32 (ln ⟨5 + m.val, by omega⟩ h).val from rfl, laneV_at, rd19]; exact H.q m h i

theorem sel_coe (t : Bool) (x y : ℝ) : Scalar.select (BitVec.ofBool t) ((x : ℝ) : EReal) ((y : ℝ) : EReal) = ((if t then x else y : ℝ) : EReal) := by
  cases t <;> simp [Scalar.select]

variable (a : Fin 5 → Fin 8 → ℕ → ℝ)

/-- A routed memory's store. -/
theorem Held.routed (H : Held arg15 arg17 arg18 arg19 K V q s b g f15 f17 f18 f19) (ha : ∀ m h i, a m h i ≠ 0)
    (hg : ∀ m h, ∀ i < 128, (2 : ℝ) ^ (g m h i) = Chunk.prd (a m h) (i + 1)) (m : Fin 4) (jj : Fin 4) (hh : Fin 2) {f14 : Buf (Elt Ideal) (arg14.view.loc (c : Thread nD τ))}
    {S : Fin 128 → Fin 256 → ℝ} (hS : ∀ x y, arg14.view.read (Elt Ideal) f14 (ix5 0 (m.castLE (by omega)) (hd jj hh) x y) = ((S x y : ℝ) : EReal))
    {lw sw : BitVec 32} (hlw : lw = BitVec.ofNat 32 (8 * m.val + (2 * jj.val + hh.val))) (hsw : sw = BitVec.ofNat 32 (8 * (5 + m.val) + (2 * jj.val + hh.val)))
    {k0 k1 : Fin 2 → ℕ} {p00 p01 p10 p11 : Fin 5 → ℕ} {o18a o18b : Fin 4 → ℕ} {o14 : Fin 5 → ℕ} (ik0 ik1 i00 i01 i10 i11 ia ib i14 i19)
    (ek0 : k0 = ![8 * (0 : Fin 3).val + (2 * jj.val + hh.val), 0]) (ek1 : k1 = ![8 * (1 : Fin 3).val + (2 * jj.val + hh.val), 0])
    (e00 : p00 = ![jj.val, (0 : Fin 3).val, 0, 0, 0]) (e01 : p01 = ![jj.val, (0 : Fin 3).val, 1, 0, 0])
    (e10 : p10 = ![jj.val, (1 : Fin 3).val, 0, 0, 0]) (e11 : p11 = ![jj.val, (1 : Fin 3).val, 1, 0, 0])
    (ea : o18a = ![0, m.val, 2 * jj.val + hh.val, 0]) (eb : o18b = ![1, m.val, 2 * jj.val + hh.val, 0]) (e14 : o14 = ![0, m.val, 2 * jj.val + hh.val, 0, 0])
    (x : Fin 128) (y : Fin 256) :
    sysS rI cI (k0_pay1098 rI cI) (laneV lw (View.readAt (Elt Ideal) arg19.view (Rect.unit (s := S2x128x128) ![1, 0, 0] S1x128x128.size i19).toLoadRect f19))
      (rkV (selV sw (View.readAt (Elt Ideal) arg19.view (Rect.unit (s := S2x128x128) ![1, 0, 0] S1x128x128.size i19).toLoadRect f19))
        (View.readAt (Elt Ideal) arg15.view (⟨k0, S128x128.size, ![24, 1], ik0⟩ : LoadRect S3072x128) f15)
        (View.readAt (Elt Ideal) arg15.view (⟨k1, S128x128.size, ![24, 1], ik1⟩ : LoadRect S3072x128) f15))
      (rvV (selV sw (View.readAt (Elt Ideal) arg19.view (Rect.unit (s := S2x128x128) ![1, 0, 0] S1x128x128.size i19).toLoadRect f19))
        (valsV hh (View.readAt (Elt Ideal) arg17.view (Rect.unit (s := S4x3x2x256x128) p00 S1x1x1x256x128.size i00).toLoadRect f17)
          (View.readAt (Elt Ideal) arg17.view (Rect.unit (s := S4x3x2x256x128) p01 S1x1x1x256x128.size i01).toLoadRect f17))
        (valsV hh (View.readAt (Elt Ideal) arg17.view (Rect.unit (s := S4x3x2x256x128) p10 S1x1x1x256x128.size i10).toLoadRect f17)
          (View.readAt (Elt Ideal) arg17.view (Rect.unit (s := S4x3x2x256x128) p11 S1x1x1x256x128.size i11).toLoadRect f17)))
      (View.readAt (Elt Ideal) arg18.view (Rect.unit (s := S2x5x8x128) o18a S1x1x1x128.size ia).toLoadRect f18)
      (View.readAt (Elt Ideal) arg18.view (Rect.unit (s := S2x5x8x128) o18b S1x1x1x128.size ib).toLoadRect f18)
      (View.readAt (Elt Ideal) arg14.view (Rect.unit (s := S1x5x8x128x256) o14 S1x1x1x128x256.size i14).toLoadRect f14) (ix5 0 0 0 x y)
      = ((Chunk.run (a (m.castLE (by omega)) (hd jj hh)) (s (m.castLE (by omega)) (hd jj hh)) (b (m.castLE (by omega)) (hd jj hh))
        (kM K q (m.castLE (by omega)) (hd jj hh)) (vM V q (m.castLE (by omega)) (hd jj hh)) S 128 x y : ℝ) : EReal) := by
  refine sysS_run (H.reads (m.castLE (by omega)) (hd jj hh) hS hlw ia ib i14 i19 ea eb e14 (fun i z => ?_) (fun i z => ?_)) (ha _ _) (hg _ _) x y
  · rw [rkV_at, H.sel m (hd jj hh) hsw, H.k_at ik0 0 (hd jj hh) ek0, H.k_at ik1 1 (hd jj hh) ek1, sel_coe]
    unfold kM; rw [dif_pos (show (Fin.castLE (by omega) m : Fin 5).val < 4 from m.isLt)]
    show ((if q m (hd jj hh) i then _ else _ : ℝ) : EReal) = (((if q m (hd jj hh) i then _ else _ : Fin 128 → ℝ) z : ℝ) : EReal)
    split <;> rfl
  · rw [rvV_at _ _ _ i z _ (fun j => H.sel m (hd jj hh) hsw i19 i j), H.v_at i00 i01 0 jj hh e00 e01, H.v_at i10 i11 1 jj hh e10 e11, sel_coe]
    unfold vM; rw [dif_pos (show (Fin.castLE (by omega) m : Fin 5).val < 4 from m.isLt)]
    show ((if q m (hd jj hh) i then _ else _ : ℝ) : EReal) = (((if q m (hd jj hh) i then _ else _ : Fin 256 → ℝ) z : ℝ) : EReal)
    split <;> rfl

/-- The shared memory's store. -/
theorem Held.shared (H : Held arg15 arg17 arg18 arg19 K V q s b g f15 f17 f18 f19) (ha : ∀ m h i, a m h i ≠ 0)
    (hg : ∀ m h, ∀ i < 128, (2 : ℝ) ^ (g m h i) = Chunk.prd (a m h) (i + 1)) (jj : Fin 4) (hh : Fin 2) {f14 : Buf (Elt Ideal) (arg14.view.loc (c : Thread nD τ))}
    {S : Fin 128 → Fin 256 → ℝ} (hS : ∀ x y, arg14.view.read (Elt Ideal) f14 (ix5 0 4 (hd jj hh) x y) = ((S x y : ℝ) : EReal))
    {lw : BitVec 32} (hlw : lw = BitVec.ofNat 32 (8 * 4 + (2 * jj.val + hh.val)))
    {k0 : Fin 2 → ℕ} {p00 p01 : Fin 5 → ℕ} {o18a o18b : Fin 4 → ℕ} {o14 : Fin 5 → ℕ} (ik0 i00 i01 ia ib i14 i19)
    (ek0 : k0 = ![8 * (2 : Fin 3).val + (2 * jj.val + hh.val), 0])
    (e00 : p00 = ![jj.val, (2 : Fin 3).val, 0, 0, 0]) (e01 : p01 = ![jj.val, (2 : Fin 3).val, 1, 0, 0])
    (ea : o18a = ![0, 4, 2 * jj.val + hh.val, 0]) (eb : o18b = ![1, 4, 2 * jj.val + hh.val, 0]) (e14 : o14 = ![0, 4, 2 * jj.val + hh.val, 0, 0])
    (x : Fin 128) (y : Fin 256) :
    sysS rI cI (k0_pay1098 rI cI) (laneV lw (View.readAt (Elt Ideal) arg19.view (Rect.unit (s := S2x128x128) ![1, 0, 0] S1x128x128.size i19).toLoadRect f19))
      (truncf .bf16 (View.readAt (Elt Ideal) arg15.view (⟨k0, S128x128.size, ![24, 1], ik0⟩ : LoadRect S3072x128) f15) bitsLt_bf16_f32)
      (valsV hh (View.readAt (Elt Ideal) arg17.view (Rect.unit (s := S4x3x2x256x128) p00 S1x1x1x256x128.size i00).toLoadRect f17)
          (View.readAt (Elt Ideal) arg17.view (Rect.unit (s := S4x3x2x256x128) p01 S1x1x1x256x128.size i01).toLoadRect f17))
      (View.readAt (Elt Ideal) arg18.view (Rect.unit (s := S2x5x8x128) o18a S1x1x1x128.size ia).toLoadRect f18)
      (View.readAt (Elt Ideal) arg18.view (Rect.unit (s := S2x5x8x128) o18b S1x1x1x128.size ib).toLoadRect f18)
      (View.readAt (Elt Ideal) arg14.view (Rect.unit (s := S1x5x8x128x256) o14 S1x1x1x128x256.size i14).toLoadRect f14) (ix5 0 0 0 x y)
      = ((Chunk.run (a 4 (hd jj hh)) (s 4 (hd jj hh)) (b 4 (hd jj hh)) (kM K q 4 (hd jj hh)) (vM V q 4 (hd jj hh)) S 128 x y : ℝ) : EReal) := by
  refine sysS_run (H.reads 4 (hd jj hh) hS hlw ia ib i14 i19 ea eb e14 (fun i z => ?_) (fun i z => ?_)) (ha _ _) (hg _ _) x y
  · exact H.k_at ik0 2 (hd jj hh) ek0 i z
  · exact H.v_at i00 i01 2 jj hh e00 e01 i z

/-! ## The writes of a trip -/

theorem ix_hit (m : Fin 5) (h : Fin 8) (x : Fin 128) (y : Fin 256) (a : Fin 5) : ((ix5 0 m h x y : S1x5x8x128x256.Idx) a).val
    = (![0, m.val, h.val, 0, 0] : Fin 5 → ℕ) a + ((ix5 0 0 0 x y : S1x1x1x128x256.Idx) a).val := by
  match a with
  | ⟨0, _⟩ => rfl
  | ⟨1, _⟩ => rfl
  | ⟨2, _⟩ => rfl
  | ⟨3, _⟩ => exact (Nat.zero_add _).symm
  | ⟨4, _⟩ => exact (Nat.zero_add _).symm

theorem wr_hit (f : Buf (Elt Ideal) (arg14.view.loc (c : Thread nD τ))) {off : Fin 5 → ℕ} (inb) (w : FVec Ideal S1x1x1x128x256 .f32) (L : List (View.Piece (Elt Ideal) S1x5x8x128x256 .f32))
    (m : Fin 5) (h : Fin 8) (e : off = ![0, m.val, h.val, 0, 0]) (x : Fin 128) (y : Fin 256) :
    arg14.view.read (Elt Ideal) (arg14.view.writes (Elt Ideal) f (⟨Rect.unit (s := S1x5x8x128x256) off S1x1x1x128x256.size inb, w⟩ :: L)) (ix5 0 m h x y) = w (ix5 0 0 0 x y) :=
  View.read_writes_cons_unit_of_mem arg14.view f inb w L (ix5 0 m h x y) (ix5 0 0 0 x y : S1x1x1x128x256.Idx) e (ix_hit m h x y)

theorem wr_miss (f : Buf (Elt Ideal) (arg14.view.loc (c : Thread nD τ))) {off : Fin 5 → ℕ} (inb) (w : FVec Ideal S1x1x1x128x256 .f32) (L : List (View.Piece (Elt Ideal) S1x5x8x128x256 .f32))
    (m m' : Fin 5) (h : Fin 8) (h' : ℕ) (e : off = ![0, m'.val, h', 0, 0]) (hne : m.val ≠ m'.val ∨ h.val ≠ h') (x : Fin 128) (y : Fin 256) :
    arg14.view.read (Elt Ideal) (arg14.view.writes (Elt Ideal) f (⟨Rect.unit (s := S1x5x8x128x256) off S1x1x1x128x256.size inb, w⟩ :: L)) (ix5 0 m h x y)
      = arg14.view.read (Elt Ideal) (arg14.view.writes (Elt Ideal) f L) (ix5 0 m h x y) := by
  rcases hne with hne | hne
  · have h1 : m.val < m'.val ∨ m'.val + 1 ≤ m.val := by omega
    exact View.read_writes_cons_unit_of_not_mem arg14.view f inb w L (ix5 0 m h x y) e (1 : Fin 5) h1
  · have h1 : h.val < h' ∨ h' + 1 ≤ h.val := by omega
    exact View.read_writes_cons_unit_of_not_mem arg14.view f inb w L (ix5 0 m h x y) e (2 : Fin 5) h1

end Held

end Cert.KernelIdeal.Hand

end
end
-- ==== Proof.ProVal.lean ====
module

public import proofs.«01_k».proof.Proof.BodyIdeal
public import proofs.«01_k».proof.Proof.SysVal
public import proofs.«01_k».proof.Proof.LoopVal
public import Idealize.ShloMosaic.Lib.WritesUnit

@[expose] public section

set_option maxRecDepth 16384

noncomputable section

/-! # What the prologue leaves in the scratches -/

namespace Cert.KernelIdeal.Hand

open Cert.KernelIdeal Cert.KernelIdeal.Gen
open Idealize.ShloMosaic Idealize.ShloMosaic.TcCoe

/-! ## Logarithms -/

theorem two_eq : Ideal.ofBits .f32 1073741824#32 = ((2 : ℝ) : EReal) := by
  simp [Ideal.ofBits, Ideal.ieee, -EReal.coe_mul]; norm_num
theorem floor_eq : Ideal.ofBits .f32 3281387520#32 = ((-300 : ℝ) : EReal) := by
  simp [Ideal.ofBits, Ideal.ieee, -EReal.coe_mul, -EReal.coe_neg]; norm_num

/-- The logarithm to base two. -/
def lg2 (r : ℝ) : ℝ := Real.log r / Real.log 2

theorem two_pow_lg2 {r : ℝ} (h : 0 < r) : (2 : ℝ) ^ (lg2 r) = r := by
  rw [Real.rpow_def_of_pos (by norm_num), lg2, mul_div_cancel₀ _ (Real.log_pos (by norm_num)).ne', Real.exp_log h]

theorem le_lg2 {r y : ℝ} (h : 0 < r) (hy : (2 : ℝ) ^ y ≤ r) : y ≤ lg2 r := by
  rw [lg2, le_div_iff₀ (Real.log_pos (by norm_num)), ← Real.log_rpow (by norm_num)]
  exact Real.log_le_log (Real.rpow_pos_of_pos (by norm_num) _) hy

theorem log2_ne : ((Real.log 2 : ℝ) : EReal) ≠ 0 := by
  rw [← EReal.coe_zero, Ne, EReal.coe_eq_coe_iff]; exact (Real.log_pos (by norm_num)).ne'

theorem log_two : Ideal.log ((2 : ℝ) : EReal) = ((Real.log 2 : ℝ) : EReal) := by
  rw [Ideal.log_coe, if_neg (by norm_num)]

theorem log2_pos {r : ℝ} (h : 0 < r) : Ideal.div (Ideal.log (r : EReal)) (Ideal.log ((2 : ℝ) : EReal)) = ((lg2 r : ℝ) : EReal) := by
  rw [log_two, Ideal.log_coe, if_neg (not_le.mpr h), Ideal.div, if_neg log2_ne, ← EReal.coe_inv, ← EReal.coe_mul]; rfl

theorem log2_zero : Ideal.div (Ideal.log ((0 : ℝ) : EReal)) (Ideal.log ((2 : ℝ) : EReal)) = ⊥ := by
  rw [log_two, Ideal.log_coe, if_pos le_rfl, Ideal.div, if_neg log2_ne, ← EReal.coe_inv]
  exact EReal.bot_mul_coe_of_pos (inv_pos.mpr (Real.log_pos (by norm_num)))

/-- A scale's logarithm, added to an exponent, scales the power. -/
theorem exp2_scale {s : ℝ} (hs : 0 ≤ s) (g r : ℝ) :
    Ideal.exp2 (((g : ℝ) : EReal) + Ideal.div (Ideal.log (s : EReal)) (Ideal.log ((2 : ℝ) : EReal)) - (r : EReal)) = (((2 : ℝ) ^ (g - r) * s : ℝ) : EReal) := by
  rcases hs.eq_or_lt with h | h
  · subst h
    rw [log2_zero, EReal.add_bot, EReal.bot_sub, mul_zero]; rfl
  · rw [log2_pos h, ← EReal.coe_add, ← EReal.coe_sub, Ideal.exp2_coe]
    congr 1
    rw [show g + lg2 s - r = (g - r) + lg2 s by ring]
    exact (Real.rpow_add (by norm_num) _ _).trans (by rw [two_pow_lg2 h])

/-- What memory `m` of a head takes of a token: the decay, the key's scale, the step and the decay's running logarithm. -/
def aR (al : Fin 3 → Fin 8 → ℕ → ℝ) (id : Fin 2 → Fin 8 → ℕ → BitVec 32) (m : Fin 5) (h : Fin 8) (i : ℕ) : ℝ :=
  if m.val = 4 then al 2 h i else if id 0 h i = BitVec.ofNat 32 m.val then al 0 h i else if id 1 h i = BitVec.ofNat 32 m.val then al 1 h i else 1
def bR (be : Fin 3 → Fin 8 → ℕ → ℝ) (id : Fin 2 → Fin 8 → ℕ → BitVec 32) (m : Fin 5) (h : Fin 8) (i : ℕ) : ℝ :=
  if m.val = 4 then be 2 h i else if id 0 h i = BitVec.ofNat 32 m.val then be 0 h i else if id 1 h i = BitVec.ofNat 32 m.val then be 1 h i else 0
def sR (ks : Fin 3 → Fin 8 → ℕ → ℝ) (id : Fin 2 → Fin 8 → ℕ → BitVec 32) (m : Fin 5) (h : Fin 8) (i : ℕ) : ℝ :=
  if m.val = 4 then ks 2 h i else if id 0 h i = BitVec.ofNat 32 m.val then ks 0 h i else ks 1 h i
def qR (id : Fin 2 → Fin 8 → ℕ → BitVec 32) (m : Fin 4) (h : Fin 8) (i : ℕ) : Bool := id 0 h i == BitVec.ofNat 32 m.val
def gR (al : Fin 3 → Fin 8 → ℕ → ℝ) (id : Fin 2 → Fin 8 → ℕ → BitVec 32) (m : Fin 5) (h : Fin 8) (i : ℕ) : ℝ :=
  ∑ j ∈ Finset.range (i + 1), lg2 (aR al id m h j)

theorem aR_at (al : Fin 3 → Fin 8 → ℕ → ℝ) (id : Fin 2 → Fin 8 → ℕ → BitVec 32) (m : Fin 4) (h : Fin 8) (i : ℕ) :
    aR al id (m.castLE (by omega)) h i = if id 0 h i = BitVec.ofNat 32 m.val then al 0 h i else if id 1 h i = BitVec.ofNat 32 m.val then al 1 h i else 1 :=
  if_neg (fun e : m.val = 4 => by omega)
theorem bR_at (be : Fin 3 → Fin 8 → ℕ → ℝ) (id : Fin 2 → Fin 8 → ℕ → BitVec 32) (m : Fin 4) (h : Fin 8) (i : ℕ) :
    bR be id (m.castLE (by omega)) h i = if id 0 h i = BitVec.ofNat 32 m.val then be 0 h i else if id 1 h i = BitVec.ofNat 32 m.val then be 1 h i else 0 :=
  if_neg (fun e : m.val = 4 => by omega)
theorem sR_at (ks : Fin 3 → Fin 8 → ℕ → ℝ) (id : Fin 2 → Fin 8 → ℕ → BitVec 32) (m : Fin 4) (h : Fin 8) (i : ℕ) :
    sR ks id (m.castLE (by omega)) h i = if id 0 h i = BitVec.ofNat 32 m.val then ks 0 h i else ks 1 h i :=
  if_neg (fun e : m.val = 4 => by omega)

theorem aR_pos {al : Fin 3 → Fin 8 → ℕ → ℝ} (hal : ∀ sl h i, 0 < al sl h i) (id) (m h i) : 0 < aR al id m h i := by
  unfold aR; split_ifs <;> first | exact hal _ _ _ | exact one_pos

theorem gR_prd {al : Fin 3 → Fin 8 → ℕ → ℝ} (hal : ∀ sl h i, 0 < al sl h i) (id) (m h) (i : ℕ) :
    (2 : ℝ) ^ (gR al id m h i) = Chunk.prd (aR al id m h) (i + 1) := by
  unfold gR
  induction i with
  | zero => rw [Finset.sum_range_one, two_pow_lg2 (aR_pos hal id m h 0), Chunk.prd_succ]; simp [Chunk.prd]
  | succ i ih => rw [Finset.sum_range_succ, Real.rpow_add (by norm_num), ih, two_pow_lg2 (aR_pos hal id m h _), Chunk.prd_succ (i := i + 1)]; try ring

/-- A sum against the columns up to `i`. -/
theorem sum_upto (f : ℕ → ℝ) (i : Fin 128) : ∑ j : Fin 128, f j.val * (if j.val ≤ i.val then (1 : ℝ) else 0) = ∑ j ∈ Finset.range (i.val + 1), f j := by
  rw [Fin.sum_univ_eq_sum_range (fun j => f j * (if j ≤ i.val then (1 : ℝ) else 0)) 128]
  rw [← Finset.sum_subset (s₁ := Finset.range (i.val + 1)) (by intro x hx; simp only [Finset.mem_range] at *; omega)
    (by intro x _ hx; simp only [Finset.mem_range] at hx; rw [if_neg (by omega), mul_zero])]
  refine Finset.sum_congr rfl fun x hx => ?_
  simp only [Finset.mem_range] at hx
  rw [if_pos (by omega), mul_one]

theorem sel_eq {α : Type} (a b : BitVec 32) (x y : α) : Scalar.select (IntOp.cmpi .eq a b) x y = if a = b then x else y := by
  by_cases h : a = b
  · simp [Scalar.select, IntOp.cmpi, h]
  · rw [if_neg h]; simp [Scalar.select, IntOp.cmpi, beq_eq_false_iff_ne.mpr h]

theorem zero_eq : FloatOps.ofBits (F := Ideal) FTy.f32 0#32 = (0 : EReal) := by
  show Ideal.ofBits .f32 0#32 = 0
  simp [Ideal.ofBits, Ideal.ieee]
theorem one_eq : FloatOps.ofBits (F := Ideal) FTy.f32 1065353216#32 = (1 : EReal) := by
  show Ideal.ofBits .f32 1065353216#32 = 1
  simp [Ideal.ofBits, Ideal.ieee, -EReal.coe_mul]; norm_num

section Pro

variable (c : Dev nD) (arg5 : Memref sig .tc .vmem S1x128x3x8x128 .fp8e4m3) (arg6 : Memref sig .tc .vmem S1x128x3x8x128 .bf16)
  (arg7 : Memref sig .tc .vmem S1x128x3x8x128 .bf16) (arg8 arg9 arg10 : Memref sig .tc .vmem S1x3x8x128 .f32)
  (arg11 : Memref sig .tc .vmem S1x2x8x128 .i32) (arg12 : Memref sig .tc .vmem S1x2x8x128 .f32)
  (arg15 : Memref sig .tc .vmem S3072x128 .f32) (arg17 : Memref sig .tc .vmem S4x3x2x256x128 .bf16) (arg18 : Memref sig .tc .vmem S2x5x8x128 .f32)
  (arg19 : Memref sig .tc .vmem S2x128x128 .f32)
  (f5 : Buf (Elt Ideal) (arg5.view.loc (c : Thread nD τ))) (f6 : Buf (Elt Ideal) (arg6.view.loc (c : Thread nD τ))) (f7 : Buf (Elt Ideal) (arg7.view.loc (c : Thread nD τ)))
  (f8 : Buf (Elt Ideal) (arg8.view.loc (c : Thread nD τ))) (f9 : Buf (Elt Ideal) (arg9.view.loc (c : Thread nD τ))) (f10 : Buf (Elt Ideal) (arg10.view.loc (c : Thread nD τ)))
  (f11 : Buf (Elt Ideal) (arg11.view.loc (c : Thread nD τ))) (f12 : Buf (Elt Ideal) (arg12.view.loc (c : Thread nD τ)))

/-- What the body finds in its input blocks. -/
structure Ins (k : ℕ → Fin 3 → Fin 8 → Fin 128 → ℝ) (v : ℕ → Fin 3 → Fin 8 → Fin 256 → ℝ) (al be ks : Fin 3 → Fin 8 → ℕ → ℝ) (id : Fin 2 → Fin 8 → ℕ → BitVec 32) : Prop where
  k : ∀ (i : Fin 128) (sl : Fin 3) (h : Fin 8) (z : Fin 128), arg5.view.read (Elt Ideal) f5 (ix5 0 i sl h z) = ((k i sl h z : ℝ) : EReal)
  v0 : ∀ (i : Fin 128) (sl : Fin 3) (h : Fin 8) (z : Fin 128), arg6.view.read (Elt Ideal) f6 (ix5 0 i sl h z) = ((v i sl h ⟨z.val, by omega⟩ : ℝ) : EReal)
  v1 : ∀ (i : Fin 128) (sl : Fin 3) (h : Fin 8) (z : Fin 128), arg7.view.read (Elt Ideal) f7 (ix5 0 i sl h z) = ((v i sl h ⟨128 + z.val, by omega⟩ : ℝ) : EReal)
  al : ∀ (sl : Fin 3) (h : Fin 8) (i : Fin 128), arg8.view.read (Elt Ideal) f8 (ix4 0 sl h i) = ((al sl h i : ℝ) : EReal)
  be : ∀ (sl : Fin 3) (h : Fin 8) (i : Fin 128), arg9.view.read (Elt Ideal) f9 (ix4 0 sl h i) = ((be sl h i : ℝ) : EReal)
  ks : ∀ (sl : Fin 3) (h : Fin 8) (i : Fin 128), arg10.view.read (Elt Ideal) f10 (ix4 0 sl h i) = ((ks sl h i : ℝ) : EReal)
  id : ∀ (r : Fin 2) (h : Fin 8) (i : Fin 128), arg11.view.read (Elt Ideal) f11 (ix4 0 r h i) = id r h i

variable {c arg5 arg6 arg7 arg8 arg9 arg10 arg11 f5 f6 f7 f8 f9 f10 f11}
variable {k : ℕ → Fin 3 → Fin 8 → Fin 128 → ℝ} {v : ℕ → Fin 3 → Fin 8 → Fin 256 → ℝ} {al be ks : Fin 3 → Fin 8 → ℕ → ℝ} {id : Fin 2 → Fin 8 → ℕ → BitVec 32}

theorem rd3 (arg : Memref sig .tc .vmem S1x3x8x128 .f32) (f : Buf (Elt Ideal) (arg.view.loc (c : Thread nD τ))) (inb) (sl : Fin 3) (h : Fin 8) (i : Fin 128) :
    View.readAt (Elt Ideal) arg.view (Rect.unit (s := S1x3x8x128) ![0, 0, 0, 0] S1x3x8x128.size inb).toLoadRect f (ix4 0 sl h i) = arg.view.read (Elt Ideal) f (ix4 0 sl h i) := by
  rw [View.readAt_apply]; congr 1
  funext a; apply Fin.ext; fin_cases a <;> simp [LoadRect.idx, Rect.toLoadRect, Rect.unit, ix4]

theorem rd11 (arg : Memref sig .tc .vmem S1x2x8x128 .i32) (f : Buf (Elt Ideal) (arg.view.loc (c : Thread nD τ))) (r : Fin 2) {off : Fin 4 → ℕ} (inb) (h : Fin 8) (i : Fin 128) (e : off = ![0, r.val, 0, 0]) :
    View.readAt (Elt Ideal) arg.view (Rect.unit (s := S1x2x8x128) off S1x1x8x128.size inb).toLoadRect f (ix4 0 0 h i) = arg.view.read (Elt Ideal) f (ix4 0 r h i) := by
  subst e; rw [View.readAt_apply]; congr 1
  funext a; apply Fin.ext; fin_cases a <;> simp [LoadRect.idx, Rect.toLoadRect, Rect.unit, ix4]

variable (I : Ins c arg5 arg6 arg7 arg8 arg9 arg10 arg11 f5 f6 f7 f8 f9 f10 f11 k v al be ks id)
include I

theorem Ins.la (hal : ∀ sl h i, (2 : ℝ) ^ (-300 : ℝ) ≤ al sl h i) (sl : Fin 3) (h : Fin 8) (i : Fin 128) :
    kernelRun.sl.v21 (F := Ideal) c arg8 f8 (ix3 sl h i) = ((lg2 (al sl h i) : ℝ) : EReal) := by
  pointwise [kernelRun.sl.v21, kernelRun.sl.v20, kernelRun.sl.v19, kernelRun.sl.v18, kernelRun.sl.v17, kernelRun.sl.v16, kernelRun.sl.v15, kernelRun.sl.cst_12, kernelRun.sl.cst_13]
  have hp : 0 < al sl h i := lt_of_lt_of_le (Real.rpow_pos_of_pos (by norm_num) _) (hal sl h i)
  rw [rd3, I.al, two_eq, log2_pos hp, floor_eq]
  refine max_eq_left (EReal.coe_le_coe_iff.mpr ?_)
  exact le_lg2 hp (hal sl h i)

theorem Ins.ls (sl : Fin 3) (h : Fin 8) (i : Fin 128) :
    kernelRun.sl.v32 (F := Ideal) c arg10 f10 (ix3 sl h i) = Ideal.div (Ideal.log ((ks sl h i : ℝ) : EReal)) (Ideal.log ((2 : ℝ) : EReal)) := by
  pointwise [kernelRun.sl.v32, kernelRun.sl.v29, kernelRun.sl.v25, kernelRun.sl.v18, kernelRun.sl.v17, kernelRun.sl.cst_12]
  rw [rd3, I.ks, two_eq]

theorem Ins.sb (sl : Fin 3) (h : Fin 8) (i : Fin 128) :
    kernelRun.sl.v26 (F := Ideal) c arg9 arg10 f9 f10 (ix3 sl h i) = ((be sl h i * ks sl h i : ℝ) : EReal) := by
  pointwise [kernelRun.sl.v26, kernelRun.sl.v23, kernelRun.sl.v25]
  rw [rd3, rd3, I.be, I.ks, EReal.coe_mul]

theorem Ins.id0 (h : Fin 8) (i : Fin 128) : kernelRun.sl.v11 (F := Ideal) c arg11 f11 (ix2 h i) = id 0 h i := by
  pointwise [kernelRun.sl.v11]
  exact (rd11 arg11 f11 0 _ h i rfl).trans (I.id 0 h i)
theorem Ins.id1 (h : Fin 8) (i : Fin 128) : kernelRun.sl.v13 (F := Ideal) c arg11 f11 (ix2 h i) = id 1 h i := by
  pointwise [kernelRun.sl.v13]
  exact (rd11 arg11 f11 1 _ h i rfl).trans (I.id 1 h i)

/-- A routed memory's logarithm, step and scale at a token: the slot that names it, or nothing. -/
theorem Ins.lg (hal : ∀ sl h i, (2 : ℝ) ^ (-300 : ℝ) ≤ al sl h i) (m : Fin 4) (h : Fin 8) (i : Fin 128) :
    select (cmpi .eq (kernelRun.sl.v11 (F := Ideal) c arg11 f11) (broadcast S8x128 (BitVec.ofNat 32 m.val))) (kernelRun.sl.v38 (F := Ideal) c arg8 f8)
      (select (cmpi .eq (kernelRun.sl.v13 (F := Ideal) c arg11 f11) (broadcast S8x128 (BitVec.ofNat 32 m.val))) (kernelRun.sl.v40 (F := Ideal) c arg8 f8) (kernelRun.sl.v41 (F := Ideal))) (ix2 h i)
      = ((lg2 (aR al id (m.castLE (by omega)) h i) : ℝ) : EReal) := by
  pointwise [kernelRun.sl.v41, kernelRun.sl.v40, kernelRun.sl.v39, kernelRun.sl.v38, kernelRun.sl.v37, kernelRun.sl.cst_523]
  rw [I.id0, I.id1, sel_eq, sel_eq, I.la hal, I.la hal, aR_at]
  by_cases p : id 0 h i = BitVec.ofNat 32 m.val
  · rw [if_pos p, if_pos p]
  · rw [if_neg p, if_neg p]
    by_cases p' : id 1 h i = BitVec.ofNat 32 m.val
    · rw [if_pos p', if_pos p']
    · rw [if_neg p', if_neg p', lg2, Real.log_one, zero_div, EReal.coe_zero]; try exact zero_eq

theorem Ins.bs (m : Fin 4) (h : Fin 8) (i : Fin 128) :
    select (cmpi .eq (kernelRun.sl.v11 (F := Ideal) c arg11 f11) (broadcast S8x128 (BitVec.ofNat 32 m.val))) (kernelRun.sl.v45 (F := Ideal) c arg9 arg10 f9 f10)
      (select (cmpi .eq (kernelRun.sl.v13 (F := Ideal) c arg11 f11) (broadcast S8x128 (BitVec.ofNat 32 m.val))) (kernelRun.sl.v47 (F := Ideal) c arg9 arg10 f9 f10) (kernelRun.sl.v41 (F := Ideal))) (ix2 h i)
      = ((bR be id (m.castLE (by omega)) h i * sR ks id (m.castLE (by omega)) h i : ℝ) : EReal) := by
  pointwise [kernelRun.sl.v41, kernelRun.sl.v45, kernelRun.sl.v44, kernelRun.sl.v46, kernelRun.sl.v47, kernelRun.sl.cst_523]
  rw [I.id0, I.id1, sel_eq, sel_eq, I.sb, I.sb, bR_at, sR_at]
  by_cases p : id 0 h i = BitVec.ofNat 32 m.val
  · rw [if_pos p, if_pos p, if_pos p]
  · rw [if_neg p, if_neg p, if_neg p]
    by_cases p' : id 1 h i = BitVec.ofNat 32 m.val
    · rw [if_pos p', if_pos p']
    · rw [if_neg p', if_neg p', zero_mul, EReal.coe_zero]; try exact zero_eq

theorem Ins.gl (m : Fin 4) (h : Fin 8) (i : Fin 128) :
    select (cmpi .eq (kernelRun.sl.v11 (F := Ideal) c arg11 f11) (broadcast S8x128 (BitVec.ofNat 32 m.val))) (kernelRun.sl.v61 (F := Ideal) c arg10 f10) (kernelRun.sl.v63 (F := Ideal) c arg10 f10) (ix2 h i)
      = Ideal.div (Ideal.log ((sR ks id (m.castLE (by omega)) h i : ℝ) : EReal)) (Ideal.log ((2 : ℝ) : EReal)) := by
  pointwise [kernelRun.sl.v61, kernelRun.sl.v63, kernelRun.sl.v60, kernelRun.sl.v62]
  rw [I.id0, sel_eq, I.ls, I.ls, sR_at]
  by_cases p : id 0 h i = BitVec.ofNat 32 m.val
  · rw [if_pos p, if_pos p]
  · rw [if_neg p, if_neg p]

theorem Ins.ql (m : Fin 4) (h : Fin 8) (i : Fin 128) :
    select (cmpi .eq (kernelRun.sl.v11 (F := Ideal) c arg11 f11) (broadcast S8x128 (BitVec.ofNat 32 m.val))) (kernelRun.sl.v65 (F := Ideal)) (kernelRun.sl.v41 (F := Ideal)) (ix2 h i)
      = if qR id m h i then (1 : EReal) else 0 := by
  pointwise [kernelRun.sl.v65, kernelRun.sl.v41, kernelRun.sl.cst, kernelRun.sl.cst_523]
  rw [I.id0, sel_eq]
  by_cases p : id 0 h i = BitVec.ofNat 32 m.val
  · rw [if_pos p, if_pos (by simp [qR, p])]; try exact one_eq
  · rw [if_neg p, if_neg (by simp [qR, p])]; try exact zero_eq

/-- The shared memory's. -/
theorem Ins.lg4 (hal : ∀ sl h i, (2 : ℝ) ^ (-300 : ℝ) ≤ al sl h i) (h : Fin 8) (i : Fin 128) :
    kernelRun.sl.v174 (F := Ideal) c arg8 f8 (ix2 h i) = ((lg2 (aR al id 4 h i) : ℝ) : EReal) := by
  pointwise [kernelRun.sl.v174, kernelRun.sl.v173]
  exact I.la hal 2 h i
theorem Ins.bs4 (h : Fin 8) (i : Fin 128) :
    kernelRun.sl.v176 (F := Ideal) c arg9 arg10 f9 f10 (ix2 h i) = ((bR be id 4 h i * sR ks id 4 h i : ℝ) : EReal) := by
  pointwise [kernelRun.sl.v176, kernelRun.sl.v175]
  exact I.sb 2 h i
theorem Ins.gl4 (h : Fin 8) (i : Fin 128) :
    kernelRun.sl.v179 (F := Ideal) c arg10 f10 (ix2 h i) = Ideal.div (Ideal.log ((sR ks id 4 h i : ℝ) : EReal)) (Ideal.log ((2 : ℝ) : EReal)) := by
  pointwise [kernelRun.sl.v179, kernelRun.sl.v178]
  exact I.ls 2 h i

/-- Row `8 m + h` of the stacked logarithms. -/
theorem Ins.lg40 (hal : ∀ sl h i, (2 : ℝ) ^ (-300 : ℝ) ≤ al sl h i) (m : Fin 5) (h : Fin 8) (i : Fin 128) (r : Fin 40) (hr : r.val = m.val * 8 + h.val) :
    kernelRun.sl.v180 (F := Ideal) c arg8 arg11 f8 f11 (ix2 r i) = ((lg2 (aR al id m h i) : ℝ) : EReal) := by
  pointwise [kernelRun.sl.v180]
  match m with
  | ⟨0, _⟩ =>
    have e : r.val = 0 + h.val := hr
    rw [dif_pos (by omega)]
    refine Eq.trans (congrArg (fun t => kernelRun.sl.v43 (F := Ideal) c arg8 arg11 f8 f11 (ix2 t i)) (Fin.ext ?_)) (I.lg hal 0 h i)
    show _ = h.val
    dsimp only
    omega
  | ⟨1, _⟩ =>
    have e : r.val = 8 + h.val := hr
    rw [dif_neg (by omega), dif_pos (by omega)]
    refine Eq.trans (congrArg (fun t => kernelRun.sl.v78 (F := Ideal) c arg8 arg11 f8 f11 (ix2 t i)) (Fin.ext ?_)) (I.lg hal 1 h i)
    show _ = h.val
    dsimp only
    omega
  | ⟨2, _⟩ =>
    have e : r.val = 16 + h.val := hr
    rw [dif_neg (by omega), dif_neg (by omega), dif_pos (by omega)]
    refine Eq.trans (congrArg (fun t => kernelRun.sl.v113 (F := Ideal) c arg8 arg11 f8 f11 (ix2 t i)) (Fin.ext ?_)) (I.lg hal 2 h i)
    show _ = h.val
    dsimp only
    omega
  | ⟨3, _⟩ =>
    have e : r.val = 24 + h.val := hr
    rw [dif_neg (by omega), dif_neg (by omega), dif_neg (by omega), dif_pos (by omega)]
    refine Eq.trans (congrArg (fun t => kernelRun.sl.v148 (F := Ideal) c arg8 arg11 f8 f11 (ix2 t i)) (Fin.ext ?_)) (I.lg hal 3 h i)
    show _ = h.val
    dsimp only
    omega
  | ⟨4, _⟩ =>
    have e : r.val = 32 + h.val := hr
    rw [dif_neg (by omega), dif_neg (by omega), dif_neg (by omega), dif_neg (by omega)]
    refine Eq.trans (congrArg (fun t => kernelRun.sl.v174 (F := Ideal) c arg8 f8 (ix2 t i)) (Fin.ext ?_)) (I.lg4 hal h i)
    show _ = h.val
    dsimp only
    omega

/-- Row `8 m + h` of their running sums. -/
theorem Ins.sum40 (hal : ∀ sl h i, (2 : ℝ) ^ (-300 : ℝ) ≤ al sl h i) (m : Fin 5) (h : Fin 8) (i : Fin 128) (r : Fin 40) (hr : r.val = m.val * 8 + h.val) :
    kernelRun.sl.v192 (F := Ideal) c arg8 arg11 f8 f11 (ix2 r i) = ((gR al id m h i : ℝ) : EReal) := by
  have hz : kernelRun.sl.cst_89 (F := Ideal) (ix2 r i) = (0 : EReal) := zero_eq
  have hs : ∀ x : Fin 128, Scalar.select (IntOp.cmpi CmpIPredicate.sle (kernelRun.sl.v3 (ix2 x i)) (kernelRun.sl.v4 (ix2 x i))) (kernelRun.sl.cst (F := Ideal)) (kernelRun.sl.cst_523 (F := Ideal))
      = (((if x.val ≤ i.val then (1 : ℝ) else 0) : ℝ) : EReal) := by
    intro x
    have e3 : kernelRun.sl.v3 (ix2 x i) = BitVec.ofNat 32 x.val := by pointwise [kernelRun.sl.v3]
    have e4 : kernelRun.sl.v4 (ix2 x i) = BitVec.ofNat 32 i.val := by pointwise [kernelRun.sl.v4]
    have hc : ∀ a b : Fin 128, IntOp.cmpi .sle (BitVec.ofNat 32 a.val) (BitVec.ofNat 32 b.val) = BitVec.ofBool (decide (a.val ≤ b.val)) := by decide +kernel
    rw [e3, e4, hc]
    by_cases p : x.val ≤ i.val
    · rw [if_pos p]; simp only [p, decide_true]; exact one_eq
    · rw [if_neg p]; simp only [p, decide_false]; exact zero_eq
  pointwise [kernelRun.sl.v192, kernelRun.sl.v191, kernelRun.sl.v190, kernelRun.sl.v189, kernelRun.sl.v188, kernelRun.sl.v187, kernelRun.sl.v186, kernelRun.sl.v184, kernelRun.sl.v183, kernelRun.sl.v181, kernelRun.sl.v9, kernelRun.sl.v8, kernelRun.sl.v7, kernelRun.sl.v6]
  simp only [hz, hs, I.lg40 hal m h _ r hr, sub_self_coe, zero_mul, Finset.sum_const_zero, zero_add, add_zero, sub_zero]
  rw [gR, ← sum_upto (fun j => lg2 (aR al id m h j)) i, coe_sum]
  exact Finset.sum_congr rfl fun x _ => (EReal.coe_mul _ _).symm

end Pro

end Cert.KernelIdeal.Hand

end
end
-- ==== Proof.DataVal.lean ====
/- The arguments as real numbers, and every memory's state after a number of tokens. -/
module

public import proofs.«01_k».proof.Proof.ProVal

@[expose] public section

noncomputable section

namespace Cert.KernelIdeal.Hand

open Cert.KernelIdeal Cert.KernelIdeal.Gen
open Idealize.ShloMosaic

/-- Token `t`, or the last. -/
def tk (t : ℕ) : Fin 1536 := ⟨min t 1535, by omega⟩

theorem tk_of {t : ℕ} (h : t < 1536) : tk t = ⟨t, h⟩ := Fin.ext (by show min t 1535 = t; omega)

/-- Head `h` of head group `g`. -/
def hd8 (g : Fin 3) (h : Fin 8) : Fin 24 := ⟨8 * g.val + h.val, by omega⟩

def Kd (A : S6x1536x3x24x128.Idx → EReal) (b : Fin 6) (H : Fin 24) (t : ℕ) (sl : Fin 3) (z : Fin 128) : ℝ := (A (ix5 b (tk t) sl H z)).toReal
def Vd (A : S6x1536x3x24x256.Idx → EReal) (b : Fin 6) (H : Fin 24) (t : ℕ) (sl : Fin 3) (z : Fin 256) : ℝ := (A (ix5 b (tk t) sl H z)).toReal
def Gd (A : S6x1536x3x24.Idx → EReal) (b : Fin 6) (H : Fin 24) (sl : Fin 3) (t : ℕ) : ℝ := (A (ix4 b (tk t) sl H)).toReal
def Id (A : S6x1536x24x2.Idx → BitVec 32) (b : Fin 6) (H : Fin 24) (r : Fin 2) (t : ℕ) : BitVec 32 := A (ix4 b (tk t) H r)

section
variable (A1 : S6x1536x3x24x128.Idx → EReal) (A2 : S6x1536x3x24.Idx → EReal) (A3 : S6x1536x3x24x256.Idx → EReal)
  (A4 A5 : S6x1536x3x24.Idx → EReal) (A6 : S6x1536x24x2.Idx → BitVec 32)

/-- Batch `b`'s memory `m` of head `H` after `n` tokens. -/
def FS (b : Fin 6) (m : Fin 5) (H : Fin 24) (n : ℕ) : Fin 128 → Fin 256 → ℝ :=
  Chunk.run (aR (fun sl _ t => Gd A4 b H sl t) (fun r _ t => Id A6 b H r t) m 0) (sR (fun sl _ t => Gd A2 b H sl t) (fun r _ t => Id A6 b H r t) m 0)
    (bR (fun sl _ t => Gd A5 b H sl t) (fun r _ t => Id A6 b H r t) m 0) (kM (fun t sl _ => Kd A1 b H t sl) (qR (fun r _ t => Id A6 b H r t)) m 0)
    (vM (fun t sl _ => Vd A3 b H t sl) (qR (fun r _ t => Id A6 b H r t)) m 0) (fun _ _ => 0) n

theorem FS_add (b : Fin 6) (m : Fin 5) (g : Fin 3) (h : Fin 8) (o n : ℕ) :
    FS A1 A2 A3 A4 A5 A6 b m (hd8 g h) (o + n)
      = Chunk.run (aR (fun sl h i => Gd A4 b (hd8 g h) sl (o + i)) (fun r h i => Id A6 b (hd8 g h) r (o + i)) m h)
        (sR (fun sl h i => Gd A2 b (hd8 g h) sl (o + i)) (fun r h i => Id A6 b (hd8 g h) r (o + i)) m h)
        (bR (fun sl h i => Gd A5 b (hd8 g h) sl (o + i)) (fun r h i => Id A6 b (hd8 g h) r (o + i)) m h)
        (kM (fun i sl h => Kd A1 b (hd8 g h) (o + i) sl) (qR (fun r h i => Id A6 b (hd8 g h) r (o + i))) m h)
        (vM (fun i sl h => Vd A3 b (hd8 g h) (o + i) sl) (qR (fun r h i => Id A6 b (hd8 g h) r (o + i))) m h)
        (FS A1 A2 A3 A4 A5 A6 b m (hd8 g h) o) n := by
  unfold FS; rw [Chunk.run_add]; rfl

/-- Every float is a real number, no decay is below `2^(-300)` and no scale is negative. -/
structure Good : Prop where
  k : ∀ j, A1 j = ((A1 j).toReal : EReal)
  ks : ∀ j, A2 j = ((A2 j).toReal : EReal)
  v : ∀ j, A3 j = ((A3 j).toReal : EReal)
  al : ∀ j, A4 j = ((A4 j).toReal : EReal)
  be : ∀ j, A5 j = ((A5 j).toReal : EReal)
  ks0 : ∀ j, 0 ≤ (A2 j).toReal
  al0 : ∀ j, (2 : ℝ) ^ (-300 : ℝ) ≤ (A4 j).toReal

end

end Cert.KernelIdeal.Hand

end
-- ==== Proof.LaunchData.lean ====
/- The pipeline's data with the state's values, and what the body finds in each input window. -/
module

public import proofs.«01_k».proof.Proof.BodyIdeal
public import proofs.«01_k».proof.Proof.DataVal
public import Idealize.ShloMosaic.Lib.StableHlo.Run
public import Idealize.ShloMosaic.Lib.StableHlo.RunRead
public import Idealize.ShloMosaic.Lib.Pipeline.Frame
public import Idealize.ShloMosaic.Lib.Pipeline.FrameBody
public import Idealize.ShloMosaic.Lib.Pipeline.ArrRel
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

/-- Core `c`'s buffers when the region is entered: after the host operations. -/
abbrev V (c : Dev nD) (b : Ref sig .tc) : Buf (Elt Ideal) ((c : Thread nD τ).loc b) := StableHlo.after hostOps0 (fun b => m (c, b)) b

theorem hostOps0_fresh : (hostOps0 : List (HloOp τ sig (Elt Ideal))).Forall fun op => op.fresh = ∅ := by
  simp only [List.Forall]; repeat' constructor

theorem V_of (c : Dev nD) (b : Ref sig .tc) (h : b ≠ main_v0 ∧ b ≠ main_v1 ∧ b ≠ main_v2 ∧ b ≠ main_v3 ∧ b ≠ main_v4 ∧ b ≠ main_v5 ∧ b ≠ main_c ∧ b ≠ main_v6) :
    V m c b = m ((c : Thread nD τ).loc b) :=
  StableHlo.after_of_forall_not_mem (b := Proc.devRef .tc b) _ _ (List.forall_iff_forall_mem.mp (by
    obtain ⟨h0, h1, h2, h3, h4, h5, h6, h7⟩ := h
    simp only [hostOps0, List.Forall, StableHlo.nullary_writes, StableHlo.unary_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7⟩))

theorem V_v0 (c : Dev nD) : V m c main_v0 = (Host.convertf .fp8e4m3 : FVec Ideal S6x1536x3x24x128 .f32 → _) (m ((c : Thread nD τ).loc main_arg1)) := by
  unfold V hostOps0; after_reads_simp
theorem V_v1 (c : Dev nD) : V m c main_v1 = transpose S6x3x24x1536 [0, 2, 3, 1] (m ((c : Thread nD τ).loc main_arg4)) transposes_S6x1536x3x24_S6x3x24x1536_0_2_3_1 := by
  unfold V hostOps0; after_reads_simp
theorem V_v2 (c : Dev nD) : V m c main_v2 = transpose S6x3x24x1536 [0, 2, 3, 1] (m ((c : Thread nD τ).loc main_arg5)) transposes_S6x1536x3x24_S6x3x24x1536_0_2_3_1 := by
  unfold V hostOps0; after_reads_simp
theorem V_v3 (c : Dev nD) : V m c main_v3 = transpose S6x3x24x1536 [0, 2, 3, 1] (m ((c : Thread nD τ).loc main_arg2)) transposes_S6x1536x3x24_S6x3x24x1536_0_2_3_1 := by
  unfold V hostOps0; after_reads_simp
theorem V_v4 (c : Dev nD) : V m c main_v4 = transpose S6x2x24x1536 [0, 3, 2, 1] (m ((c : Thread nD τ).loc main_arg6)) transposes_S6x1536x24x2_S6x2x24x1536_0_3_2_1 := by
  unfold V hostOps0; after_reads_simp

/-- The one prefetched table at the contents the host operations leave (the kernel never reads it). -/
def tbl : pre0.Contents (Elt Ideal) := fun k => V m 0 (pre0.ref k)

def adm (p : Fin 1) : (pcfgs (F := Ideal) p).Adm := ⟨tbl m, trivial⟩

abbrev cfgA : Pipeline.Cfg sig Λ₀ := Pipeline.pin (pcfgs (F := Ideal)) (adm m) 0

theorem hmain (𝒱₀ : Variants) : Pipeline.HMainP (Ix := Unit) (Name := ℕ) (U := UR sig nD τ) (Lvl := ℕ) (pcfgs (F := Ideal)) 0 defs₀ 𝒱₀ m (main (F := Ideal)) (V m) :=
  Pipeline.hmainP_prefix (pcfgs (F := Ideal)) 0 defs₀ 𝒱₀ m main hostOps0 hostOps0_sub hostOps0_fresh main_chain

/-- Every memory's state of core `c`'s arguments. -/
abbrev FSm (c : Dev nD) := FS (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))

/-- The state block after the point of coordinates `i`. -/
def StateAt (c : Dev nD) (i : grid0.Coords) (X : S1x5x8x128x256.Idx → EReal) : Prop :=
  ∀ mm h x y, X (ix5 0 mm h x y) = ((FSm m c (i 0) mm (hd8 (i 1) h) (128 * (i 2).val + 128) x y : ℝ) : EReal)

/-- An input window is left as found, the state block holds the state after the point's tokens, nothing is said of the other output. -/
def rdat (c : Dev nD) : Pipeline.RDat τ (Elt Ideal) Unit ℕ (UR sig nD τ) ℕ (cfgA m) c where
  A w := V m c (Pipeline.arrRef spec0 w)
  after w t := match w with
    | ⟨9, _⟩ => fun _ _ => True
    | ⟨10, _⟩ => fun _ X => StateAt m c (grid0.coords t) X
    | ⟨_, _⟩ => fun Y X => X = Y
  Φ _ := iprop(Pipeline.ΦA spec0 c ∗ Pipeline.ΦT pre0 (tbl m) c)
  q w := Pipeline.shareOf spec0 w
  owed _ := 0

theorem tr1 (i : grid0.Coords) : cc0_transform_1 i = ![(i 0).val, (i 2).val, 0, (i 1).val, 0] := by
  have h0 : (i 0).val < 6 := (i 0).isLt
  have h1 : (i 1).val < 3 := (i 1).isLt
  have h2 : (i 2).val < 12 := (i 2).isLt
  funext a; fin_cases a <;> simp [cc0_transform_1, BitVec.toNat_ofNat] <;> omega

section In
variable (c : Dev nD) (t : Fin (cfgA m).N)

theorem in1 (Y) (hY : (rdat m c).Finds 1 t Y) (i : Fin 128) (sl : Fin 3) (h : Fin 8) (z : Fin 128) :
    Y (ix5 0 i sl h z : S1x128x3x8x128.Idx) = V m c main_v0 (ix5 (grid0.coords t 0) ⟨128 * (grid0.coords t 2).val + i.val, by have := (grid0.coords t 2).isLt; have : grid0.bound 2 = 12 := rfl; omega⟩ sl (hd8 (grid0.coords t 1) h) z : S6x1536x3x24x128.Idx) := by
  obtain ⟨d, rfl⟩ := Pipeline.RDat.finds_in_eq_fetched (rdat m c) 1 rfl (fun _ _ _ => rfl) (fun _ _ _ h => h) t Y hY
  refine (show _ = V m c main_v0 ((((cfgA m).win 1).blk t).view.emb (ix5 0 i sl h z : S1x128x3x8x128.Idx)) from rfl).trans ?_
  congr 1
  funext a; apply Fin.ext
  have e := tr1 (grid0.coords t)
  refine (show _ = cc0_transform_1 (grid0.coords t) a * S1x128x3x8x128.size a + 1 * ((ix5 0 i sl h z : S1x128x3x8x128.Idx) a).val from rfl).trans ?_
  rw [e]
  fin_cases a <;> simp [ix5, hd8] <;> ring

end In

end Cert.KernelIdeal.Hand

end
-- ==== Proof.LaunchIn.lean ====
/- What the body finds in its input windows, as the arguments' real numbers. -/
module

public import proofs.«01_k».proof.Proof.LaunchData

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

theorem tr2 (i : grid0.Coords) : cc0_transform_2 i = ![(i 0).val, (i 2).val, 0, (i 1).val, 0] := by
  have h0 : (i 0).val < 6 := (i 0).isLt
  have h1 : (i 1).val < 3 := (i 1).isLt
  have h2 : (i 2).val < 12 := (i 2).isLt
  funext a; fin_cases a <;> simp [cc0_transform_2, BitVec.toNat_ofNat] <;> omega

theorem tr3 (i : grid0.Coords) : cc0_transform_3 i = ![(i 0).val, (i 2).val, 0, (i 1).val, 1] := by
  have h0 : (i 0).val < 6 := (i 0).isLt
  have h1 : (i 1).val < 3 := (i 1).isLt
  have h2 : (i 2).val < 12 := (i 2).isLt
  funext a; fin_cases a <;> simp [cc0_transform_3, BitVec.toNat_ofNat] <;> omega

theorem tr4 (i : grid0.Coords) : cc0_transform_4 i = ![(i 0).val, 0, (i 1).val, (i 2).val] := by
  have h0 : (i 0).val < 6 := (i 0).isLt
  have h1 : (i 1).val < 3 := (i 1).isLt
  have h2 : (i 2).val < 12 := (i 2).isLt
  funext a; fin_cases a <;> simp [cc0_transform_4, BitVec.toNat_ofNat] <;> omega

theorem tr5 (i : grid0.Coords) : cc0_transform_5 i = ![(i 0).val, 0, (i 1).val, (i 2).val] := by
  have h0 : (i 0).val < 6 := (i 0).isLt
  have h1 : (i 1).val < 3 := (i 1).isLt
  have h2 : (i 2).val < 12 := (i 2).isLt
  funext a; fin_cases a <;> simp [cc0_transform_5, BitVec.toNat_ofNat] <;> omega

theorem tr6 (i : grid0.Coords) : cc0_transform_6 i = ![(i 0).val, 0, (i 1).val, (i 2).val] := by
  have h0 : (i 0).val < 6 := (i 0).isLt
  have h1 : (i 1).val < 3 := (i 1).isLt
  have h2 : (i 2).val < 12 := (i 2).isLt
  funext a; fin_cases a <;> simp [cc0_transform_6, BitVec.toNat_ofNat] <;> omega

theorem tr7 (i : grid0.Coords) : cc0_transform_7 i = ![(i 0).val, 0, (i 1).val, (i 2).val] := by
  have h0 : (i 0).val < 6 := (i 0).isLt
  have h1 : (i 1).val < 3 := (i 1).isLt
  have h2 : (i 2).val < 12 := (i 2).isLt
  funext a; fin_cases a <;> simp [cc0_transform_7, BitVec.toNat_ofNat] <;> omega

section In
variable (c : Dev nD) (t : Fin (cfgA m).N)

/-- Token `i` of the point's chunk. -/
theorem tkc (i : Fin 128) : 128 * (grid0.coords t 2).val + i.val < 1536 := by
  have h : (grid0.coords t 2).val < 12 := (grid0.coords t 2).isLt
  omega

theorem in2 (Y) (hY : (rdat m c).Finds 2 t Y) (i : Fin 128) (sl : Fin 3) (h : Fin 8) (z : Fin 128) :
    Y (ix5 0 i sl h z : S1x128x3x8x128.Idx) = V m c main_arg3 (ix5 (grid0.coords t 0) ⟨128 * (grid0.coords t 2).val + i.val, tkc m t i⟩ sl (hd8 (grid0.coords t 1) h) ⟨z.val, by omega⟩ : S6x1536x3x24x256.Idx) := by
  obtain ⟨d, rfl⟩ := Pipeline.RDat.finds_in_eq_fetched (rdat m c) 2 rfl (fun _ _ _ => rfl) (fun _ _ _ h => h) t Y hY
  refine (show _ = V m c main_arg3 ((((cfgA m).win 2).blk t).view.emb (ix5 0 i sl h z : S1x128x3x8x128.Idx)) from rfl).trans ?_
  congr 1
  funext a; apply Fin.ext
  have e := tr2 (grid0.coords t)
  refine (show _ = cc0_transform_2 (grid0.coords t) a * S1x128x3x8x128.size a + 1 * ((ix5 0 i sl h z : S1x128x3x8x128.Idx) a).val from rfl).trans ?_
  rw [e]
  fin_cases a <;> simp [ix5, ix4, hd8] <;> ring

theorem in3 (Y) (hY : (rdat m c).Finds 3 t Y) (i : Fin 128) (sl : Fin 3) (h : Fin 8) (z : Fin 128) :
    Y (ix5 0 i sl h z : S1x128x3x8x128.Idx) = V m c main_arg3 (ix5 (grid0.coords t 0) ⟨128 * (grid0.coords t 2).val + i.val, tkc m t i⟩ sl (hd8 (grid0.coords t 1) h) ⟨128 + z.val, by omega⟩ : S6x1536x3x24x256.Idx) := by
  obtain ⟨d, rfl⟩ := Pipeline.RDat.finds_in_eq_fetched (rdat m c) 3 rfl (fun _ _ _ => rfl) (fun _ _ _ h => h) t Y hY
  refine (show _ = V m c main_arg3 ((((cfgA m).win 3).blk t).view.emb (ix5 0 i sl h z : S1x128x3x8x128.Idx)) from rfl).trans ?_
  congr 1
  funext a; apply Fin.ext
  have e := tr3 (grid0.coords t)
  refine (show _ = cc0_transform_3 (grid0.coords t) a * S1x128x3x8x128.size a + 1 * ((ix5 0 i sl h z : S1x128x3x8x128.Idx) a).val from rfl).trans ?_
  rw [e]
  fin_cases a <;> simp [ix5, ix4, hd8] <;> ring

theorem in4 (Y) (hY : (rdat m c).Finds 4 t Y) (sl : Fin 3) (h : Fin 8) (i : Fin 128) :
    Y (ix4 0 sl h i : S1x3x8x128.Idx) = V m c main_v1 (ix4 (grid0.coords t 0) sl (hd8 (grid0.coords t 1) h) ⟨128 * (grid0.coords t 2).val + i.val, tkc m t i⟩ : S6x3x24x1536.Idx) := by
  obtain ⟨d, rfl⟩ := Pipeline.RDat.finds_in_eq_fetched (rdat m c) 4 rfl (fun _ _ _ => rfl) (fun _ _ _ h => h) t Y hY
  refine (show _ = V m c main_v1 ((((cfgA m).win 4).blk t).view.emb (ix4 0 sl h i : S1x3x8x128.Idx)) from rfl).trans ?_
  congr 1
  funext a; apply Fin.ext
  have e := tr4 (grid0.coords t)
  refine (show _ = cc0_transform_4 (grid0.coords t) a * S1x3x8x128.size a + 1 * ((ix4 0 sl h i : S1x3x8x128.Idx) a).val from rfl).trans ?_
  rw [e]
  fin_cases a <;> simp [ix5, ix4, hd8] <;> ring

theorem in5 (Y) (hY : (rdat m c).Finds 5 t Y) (sl : Fin 3) (h : Fin 8) (i : Fin 128) :
    Y (ix4 0 sl h i : S1x3x8x128.Idx) = V m c main_v2 (ix4 (grid0.coords t 0) sl (hd8 (grid0.coords t 1) h) ⟨128 * (grid0.coords t 2).val + i.val, tkc m t i⟩ : S6x3x24x1536.Idx) := by
  obtain ⟨d, rfl⟩ := Pipeline.RDat.finds_in_eq_fetched (rdat m c) 5 rfl (fun _ _ _ => rfl) (fun _ _ _ h => h) t Y hY
  refine (show _ = V m c main_v2 ((((cfgA m).win 5).blk t).view.emb (ix4 0 sl h i : S1x3x8x128.Idx)) from rfl).trans ?_
  congr 1
  funext a; apply Fin.ext
  have e := tr5 (grid0.coords t)
  refine (show _ = cc0_transform_5 (grid0.coords t) a * S1x3x8x128.size a + 1 * ((ix4 0 sl h i : S1x3x8x128.Idx) a).val from rfl).trans ?_
  rw [e]
  fin_cases a <;> simp [ix5, ix4, hd8] <;> ring

theorem in6 (Y) (hY : (rdat m c).Finds 6 t Y) (sl : Fin 3) (h : Fin 8) (i : Fin 128) :
    Y (ix4 0 sl h i : S1x3x8x128.Idx) = V m c main_v3 (ix4 (grid0.coords t 0) sl (hd8 (grid0.coords t 1) h) ⟨128 * (grid0.coords t 2).val + i.val, tkc m t i⟩ : S6x3x24x1536.Idx) := by
  obtain ⟨d, rfl⟩ := Pipeline.RDat.finds_in_eq_fetched (rdat m c) 6 rfl (fun _ _ _ => rfl) (fun _ _ _ h => h) t Y hY
  refine (show _ = V m c main_v3 ((((cfgA m).win 6).blk t).view.emb (ix4 0 sl h i : S1x3x8x128.Idx)) from rfl).trans ?_
  congr 1
  funext a; apply Fin.ext
  have e := tr6 (grid0.coords t)
  refine (show _ = cc0_transform_6 (grid0.coords t) a * S1x3x8x128.size a + 1 * ((ix4 0 sl h i : S1x3x8x128.Idx) a).val from rfl).trans ?_
  rw [e]
  fin_cases a <;> simp [ix5, ix4, hd8] <;> ring

theorem in7 (Y) (hY : (rdat m c).Finds 7 t Y) (r : Fin 2) (h : Fin 8) (i : Fin 128) :
    Y (ix4 0 r h i : S1x2x8x128.Idx) = V m c main_v4 (ix4 (grid0.coords t 0) r (hd8 (grid0.coords t 1) h) ⟨128 * (grid0.coords t 2).val + i.val, tkc m t i⟩ : S6x2x24x1536.Idx) := by
  obtain ⟨d, rfl⟩ := Pipeline.RDat.finds_in_eq_fetched (rdat m c) 7 rfl (fun _ _ _ => rfl) (fun _ _ _ h => h) t Y hY
  refine (show _ = V m c main_v4 ((((cfgA m).win 7).blk t).view.emb (ix4 0 r h i : S1x2x8x128.Idx)) from rfl).trans ?_
  congr 1
  funext a; apply Fin.ext
  have e := tr7 (grid0.coords t)
  refine (show _ = cc0_transform_7 (grid0.coords t) a * S1x2x8x128.size a + 1 * ((ix4 0 r h i : S1x2x8x128.Idx) a).val from rfl).trans ?_
  rw [e]
  fin_cases a <;> simp [ix5, ix4, hd8] <;> ring

end In

theorem rd_v0 (c : Dev nD) (j : S6x1536x3x24x128.Idx) : V m c main_v0 j = m ((c : Thread nD τ).loc main_arg1) j := by
  rw [V_v0]; rfl
theorem rd_v1 (c : Dev nD) (b : Fin 6) (sl : Fin 3) (h : Fin 24) (t : Fin 1536) :
    V m c main_v1 (ix4 b sl h t : S6x3x24x1536.Idx) = m ((c : Thread nD τ).loc main_arg4) (ix4 b t sl h : S6x1536x3x24.Idx) := by
  rw [V_v1]
  pointwise
theorem rd_v2 (c : Dev nD) (b : Fin 6) (sl : Fin 3) (h : Fin 24) (t : Fin 1536) :
    V m c main_v2 (ix4 b sl h t : S6x3x24x1536.Idx) = m ((c : Thread nD τ).loc main_arg5) (ix4 b t sl h : S6x1536x3x24.Idx) := by
  rw [V_v2]
  pointwise
theorem rd_v3 (c : Dev nD) (b : Fin 6) (sl : Fin 3) (h : Fin 24) (t : Fin 1536) :
    V m c main_v3 (ix4 b sl h t : S6x3x24x1536.Idx) = m ((c : Thread nD τ).loc main_arg2) (ix4 b t sl h : S6x1536x3x24.Idx) := by
  rw [V_v3]
  pointwise
theorem rd_v4 (c : Dev nD) (b : Fin 6) (r : Fin 2) (h : Fin 24) (t : Fin 1536) :
    V m c main_v4 (ix4 b r h t : S6x2x24x1536.Idx) = m ((c : Thread nD τ).loc main_arg6) (ix4 b t h r : S6x1536x24x2.Idx) := by
  rw [V_v4]
  pointwise

/-- The arguments are real numbers in range. -/
abbrev GoodM (c : Dev nD) : Prop := Good (m ((c : Thread nD τ).loc main_arg1)) (m ((c : Thread nD τ).loc main_arg2)) (m ((c : Thread nD τ).loc main_arg3))
  (m ((c : Thread nD τ).loc main_arg4)) (m ((c : Thread nD τ).loc main_arg5))

section
variable (c : Dev nD) (t : Fin (cfgA m).N) (G : GoodM m c)
include G

/-- The body's inputs at point `t`. -/
theorem ins_at (Y1 Y2 Y3 Y4 Y5 Y6 Y7) (h1 : (rdat m c).Finds 1 t Y1) (h2 : (rdat m c).Finds 2 t Y2) (h3 : (rdat m c).Finds 3 t Y3)
    (h4 : (rdat m c).Finds 4 t Y4) (h5 : (rdat m c).Finds 5 t Y5) (h6 : (rdat m c).Finds 6 t Y6) (h7 : (rdat m c).Finds 7 t Y7)
    (arg5 : Memref sig .tc .vmem S1x128x3x8x128 .fp8e4m3) (arg6 arg7 : Memref sig .tc .vmem S1x128x3x8x128 .bf16) (arg8 arg9 arg10 : Memref sig .tc .vmem S1x3x8x128 .f32) (arg11 : Memref sig .tc .vmem S1x2x8x128 .i32)
    (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ)))
    (e1 : arg5.view.read (Elt Ideal) f5 = Y1) (e2 : arg6.view.read (Elt Ideal) f6 = Y2) (e3 : arg7.view.read (Elt Ideal) f7 = Y3)
    (e4 : arg8.view.read (Elt Ideal) f8 = Y4) (e5 : arg9.view.read (Elt Ideal) f9 = Y5) (e6 : arg10.view.read (Elt Ideal) f10 = Y6) (e7 : arg11.view.read (Elt Ideal) f11 = Y7) :
    Ins c arg5 arg6 arg7 arg8 arg9 arg10 arg11 f5 f6 f7 f8 f9 f10 f11
      (fun i sl h => Kd (m ((c : Thread nD τ).loc main_arg1)) (grid0.coords t 0) (hd8 (grid0.coords t 1) h) (128 * (grid0.coords t 2).val + i) sl)
      (fun i sl h => Vd (m ((c : Thread nD τ).loc main_arg3)) (grid0.coords t 0) (hd8 (grid0.coords t 1) h) (128 * (grid0.coords t 2).val + i) sl)
      (fun sl h i => Gd (m ((c : Thread nD τ).loc main_arg4)) (grid0.coords t 0) (hd8 (grid0.coords t 1) h) sl (128 * (grid0.coords t 2).val + i))
      (fun sl h i => Gd (m ((c : Thread nD τ).loc main_arg5)) (grid0.coords t 0) (hd8 (grid0.coords t 1) h) sl (128 * (grid0.coords t 2).val + i))
      (fun sl h i => Gd (m ((c : Thread nD τ).loc main_arg2)) (grid0.coords t 0) (hd8 (grid0.coords t 1) h) sl (128 * (grid0.coords t 2).val + i))
      (fun r h i => Id (m ((c : Thread nD τ).loc main_arg6)) (grid0.coords t 0) (hd8 (grid0.coords t 1) h) r (128 * (grid0.coords t 2).val + i)) where
  k i sl h z := by
    rw [e1, in1 m c t Y1 h1, rd_v0]; unfold Kd; rw [tk_of (tkc m t i)]; exact G.k _
  v0 i sl h z := by
    rw [e2, in2 m c t Y2 h2, V_of m c main_arg3 (by decide)]; unfold Vd; rw [tk_of (tkc m t i)]; exact G.v _
  v1 i sl h z := by
    rw [e3, in3 m c t Y3 h3, V_of m c main_arg3 (by decide)]; unfold Vd; rw [tk_of (tkc m t i)]; exact G.v _
  al sl h i := by
    rw [e4, in4 m c t Y4 h4]; refine (rd_v1 m c _ _ _ _).trans ?_; unfold Gd; rw [tk_of (tkc m t i)]; exact G.al _
  be sl h i := by
    rw [e5, in5 m c t Y5 h5]; refine (rd_v2 m c _ _ _ _).trans ?_; unfold Gd; rw [tk_of (tkc m t i)]; exact G.be _
  ks sl h i := by
    rw [e6, in6 m c t Y6 h6]; refine (rd_v3 m c _ _ _ _).trans ?_; unfold Gd; rw [tk_of (tkc m t i)]; exact G.ks _
  id r h i := by
    rw [e7, in7 m c t Y7 h7]; refine (rd_v4 m c _ _ _ _).trans ?_; unfold Id; rw [tk_of (tkc m t i)]

end

end Cert.KernelIdeal.Hand

end
-- ==== Proof.ProValV.lean ====
module

public import proofs.«01_k».proof.Proof.ProVal

@[expose] public section

set_option maxRecDepth 16384

noncomputable section

/-! # What the prologue leaves of the values -/

namespace Cert.KernelIdeal.Hand

open Cert.KernelIdeal Cert.KernelIdeal.Gen
open Idealize.ShloMosaic Idealize.ShloMosaic.TcCoe

section Pro

variable {c : Dev nD}

theorem rd6 (arg : Memref sig .tc .vmem S1x128x3x8x128 .bf16) (f : Buf (Elt Ideal) (arg.view.loc (c : Thread nD τ))) {off : Fin 5 → ℕ} (inb) (sl : Fin 3) (jj : Fin 4) (i : Fin 128) (hh : Fin 2) (z : Fin 128) (e : off = ![0, 0, sl.val, 2 * jj.val, 0]) :
    View.readAt (Elt Ideal) arg.view (Rect.unit (s := S1x128x3x8x128) off S1x128x1x2x128.size inb).toLoadRect f (ix5 0 i 0 hh z) = arg.view.read (Elt Ideal) f (ix5 0 i sl (hd jj hh) z) := by
  subst e; rw [View.readAt_apply]; congr 1
  funext a; apply Fin.ext; fin_cases a <;> simp [LoadRect.idx, Rect.toLoadRect, Rect.unit, ix5, hd]

theorem pay_at (R : Vec Ideal S1x128x1x2x128 .bf16) (r : Fin 256) (z : Fin 128) :
    k0_pay1096 R (ix5 0 0 0 r z) = R (ix5 0 ⟨r.val / 2, by omega⟩ 0 ⟨r.val % 2, by omega⟩ z) := by
  pointwise [k0_pay1096]
  have e : r.val % 2 = 0 ∨ r.val % 2 = 1 := by omega
  rcases e with e | e
  · rw [if_pos e]; exact congrArg (fun p => R (ix5 0 _ 0 p z)) (Fin.ext e.symm)
  · rw [if_neg (by omega)]; exact congrArg (fun p => R (ix5 0 _ 0 p z)) (Fin.ext e.symm)

variable (arg17 : Memref sig .tc .vmem S4x3x2x256x128 .bf16) (T : Fin 4 → Fin 3 → Fin 2 → Fin 256 → Fin 128 → EReal)

/-- The first `n` blocks, counted along pair, slot and half, hold what they should. -/
def OkV (f : Buf (Elt Ideal) (arg17.view.loc (c : Thread nD τ))) (n : ℕ) (L : List (View.Piece (Elt Ideal) S4x3x2x256x128 .bf16)) : Prop :=
  ∀ (jj : Fin 4) (sl : Fin 3) (p : Fin 2) (r : Fin 256) (z : Fin 128), 6 * jj.val + 2 * sl.val + p.val < n →
    arg17.view.read (Elt Ideal) (arg17.view.writes (Elt Ideal) f L) (ix5 jj sl p r z) = T jj sl p r z

theorem ix17 (jj : Fin 4) (sl : Fin 3) (p : Fin 2) (r : Fin 256) (z : Fin 128) (a : Fin 5) : ((ix5 jj sl p r z : S4x3x2x256x128.Idx) a).val
    = (![jj.val, sl.val, p.val, 0, 0] : Fin 5 → ℕ) a + ((ix5 0 0 0 r z : S1x1x1x256x128.Idx) a).val := by
  match a with
  | ⟨0, _⟩ => rfl
  | ⟨1, _⟩ => rfl
  | ⟨2, _⟩ => rfl
  | ⟨3, _⟩ => exact (Nat.zero_add _).symm
  | ⟨4, _⟩ => exact (Nat.zero_add _).symm

theorem OkV.nil (f : Buf (Elt Ideal) (arg17.view.loc (c : Thread nD τ))) : OkV arg17 T f 0 [] := fun _ _ _ _ _ h => absurd h (Nat.not_lt_zero _)

variable {arg17 T}

theorem OkV.cons {f : Buf (Elt Ideal) (arg17.view.loc (c : Thread nD τ))} {n : ℕ} {L : List (View.Piece (Elt Ideal) S4x3x2x256x128 .bf16)} (hL : OkV arg17 T f n L)
    (jj : Fin 4) (sl : Fin 3) (p : Fin 2) {off : Fin 5 → ℕ} (inb) (w : FVec Ideal S1x1x1x256x128 .bf16) (e : off = ![jj.val, sl.val, p.val, 0, 0])
    (hn : n = 6 * jj.val + 2 * sl.val + p.val) (hw : ∀ r z, w (ix5 0 0 0 r z) = T jj sl p r z) :
    OkV arg17 T f (n + 1) (⟨Rect.unit (s := S4x3x2x256x128) off S1x1x1x256x128.size inb, w⟩ :: L) := by
  intro jj' sl' p' r z hlt
  by_cases hj : jj'.val = jj.val
  · by_cases hs : sl'.val = sl.val
    · by_cases hp : p'.val = p.val
      · obtain rfl := Fin.ext hj
        obtain rfl := Fin.ext hs
        obtain rfl := Fin.ext hp
        exact (View.read_writes_cons_unit_of_mem arg17.view f inb w L (ix5 jj' sl' p' r z) (ix5 0 0 0 r z : S1x1x1x256x128.Idx) e (ix17 jj' sl' p' r z)).trans (hw r z)
      · have h1 : p'.val < p.val ∨ p.val + 1 ≤ p'.val := by omega
        exact (View.read_writes_cons_unit_of_not_mem arg17.view f inb w L (ix5 jj' sl' p' r z) e (2 : Fin 5) h1).trans (hL jj' sl' p' r z (by omega))
    · have h1 : sl'.val < sl.val ∨ sl.val + 1 ≤ sl'.val := by omega
      exact (View.read_writes_cons_unit_of_not_mem arg17.view f inb w L (ix5 jj' sl' p' r z) e (1 : Fin 5) h1).trans (hL jj' sl' p' r z (by omega))
  · have h1 : jj'.val < jj.val ∨ jj.val + 1 ≤ jj'.val := by omega
    exact (View.read_writes_cons_unit_of_not_mem arg17.view f inb w L (ix5 jj' sl' p' r z) e (0 : Fin 5) h1).trans (hL jj' sl' p' r z (by omega))

variable {arg5 : Memref sig .tc .vmem S1x128x3x8x128 .fp8e4m3} {arg6 : Memref sig .tc .vmem S1x128x3x8x128 .bf16}
  {arg7 : Memref sig .tc .vmem S1x128x3x8x128 .bf16} {arg8 arg9 arg10 : Memref sig .tc .vmem S1x3x8x128 .f32}
  {arg11 : Memref sig .tc .vmem S1x2x8x128 .i32}
  {f5 : Buf (Elt Ideal) (arg5.view.loc (c : Thread nD τ))} {f6 : Buf (Elt Ideal) (arg6.view.loc (c : Thread nD τ))} {f7 : Buf (Elt Ideal) (arg7.view.loc (c : Thread nD τ))}
  {f8 : Buf (Elt Ideal) (arg8.view.loc (c : Thread nD τ))} {f9 : Buf (Elt Ideal) (arg9.view.loc (c : Thread nD τ))} {f10 : Buf (Elt Ideal) (arg10.view.loc (c : Thread nD τ))}
  {f11 : Buf (Elt Ideal) (arg11.view.loc (c : Thread nD τ))}
variable {k : ℕ → Fin 3 → Fin 8 → Fin 128 → ℝ} {v : ℕ → Fin 3 → Fin 8 → Fin 256 → ℝ} {al be ks : Fin 3 → Fin 8 → ℕ → ℝ} {id : Fin 2 → Fin 8 → ℕ → BitVec 32}

/-- A value's place: pair, slot, half, then token and head of the pair interleaved. -/
def TV (v : ℕ → Fin 3 → Fin 8 → Fin 256 → ℝ) (jj : Fin 4) (sl : Fin 3) (p : Fin 2) (r : Fin 256) (z : Fin 128) : EReal :=
  ((v (r.val / 2) sl (hd jj ⟨r.val % 2, by omega⟩) ⟨128 * p.val + z.val, by omega⟩ : ℝ) : EReal)

variable (I : Ins c arg5 arg6 arg7 arg8 arg9 arg10 arg11 f5 f6 f7 f8 f9 f10 f11 k v al be ks id)
include I

theorem Ins.w0 (sl : Fin 3) (jj : Fin 4) {off : Fin 5 → ℕ} (inb) (e : off = ![0, 0, sl.val, 2 * jj.val, 0]) (r : Fin 256) (z : Fin 128) :
    k0_pay1096 (View.readAt (Elt Ideal) arg6.view (Rect.unit (s := S1x128x3x8x128) off S1x128x1x2x128.size inb).toLoadRect f6) (ix5 0 0 0 r z) = TV v jj sl 0 r z := by
  rw [pay_at, rd6 arg6 f6 inb sl jj _ _ z e, I.v0, TV]
  simp

theorem Ins.w1 (sl : Fin 3) (jj : Fin 4) {off : Fin 5 → ℕ} (inb) (e : off = ![0, 0, sl.val, 2 * jj.val, 0]) (r : Fin 256) (z : Fin 128) :
    k0_pay1096 (View.readAt (Elt Ideal) arg7.view (Rect.unit (s := S1x128x3x8x128) off S1x128x1x2x128.size inb).toLoadRect f7) (ix5 0 0 0 r z) = TV v jj sl 1 r z := by
  rw [pay_at, rd6 arg7 f7 inb sl jj _ _ z e, I.v1, TV]
  simp

theorem Ins.okV (arg17 : Memref sig .tc .vmem S4x3x2x256x128 .bf16) (f : Buf (Elt Ideal) (arg17.view.loc (c : Thread nD τ))) :
    OkV arg17 (TV v) f 24 (kernelRun.sl.H17_24 (F := Ideal) c arg6 arg7 f6 f7) := by
  have h0 := OkV.nil (c := c) arg17 (TV v) f
  have h1 := h0.cons 0 0 0 inb_S4x3x2x256x128_S1x1x1x256x128_0_0_0_0_0 _ rfl rfl (I.w0 0 0 inb_S1x128x3x8x128_S1x128x1x2x128_0_0_0_0_0 rfl)
  have h2 := h1.cons 0 0 1 inb_S4x3x2x256x128_S1x1x1x256x128_0_0_1_0_0 _ rfl rfl (I.w1 0 0 inb_S1x128x3x8x128_S1x128x1x2x128_0_0_0_0_0 rfl)
  have h3 := h2.cons 0 1 0 inb_S4x3x2x256x128_S1x1x1x256x128_0_1_0_0_0 _ rfl rfl (I.w0 1 0 inb_S1x128x3x8x128_S1x128x1x2x128_0_0_1_0_0 rfl)
  have h4 := h3.cons 0 1 1 inb_S4x3x2x256x128_S1x1x1x256x128_0_1_1_0_0 _ rfl rfl (I.w1 1 0 inb_S1x128x3x8x128_S1x128x1x2x128_0_0_1_0_0 rfl)
  have h5 := h4.cons 0 2 0 inb_S4x3x2x256x128_S1x1x1x256x128_0_2_0_0_0 _ rfl rfl (I.w0 2 0 inb_S1x128x3x8x128_S1x128x1x2x128_0_0_2_0_0 rfl)
  have h6 := h5.cons 0 2 1 inb_S4x3x2x256x128_S1x1x1x256x128_0_2_1_0_0 _ rfl rfl (I.w1 2 0 inb_S1x128x3x8x128_S1x128x1x2x128_0_0_2_0_0 rfl)
  have h7 := h6.cons 1 0 0 inb_S4x3x2x256x128_S1x1x1x256x128_1_0_0_0_0 _ rfl rfl (I.w0 0 1 inb_S1x128x3x8x128_S1x128x1x2x128_0_0_0_2_0 rfl)
  have h8 := h7.cons 1 0 1 inb_S4x3x2x256x128_S1x1x1x256x128_1_0_1_0_0 _ rfl rfl (I.w1 0 1 inb_S1x128x3x8x128_S1x128x1x2x128_0_0_0_2_0 rfl)
  have h9 := h8.cons 1 1 0 inb_S4x3x2x256x128_S1x1x1x256x128_1_1_0_0_0 _ rfl rfl (I.w0 1 1 inb_S1x128x3x8x128_S1x128x1x2x128_0_0_1_2_0 rfl)
  have h10 := h9.cons 1 1 1 inb_S4x3x2x256x128_S1x1x1x256x128_1_1_1_0_0 _ rfl rfl (I.w1 1 1 inb_S1x128x3x8x128_S1x128x1x2x128_0_0_1_2_0 rfl)
  have h11 := h10.cons 1 2 0 inb_S4x3x2x256x128_S1x1x1x256x128_1_2_0_0_0 _ rfl rfl (I.w0 2 1 inb_S1x128x3x8x128_S1x128x1x2x128_0_0_2_2_0 rfl)
  have h12 := h11.cons 1 2 1 inb_S4x3x2x256x128_S1x1x1x256x128_1_2_1_0_0 _ rfl rfl (I.w1 2 1 inb_S1x128x3x8x128_S1x128x1x2x128_0_0_2_2_0 rfl)
  have h13 := h12.cons 2 0 0 inb_S4x3x2x256x128_S1x1x1x256x128_2_0_0_0_0 _ rfl rfl (I.w0 0 2 inb_S1x128x3x8x128_S1x128x1x2x128_0_0_0_4_0 rfl)
  have h14 := h13.cons 2 0 1 inb_S4x3x2x256x128_S1x1x1x256x128_2_0_1_0_0 _ rfl rfl (I.w1 0 2 inb_S1x128x3x8x128_S1x128x1x2x128_0_0_0_4_0 rfl)
  have h15 := h14.cons 2 1 0 inb_S4x3x2x256x128_S1x1x1x256x128_2_1_0_0_0 _ rfl rfl (I.w0 1 2 inb_S1x128x3x8x128_S1x128x1x2x128_0_0_1_4_0 rfl)
  have h16 := h15.cons 2 1 1 inb_S4x3x2x256x128_S1x1x1x256x128_2_1_1_0_0 _ rfl rfl (I.w1 1 2 inb_S1x128x3x8x128_S1x128x1x2x128_0_0_1_4_0 rfl)
  have h17 := h16.cons 2 2 0 inb_S4x3x2x256x128_S1x1x1x256x128_2_2_0_0_0 _ rfl rfl (I.w0 2 2 inb_S1x128x3x8x128_S1x128x1x2x128_0_0_2_4_0 rfl)
  have h18 := h17.cons 2 2 1 inb_S4x3x2x256x128_S1x1x1x256x128_2_2_1_0_0 _ rfl rfl (I.w1 2 2 inb_S1x128x3x8x128_S1x128x1x2x128_0_0_2_4_0 rfl)
  have h19 := h18.cons 3 0 0 inb_S4x3x2x256x128_S1x1x1x256x128_3_0_0_0_0 _ rfl rfl (I.w0 0 3 inb_S1x128x3x8x128_S1x128x1x2x128_0_0_0_6_0 rfl)
  have h20 := h19.cons 3 0 1 inb_S4x3x2x256x128_S1x1x1x256x128_3_0_1_0_0 _ rfl rfl (I.w1 0 3 inb_S1x128x3x8x128_S1x128x1x2x128_0_0_0_6_0 rfl)
  have h21 := h20.cons 3 1 0 inb_S4x3x2x256x128_S1x1x1x256x128_3_1_0_0_0 _ rfl rfl (I.w0 1 3 inb_S1x128x3x8x128_S1x128x1x2x128_0_0_1_6_0 rfl)
  have h22 := h21.cons 3 1 1 inb_S4x3x2x256x128_S1x1x1x256x128_3_1_1_0_0 _ rfl rfl (I.w1 1 3 inb_S1x128x3x8x128_S1x128x1x2x128_0_0_1_6_0 rfl)
  have h23 := h22.cons 3 2 0 inb_S4x3x2x256x128_S1x1x1x256x128_3_2_0_0_0 _ rfl rfl (I.w0 2 3 inb_S1x128x3x8x128_S1x128x1x2x128_0_0_2_6_0 rfl)
  have h24 := h23.cons 3 2 1 inb_S4x3x2x256x128_S1x1x1x256x128_3_2_1_0_0 _ rfl rfl (I.w1 2 3 inb_S1x128x3x8x128_S1x128x1x2x128_0_0_2_6_0 rfl)
  exact h24

end Pro

end Cert.KernelIdeal.Hand

end
end
-- ==== Proof.LoopRun.lean ====
module

public import proofs.«01_k».proof.Proof.LoopVal

@[expose] public section

set_option maxRecDepth 16384

noncomputable section

/-! # The loop over head pairs, trip by trip -/

namespace Cert.KernelIdeal.Hand

open Cert.KernelIdeal Cert.KernelIdeal.Gen
open Idealize.ShloMosaic Idealize.ShloMosaic.TcCoe

variable {c : Dev nD} {arg14 : Memref sig .tc .vmem S1x5x8x128x256 .f32} {arg15 : Memref sig .tc .vmem S3072x128 .f32}
  {arg17 : Memref sig .tc .vmem S4x3x2x256x128 .bf16} {arg18 : Memref sig .tc .vmem S2x5x8x128 .f32} {arg19 : Memref sig .tc .vmem S2x128x128 .f32}
variable {K : ℕ → Fin 3 → Fin 8 → Fin 128 → ℝ} {V : ℕ → Fin 3 → Fin 8 → Fin 256 → ℝ} {q : Fin 4 → Fin 8 → ℕ → Bool}
    {s b g : Fin 5 → Fin 8 → ℕ → ℝ} {a : Fin 5 → Fin 8 → ℕ → ℝ}
    {f15 : Buf (Elt Ideal) (arg15.view.loc (c : Thread nD τ))} {f17 : Buf (Elt Ideal) (arg17.view.loc (c : Thread nD τ))}
    {f18 : Buf (Elt Ideal) (arg18.view.loc (c : Thread nD τ))} {f19 : Buf (Elt Ideal) (arg19.view.loc (c : Thread nD τ))}

theorem off14 (k : Fin k0_t1_loop.trips) (r : Fin 2) : k0_off14 k (BitVec.ofNat 32 r.val) = ![0, (0 : Fin 5).val, 2 * k.val + r.val, 0, 0] := k0_off14_eq k r
theorem off17 (k : Fin k0_t1_loop.trips) (r : Fin 2) : k0_off17 k (BitVec.ofNat 32 r.val) = ![0, (1 : Fin 5).val, 2 * k.val + r.val, 0, 0] := k0_off17_eq k r
theorem off20 (k : Fin k0_t1_loop.trips) (r : Fin 2) : k0_off20 k (BitVec.ofNat 32 r.val) = ![0, (2 : Fin 5).val, 2 * k.val + r.val, 0, 0] := k0_off20_eq k r
theorem off23 (k : Fin k0_t1_loop.trips) (r : Fin 2) : k0_off23 k (BitVec.ofNat 32 r.val) = ![0, (3 : Fin 5).val, 2 * k.val + r.val, 0, 0] := k0_off23_eq k r
theorem off11 (k : Fin k0_t1_loop.trips) (r : Fin 2) : k0_off11 k (BitVec.ofNat 32 r.val) = ![0, (4 : Fin 5).val, 2 * k.val + r.val, 0, 0] := k0_off11_eq k r
theorem off8 (k : Fin k0_t1_loop.trips) (sl : Fin 3) (r : Fin 2) : k0_off8 k (BitVec.ofNat 32 (8 * sl.val)) (BitVec.ofNat 32 r.val) = ![8 * sl.val + (2 * k.val + r.val), 0] :=
  (k0_off8_eq k sl r).trans (by rw [Nat.add_assoc])

/-- A trip leaves the heads of the other pairs alone. -/
theorem trip_other (k : Fin k0_t1_loop.trips) (f14 : Buf (Elt Ideal) (arg14.view.loc (c : Thread nD τ))) (v3 v4 : IVec S128x128 32)
    (m : Fin 5) (h : Fin 8) (h0 : h.val ≠ 2 * k.val + 0) (h1 : h.val ≠ 2 * k.val + 1) (x : Fin 128) (y : Fin 256) :
    arg14.view.read (Elt Ideal) (arg14.view.writes (Elt Ideal) f14 (tripL c arg14 arg15 arg17 arg18 arg19 v3 v4 k f14 f15 f17 f18 f19)) (ix5 0 m h x y)
      = arg14.view.read (Elt Ideal) f14 (ix5 0 m h x y) := by
  unfold tripL
  refine (wr_miss _ _ _ _ m 3 h (2 * k.val + 1) (off23 k 1) (.inr h1) x y).trans ?_
  refine (wr_miss _ _ _ _ m 2 h (2 * k.val + 1) (off20 k 1) (.inr h1) x y).trans ?_
  refine (wr_miss _ _ _ _ m 1 h (2 * k.val + 1) (off17 k 1) (.inr h1) x y).trans ?_
  refine (wr_miss _ _ _ _ m 0 h (2 * k.val + 1) (off14 k 1) (.inr h1) x y).trans ?_
  refine (wr_miss _ _ _ _ m 4 h (2 * k.val + 1) (off11 k 1) (.inr h1) x y).trans ?_
  refine (wr_miss _ _ _ _ m 3 h (2 * k.val + 0) (off23 k 0) (.inr h0) x y).trans ?_
  refine (wr_miss _ _ _ _ m 2 h (2 * k.val + 0) (off20 k 0) (.inr h0) x y).trans ?_
  refine (wr_miss _ _ _ _ m 1 h (2 * k.val + 0) (off17 k 0) (.inr h0) x y).trans ?_
  refine (wr_miss _ _ _ _ m 0 h (2 * k.val + 0) (off14 k 0) (.inr h0) x y).trans ?_
  refine (wr_miss _ _ _ _ m 4 h (2 * k.val + 0) (off11 k 0) (.inr h0) x y).trans ?_
  rfl

/-- A trip runs its odd head's memories through the chunk. -/
theorem trip_odd (H : Held arg15 arg17 arg18 arg19 K V q s b g f15 f17 f18 f19) (ha : ∀ m h i, a m h i ≠ 0)
    (hg : ∀ m h, ∀ i < 128, (2 : ℝ) ^ (g m h i) = Chunk.prd (a m h) (i + 1)) (k : Fin k0_t1_loop.trips) (jj : Fin 4) (hjj : jj.val = k.val)
    (f14 : Buf (Elt Ideal) (arg14.view.loc (c : Thread nD τ))) (m : Fin 5)
    {S : Fin 128 → Fin 256 → ℝ} (hS : ∀ x y, arg14.view.read (Elt Ideal) f14 (ix5 0 m (hd jj 1) x y) = ((S x y : ℝ) : EReal)) (x : Fin 128) (y : Fin 256) :
    arg14.view.read (Elt Ideal) (arg14.view.writes (Elt Ideal) f14 (tripL c arg14 arg15 arg17 arg18 arg19 rI cI k f14 f15 f17 f18 f19)) (ix5 0 m (hd jj 1) x y)
      = ((Chunk.run (a m (hd jj 1)) (s m (hd jj 1)) (b m (hd jj 1)) (kM K q m (hd jj 1)) (vM V q m (hd jj 1)) S 128 x y : ℝ) : EReal) := by
  obtain ⟨k, hk⟩ := k
  obtain ⟨jj, hj⟩ := jj
  simp only at hjj
  subst hjj
  unfold tripL
  match m with
  | 3 =>
    refine (wr_hit _ _ _ _ 3 (hd ⟨jj, hj⟩ 1) (off23 ⟨jj, hk⟩ 1) x y).trans ?_
    exact H.routed a ha hg 3 ⟨jj, hj⟩ 1 hS (lane_eq ⟨jj, hk⟩ 1 3) (lane_eq ⟨jj, hk⟩ 1 8) _ _ _ _ _ _ _ _ _ _ (off8 _ 0 1) (off8 _ 1 1)
      (k0_off2_eq _) (k0_off3_eq _) (k0_off4_eq _) (k0_off5_eq _) (k0_off21_eq _ 1) (k0_off22_eq _ 1) (off23 _ 1) x y
  | 2 =>
    refine (wr_miss _ _ _ _ 2 3 (hd ⟨jj, hj⟩ 1) _ (off23 ⟨jj, hk⟩ 1) (.inl (by decide)) x y).trans ?_
    refine (wr_hit _ _ _ _ 2 (hd ⟨jj, hj⟩ 1) (off20 ⟨jj, hk⟩ 1) x y).trans ?_
    exact H.routed a ha hg 2 ⟨jj, hj⟩ 1 hS (lane_eq ⟨jj, hk⟩ 1 2) (lane_eq ⟨jj, hk⟩ 1 7) _ _ _ _ _ _ _ _ _ _ (off8 _ 0 1) (off8 _ 1 1)
      (k0_off2_eq _) (k0_off3_eq _) (k0_off4_eq _) (k0_off5_eq _) (k0_off18_eq _ 1) (k0_off19_eq _ 1) (off20 _ 1) x y
  | 1 =>
    refine (wr_miss _ _ _ _ 1 3 (hd ⟨jj, hj⟩ 1) _ (off23 ⟨jj, hk⟩ 1) (.inl (by decide)) x y).trans ?_
    refine (wr_miss _ _ _ _ 1 2 (hd ⟨jj, hj⟩ 1) _ (off20 ⟨jj, hk⟩ 1) (.inl (by decide)) x y).trans ?_
    refine (wr_hit _ _ _ _ 1 (hd ⟨jj, hj⟩ 1) (off17 ⟨jj, hk⟩ 1) x y).trans ?_
    exact H.routed a ha hg 1 ⟨jj, hj⟩ 1 hS (lane_eq ⟨jj, hk⟩ 1 1) (lane_eq ⟨jj, hk⟩ 1 6) _ _ _ _ _ _ _ _ _ _ (off8 _ 0 1) (off8 _ 1 1)
      (k0_off2_eq _) (k0_off3_eq _) (k0_off4_eq _) (k0_off5_eq _) (k0_off15_eq _ 1) (k0_off16_eq _ 1) (off17 _ 1) x y
  | 0 =>
    refine (wr_miss _ _ _ _ 0 3 (hd ⟨jj, hj⟩ 1) _ (off23 ⟨jj, hk⟩ 1) (.inl (by decide)) x y).trans ?_
    refine (wr_miss _ _ _ _ 0 2 (hd ⟨jj, hj⟩ 1) _ (off20 ⟨jj, hk⟩ 1) (.inl (by decide)) x y).trans ?_
    refine (wr_miss _ _ _ _ 0 1 (hd ⟨jj, hj⟩ 1) _ (off17 ⟨jj, hk⟩ 1) (.inl (by decide)) x y).trans ?_
    refine (wr_hit _ _ _ _ 0 (hd ⟨jj, hj⟩ 1) (off14 ⟨jj, hk⟩ 1) x y).trans ?_
    exact H.routed a ha hg 0 ⟨jj, hj⟩ 1 hS (lane_eq ⟨jj, hk⟩ 1 0) (lane_eq ⟨jj, hk⟩ 1 5) _ _ _ _ _ _ _ _ _ _ (off8 _ 0 1) (off8 _ 1 1)
      (k0_off2_eq _) (k0_off3_eq _) (k0_off4_eq _) (k0_off5_eq _) (k0_off12_eq _ 1) (k0_off13_eq _ 1) (off14 _ 1) x y
  | 4 =>
    refine (wr_miss _ _ _ _ 4 3 (hd ⟨jj, hj⟩ 1) _ (off23 ⟨jj, hk⟩ 1) (.inl (by decide)) x y).trans ?_
    refine (wr_miss _ _ _ _ 4 2 (hd ⟨jj, hj⟩ 1) _ (off20 ⟨jj, hk⟩ 1) (.inl (by decide)) x y).trans ?_
    refine (wr_miss _ _ _ _ 4 1 (hd ⟨jj, hj⟩ 1) _ (off17 ⟨jj, hk⟩ 1) (.inl (by decide)) x y).trans ?_
    refine (wr_miss _ _ _ _ 4 0 (hd ⟨jj, hj⟩ 1) _ (off14 ⟨jj, hk⟩ 1) (.inl (by decide)) x y).trans ?_
    refine (wr_hit _ _ _ _ 4 (hd ⟨jj, hj⟩ 1) (off11 ⟨jj, hk⟩ 1) x y).trans ?_
    exact H.shared a ha hg ⟨jj, hj⟩ 1 hS (lane_eq ⟨jj, hk⟩ 1 4) _ _ _ _ _ _ _ (off8 _ 2 1)
      (k0_off6_eq _) (k0_off7_eq _) (k0_off9_eq _ 1) (k0_off10_eq _ 1) (off11 _ 1) x y

/-- A trip runs its even head's memories through the chunk. -/
theorem trip_even (H : Held arg15 arg17 arg18 arg19 K V q s b g f15 f17 f18 f19) (ha : ∀ m h i, a m h i ≠ 0)
    (hg : ∀ m h, ∀ i < 128, (2 : ℝ) ^ (g m h i) = Chunk.prd (a m h) (i + 1)) (k : Fin k0_t1_loop.trips) (jj : Fin 4) (hjj : jj.val = k.val)
    (f14 : Buf (Elt Ideal) (arg14.view.loc (c : Thread nD τ))) (m : Fin 5)
    {S : Fin 128 → Fin 256 → ℝ} (hS : ∀ x y, arg14.view.read (Elt Ideal) f14 (ix5 0 m (hd jj 0) x y) = ((S x y : ℝ) : EReal)) (x : Fin 128) (y : Fin 256) :
    arg14.view.read (Elt Ideal) (arg14.view.writes (Elt Ideal) f14 (tripL c arg14 arg15 arg17 arg18 arg19 rI cI k f14 f15 f17 f18 f19)) (ix5 0 m (hd jj 0) x y)
      = ((Chunk.run (a m (hd jj 0)) (s m (hd jj 0)) (b m (hd jj 0)) (kM K q m (hd jj 0)) (vM V q m (hd jj 0)) S 128 x y : ℝ) : EReal) := by
  obtain ⟨k, hk⟩ := k
  obtain ⟨jj, hj⟩ := jj
  simp only at hjj
  subst hjj
  unfold tripL
  have hne : (hd ⟨jj, hj⟩ 0).val ≠ 2 * jj + 1 := by show 2 * jj + 0 ≠ _; omega
  refine (wr_miss _ _ _ _ m 3 (hd ⟨jj, hj⟩ 0) (2 * jj + 1) (off23 ⟨jj, hk⟩ 1) (.inr hne) x y).trans ?_
  refine (wr_miss _ _ _ _ m 2 (hd ⟨jj, hj⟩ 0) (2 * jj + 1) (off20 ⟨jj, hk⟩ 1) (.inr hne) x y).trans ?_
  refine (wr_miss _ _ _ _ m 1 (hd ⟨jj, hj⟩ 0) (2 * jj + 1) (off17 ⟨jj, hk⟩ 1) (.inr hne) x y).trans ?_
  refine (wr_miss _ _ _ _ m 0 (hd ⟨jj, hj⟩ 0) (2 * jj + 1) (off14 ⟨jj, hk⟩ 1) (.inr hne) x y).trans ?_
  refine (wr_miss _ _ _ _ m 4 (hd ⟨jj, hj⟩ 0) (2 * jj + 1) (off11 ⟨jj, hk⟩ 1) (.inr hne) x y).trans ?_
  match m with
  | 3 =>
    refine (wr_hit _ _ _ _ 3 (hd ⟨jj, hj⟩ 0) (off23 ⟨jj, hk⟩ 0) x y).trans ?_
    exact H.routed a ha hg 3 ⟨jj, hj⟩ 0 hS (lane_eq ⟨jj, hk⟩ 0 3) (lane_eq ⟨jj, hk⟩ 0 8) _ _ _ _ _ _ _ _ _ _ (off8 _ 0 0) (off8 _ 1 0)
      (k0_off2_eq _) (k0_off3_eq _) (k0_off4_eq _) (k0_off5_eq _) (k0_off21_eq _ 0) (k0_off22_eq _ 0) (off23 _ 0) x y
  | 2 =>
    refine (wr_miss _ _ _ _ 2 3 (hd ⟨jj, hj⟩ 0) _ (off23 ⟨jj, hk⟩ 0) (.inl (by decide)) x y).trans ?_
    refine (wr_hit _ _ _ _ 2 (hd ⟨jj, hj⟩ 0) (off20 ⟨jj, hk⟩ 0) x y).trans ?_
    exact H.routed a ha hg 2 ⟨jj, hj⟩ 0 hS (lane_eq ⟨jj, hk⟩ 0 2) (lane_eq ⟨jj, hk⟩ 0 7) _ _ _ _ _ _ _ _ _ _ (off8 _ 0 0) (off8 _ 1 0)
      (k0_off2_eq _) (k0_off3_eq _) (k0_off4_eq _) (k0_off5_eq _) (k0_off18_eq _ 0) (k0_off19_eq _ 0) (off20 _ 0) x y
  | 1 =>
    refine (wr_miss _ _ _ _ 1 3 (hd ⟨jj, hj⟩ 0) _ (off23 ⟨jj, hk⟩ 0) (.inl (by decide)) x y).trans ?_
    refine (wr_miss _ _ _ _ 1 2 (hd ⟨jj, hj⟩ 0) _ (off20 ⟨jj, hk⟩ 0) (.inl (by decide)) x y).trans ?_
    refine (wr_hit _ _ _ _ 1 (hd ⟨jj, hj⟩ 0) (off17 ⟨jj, hk⟩ 0) x y).trans ?_
    exact H.routed a ha hg 1 ⟨jj, hj⟩ 0 hS (lane_eq ⟨jj, hk⟩ 0 1) (lane_eq ⟨jj, hk⟩ 0 6) _ _ _ _ _ _ _ _ _ _ (off8 _ 0 0) (off8 _ 1 0)
      (k0_off2_eq _) (k0_off3_eq _) (k0_off4_eq _) (k0_off5_eq _) (k0_off15_eq _ 0) (k0_off16_eq _ 0) (off17 _ 0) x y
  | 0 =>
    refine (wr_miss _ _ _ _ 0 3 (hd ⟨jj, hj⟩ 0) _ (off23 ⟨jj, hk⟩ 0) (.inl (by decide)) x y).trans ?_
    refine (wr_miss _ _ _ _ 0 2 (hd ⟨jj, hj⟩ 0) _ (off20 ⟨jj, hk⟩ 0) (.inl (by decide)) x y).trans ?_
    refine (wr_miss _ _ _ _ 0 1 (hd ⟨jj, hj⟩ 0) _ (off17 ⟨jj, hk⟩ 0) (.inl (by decide)) x y).trans ?_
    refine (wr_hit _ _ _ _ 0 (hd ⟨jj, hj⟩ 0) (off14 ⟨jj, hk⟩ 0) x y).trans ?_
    exact H.routed a ha hg 0 ⟨jj, hj⟩ 0 hS (lane_eq ⟨jj, hk⟩ 0 0) (lane_eq ⟨jj, hk⟩ 0 5) _ _ _ _ _ _ _ _ _ _ (off8 _ 0 0) (off8 _ 1 0)
      (k0_off2_eq _) (k0_off3_eq _) (k0_off4_eq _) (k0_off5_eq _) (k0_off12_eq _ 0) (k0_off13_eq _ 0) (off14 _ 0) x y
  | 4 =>
    refine (wr_miss _ _ _ _ 4 3 (hd ⟨jj, hj⟩ 0) _ (off23 ⟨jj, hk⟩ 0) (.inl (by decide)) x y).trans ?_
    refine (wr_miss _ _ _ _ 4 2 (hd ⟨jj, hj⟩ 0) _ (off20 ⟨jj, hk⟩ 0) (.inl (by decide)) x y).trans ?_
    refine (wr_miss _ _ _ _ 4 1 (hd ⟨jj, hj⟩ 0) _ (off17 ⟨jj, hk⟩ 0) (.inl (by decide)) x y).trans ?_
    refine (wr_miss _ _ _ _ 4 0 (hd ⟨jj, hj⟩ 0) _ (off14 ⟨jj, hk⟩ 0) (.inl (by decide)) x y).trans ?_
    refine (wr_hit _ _ _ _ 4 (hd ⟨jj, hj⟩ 0) (off11 ⟨jj, hk⟩ 0) x y).trans ?_
    exact H.shared a ha hg ⟨jj, hj⟩ 0 hS (lane_eq ⟨jj, hk⟩ 0 4) _ _ _ _ _ _ _ (off8 _ 2 0)
      (k0_off6_eq _) (k0_off7_eq _) (k0_off9_eq _ 0) (k0_off10_eq _ 0) (off11 _ 0) x y

/-- A trip runs its pair's memories through the chunk. -/
theorem trip_pair (H : Held arg15 arg17 arg18 arg19 K V q s b g f15 f17 f18 f19) (ha : ∀ m h i, a m h i ≠ 0)
    (hg : ∀ m h, ∀ i < 128, (2 : ℝ) ^ (g m h i) = Chunk.prd (a m h) (i + 1)) (k : Fin k0_t1_loop.trips) (jj : Fin 4) (hjj : jj.val = k.val) (hh : Fin 2)
    (f14 : Buf (Elt Ideal) (arg14.view.loc (c : Thread nD τ))) (m : Fin 5)
    {S : Fin 128 → Fin 256 → ℝ} (hS : ∀ x y, arg14.view.read (Elt Ideal) f14 (ix5 0 m (hd jj hh) x y) = ((S x y : ℝ) : EReal)) (x : Fin 128) (y : Fin 256) :
    arg14.view.read (Elt Ideal) (arg14.view.writes (Elt Ideal) f14 (tripL c arg14 arg15 arg17 arg18 arg19 rI cI k f14 f15 f17 f18 f19)) (ix5 0 m (hd jj hh) x y)
      = ((Chunk.run (a m (hd jj hh)) (s m (hd jj hh)) (b m (hd jj hh)) (kM K q m (hd jj hh)) (vM V q m (hd jj hh)) S 128 x y : ℝ) : EReal) := by
  obtain ⟨k, hk⟩ := k
  obtain ⟨jj, hj⟩ := jj
  simp only at hjj
  subst hjj
  match hh with
  | 0 => exact trip_even H ha hg ⟨jj, hk⟩ ⟨jj, hj⟩ rfl f14 m hS x y
  | 1 => exact trip_odd H ha hg ⟨jj, hk⟩ ⟨jj, hj⟩ rfl f14 m hS x y

/-- After `n` trips the first `2 n` heads are through the chunk and the others as found. -/
theorem stateTo_read (H : Held arg15 arg17 arg18 arg19 K V q s b g f15 f17 f18 f19) (ha : ∀ m h i, a m h i ≠ 0)
    (hg : ∀ m h, ∀ i < 128, (2 : ℝ) ^ (g m h i) = Chunk.prd (a m h) (i + 1))
    (f14 : Buf (Elt Ideal) (arg14.view.loc (c : Thread nD τ))) (S : Fin 5 → Fin 8 → Fin 128 → Fin 256 → ℝ)
    (hS : ∀ m h x y, arg14.view.read (Elt Ideal) f14 (ix5 0 m h x y) = ((S m h x y : ℝ) : EReal)) :
    ∀ n ≤ 4, ∀ m h x y, arg14.view.read (Elt Ideal) (stateTo c arg14 arg15 arg17 arg18 arg19 rI cI f14 f15 f17 f18 f19 n) (ix5 0 m h x y)
      = ((if h.val < 2 * n then Chunk.run (a m h) (s m h) (b m h) (kM K q m h) (vM V q m h) (S m h) 128 x y else S m h x y : ℝ) : EReal) := by
  intro n
  induction n with
  | zero => intro _ m h x y; rw [if_neg (by omega)]; exact hS m h x y
  | succ n ih =>
    intro hn m h x y
    have ih := ih (by omega)
    have e := stateTo_succ c arg14 arg15 arg17 arg18 arg19 rI cI f14 f15 f17 f18 f19 ⟨n, by rw [trips_eq]; omega⟩
    rw [show stateTo c arg14 arg15 arg17 arg18 arg19 rI cI f14 f15 f17 f18 f19 (n + 1) = _ from e]
    by_cases hh : h.val = 2 * n ∨ h.val = 2 * n + 1
    · obtain ⟨r, rfl⟩ : ∃ r : Fin 2, h = hd ⟨n, by omega⟩ r := by
        rcases hh with hh | hh
        · exact ⟨0, Fin.ext hh⟩
        · exact ⟨1, Fin.ext hh⟩
      have hv : (hd ⟨n, by omega⟩ r).val = 2 * n + r.val := rfl
      rw [if_pos (by omega)]
      exact trip_pair (S := S m (hd ⟨n, by omega⟩ r)) H ha hg ⟨n, by rw [trips_eq]; omega⟩ ⟨n, by omega⟩ rfl r _ m (fun x y => (ih m _ x y).trans (by rw [if_neg (by omega)])) x y
    · refine ((trip_other ⟨n, by rw [trips_eq]; omega⟩ _ _ _ m h (by show _ ≠ 2 * n + 0; omega) (by show _ ≠ 2 * n + 1; omega) x y).trans (ih m h x y)).trans ?_
      by_cases hl : h.val < 2 * n
      · rw [if_pos hl, if_pos (by omega)]
      · rw [if_neg hl, if_neg (by omega)]

end Cert.KernelIdeal.Hand

end
end
-- ==== Proof.ProHeld.lean ====
module

public import proofs.«01_k».proof.Proof.ProValV
public import proofs.«01_k».proof.Proof.LoopRun

@[expose] public section

set_option maxRecDepth 16384

noncomputable section

/-! # The scratches as the loop finds them -/

namespace Cert.KernelIdeal.Hand

open Cert.KernelIdeal Cert.KernelIdeal.Gen
open Idealize.ShloMosaic Idealize.ShloMosaic.TcCoe

section Pro

variable {c : Dev nD}
variable {arg5 : Memref sig .tc .vmem S1x128x3x8x128 .fp8e4m3} {arg6 : Memref sig .tc .vmem S1x128x3x8x128 .bf16}
  {arg7 : Memref sig .tc .vmem S1x128x3x8x128 .bf16} {arg8 arg9 arg10 : Memref sig .tc .vmem S1x3x8x128 .f32}
  {arg11 : Memref sig .tc .vmem S1x2x8x128 .i32} (arg12 : Memref sig .tc .vmem S1x2x8x128 .f32)
  {f5 : Buf (Elt Ideal) (arg5.view.loc (c : Thread nD τ))} {f6 : Buf (Elt Ideal) (arg6.view.loc (c : Thread nD τ))} {f7 : Buf (Elt Ideal) (arg7.view.loc (c : Thread nD τ))}
  {f8 : Buf (Elt Ideal) (arg8.view.loc (c : Thread nD τ))} {f9 : Buf (Elt Ideal) (arg9.view.loc (c : Thread nD τ))} {f10 : Buf (Elt Ideal) (arg10.view.loc (c : Thread nD τ))}
  {f11 : Buf (Elt Ideal) (arg11.view.loc (c : Thread nD τ))} (f12 : Buf (Elt Ideal) (arg12.view.loc (c : Thread nD τ)))
variable {k : ℕ → Fin 3 → Fin 8 → Fin 128 → ℝ} {v : ℕ → Fin 3 → Fin 8 → Fin 256 → ℝ} {al be ks : Fin 3 → Fin 8 → ℕ → ℝ} {id : Fin 2 → Fin 8 → ℕ → BitVec 32}

/-! ## The keys -/

theorem rd5 (arg : Memref sig .tc .vmem S1x128x3x8x128 .fp8e4m3) (f : Buf (Elt Ideal) (arg.view.loc (c : Thread nD τ))) (inb) (i : Fin 128) (sl : Fin 3) (h : Fin 8) (z : Fin 128) :
    View.readAt (Elt Ideal) arg.view (Rect.unit (s := S1x128x3x8x128) ![0, 0, 0, 0, 0] S1x128x3x8x128.size inb).toLoadRect f (ix5 0 i sl h z) = arg.view.read (Elt Ideal) f (ix5 0 i sl h z) := by
  rw [View.readAt_apply]; congr 1
  funext a; apply Fin.ext; fin_cases a <;> simp [LoadRect.idx, Rect.toLoadRect, Rect.unit, ix5]

theorem ix15 (r : Fin 3072) (z : Fin 128) (a : Fin 2) : ((ix2 r z : S3072x128.Idx) a).val = (![0, 0] : Fin 2 → ℕ) a + ((ix2 r z : S3072x128.Idx) a).val := by
  match a with
  | ⟨0, _⟩ => exact (Nat.zero_add _).symm
  | ⟨1, _⟩ => exact (Nat.zero_add _).symm

theorem ix18 (m : Fin 5) (h : Fin 8) (i : Fin 128) (a : Fin 4) : ((ix4 0 m h i : S2x5x8x128.Idx) a).val = (![0, 0, 0, 0] : Fin 4 → ℕ) a + ((ix4 0 m h i : S1x5x8x128.Idx) a).val := by
  match a with
  | ⟨0, _⟩ => rfl
  | ⟨1, _⟩ => exact (Nat.zero_add _).symm
  | ⟨2, _⟩ => exact (Nat.zero_add _).symm
  | ⟨3, _⟩ => exact (Nat.zero_add _).symm

theorem ix18' (m : Fin 5) (h : Fin 8) (i : Fin 128) (a : Fin 4) : ((ix4 1 m h i : S2x5x8x128.Idx) a).val = (![1, m.val, 0, 0] : Fin 4 → ℕ) a + ((ix4 0 0 h i : S1x1x8x128.Idx) a).val := by
  match a with
  | ⟨0, _⟩ => rfl
  | ⟨1, _⟩ => rfl
  | ⟨2, _⟩ => exact (Nat.zero_add _).symm
  | ⟨3, _⟩ => exact (Nat.zero_add _).symm

theorem ix19 (i l : Fin 128) (a : Fin 3) : ((ix3 1 i l : S2x128x128.Idx) a).val = (![1, 0, 0] : Fin 3 → ℕ) a + ((ix3 0 i l : S1x128x128.Idx) a).val := by
  match a with
  | ⟨0, _⟩ => rfl
  | ⟨1, _⟩ => exact (Nat.zero_add _).symm
  | ⟨2, _⟩ => exact (Nat.zero_add _).symm

section Rows

variable (arg18 : Memref sig .tc .vmem S2x5x8x128 .f32) (f : Buf (Elt Ideal) (arg18.view.loc (c : Thread nD τ)))

/-- A block of the second plane is passed over, or found. -/
theorem row_miss {off : Fin 4 → ℕ} (inb) (w : FVec Ideal S1x1x8x128 .f32) (L : List (View.Piece (Elt Ideal) S2x5x8x128 .f32)) (m' : ℕ) (e : off = ![1, m', 0, 0])
    (p : Fin 2) (m : Fin 5) (h : Fin 8) (i : Fin 128) (hne : p.val = 0 ∨ m.val ≠ m') :
    arg18.view.read (Elt Ideal) (arg18.view.writes (Elt Ideal) f (⟨Rect.unit (s := S2x5x8x128) off S1x1x8x128.size inb, w⟩ :: L)) (ix4 p m h i)
      = arg18.view.read (Elt Ideal) (arg18.view.writes (Elt Ideal) f L) (ix4 p m h i) := by
  rcases hne with hne | hne
  · have h1 : p.val < 1 ∨ 1 + 1 ≤ p.val := by omega
    exact View.read_writes_cons_unit_of_not_mem arg18.view f inb w L (ix4 p m h i) e (0 : Fin 4) h1
  · have h1 : m.val < m' ∨ m' + 1 ≤ m.val := by omega
    exact View.read_writes_cons_unit_of_not_mem arg18.view f inb w L (ix4 p m h i) e (1 : Fin 4) h1

theorem row_hit {off : Fin 4 → ℕ} (inb) (w : FVec Ideal S1x1x8x128 .f32) (L : List (View.Piece (Elt Ideal) S2x5x8x128 .f32))
    (m : Fin 5) (e : off = ![1, m.val, 0, 0]) (h : Fin 8) (i : Fin 128) :
    arg18.view.read (Elt Ideal) (arg18.view.writes (Elt Ideal) f (⟨Rect.unit (s := S2x5x8x128) off S1x1x8x128.size inb, w⟩ :: L)) (ix4 1 m h i) = w (ix4 0 0 h i) :=
  View.read_writes_cons_unit_of_mem arg18.view f inb w L (ix4 1 m h i) (ix4 0 0 h i : S1x1x8x128.Idx) e (ix18' m h i)

end Rows

variable (I : Ins c arg5 arg6 arg7 arg8 arg9 arg10 arg11 f5 f6 f7 f8 f9 f10 f11 k v al be ks id)
include I

theorem Ins.key (i : Fin 128) (sl : Fin 3) (h : Fin 8) (z : Fin 128) :
    kernelRun.sl.v240 (F := Ideal) c arg5 f5 (ix2 (rw15 i sl h) z) = ((k i sl h z : ℝ) : EReal) := by
  have h1 : (rw15 i sl h).val / 24 = i.val := by simp only [rw15]; omega
  have h2 : (rw15 i sl h).val / 8 % 3 = sl.val := by simp only [rw15]; omega
  have h3 : (rw15 i sl h).val % 8 = h.val := by simp only [rw15]; omega
  pointwise [kernelRun.sl.v240, kernelRun.sl.v237, kernelRun.sl.v236, kernelRun.sl.v235]
  refine Eq.trans ?_ ((rd5 arg5 f5 inb_S1x128x3x8x128_S1x128x3x8x128_0_0_0_0_0 i sl h z).trans (I.k i sl h z))
  exact congr (congrArg _ rfl) (by rw [show (⟨(rw15 i sl h).val / 24, _⟩ : Fin 128) = i from Fin.ext h1, show (⟨(rw15 i sl h).val / 8 % 3, _⟩ : Fin 3) = sl from Fin.ext h2, show (⟨(rw15 i sl h).val % 8, _⟩ : Fin 8) = h from Fin.ext h3])

/-! ## The rows: running logarithms and steps -/

theorem Ins.row0 (hal : ∀ sl h i, (2 : ℝ) ^ (-300 : ℝ) ≤ al sl h i) (m : Fin 5) (h : Fin 8) (i : Fin 128) :
    kernelRun.sl.v196 (F := Ideal) c arg8 arg11 f8 f11 (ix4 0 m h i) = ((gR al id m h i : ℝ) : EReal) := by
  pointwise [kernelRun.sl.v196, kernelRun.sl.v193]
  exact I.sum40 hal m h i _ rfl

theorem Ins.read18 (hal : ∀ sl h i, (2 : ℝ) ^ (-300 : ℝ) ≤ al sl h i) (arg18 : Memref sig .tc .vmem S2x5x8x128 .f32) (f : Buf (Elt Ideal) (arg18.view.loc (c : Thread nD τ))) (m : Fin 5) (h : Fin 8) (i : Fin 128) :
    arg18.view.read (Elt Ideal) (arg18.view.writes (Elt Ideal) f (kernelRun.sl.H18_6 (F := Ideal) c arg8 arg9 arg10 arg11 f8 f9 f10 f11)) (ix4 0 m h i) = ((gR al id m h i : ℝ) : EReal) := by
  refine (row_miss arg18 f _ _ _ 4 rfl 0 m h i (.inl rfl)).trans ?_
  refine (row_miss arg18 f _ _ _ 3 rfl 0 m h i (.inl rfl)).trans ?_
  refine (row_miss arg18 f _ _ _ 2 rfl 0 m h i (.inl rfl)).trans ?_
  refine (row_miss arg18 f _ _ _ 1 rfl 0 m h i (.inl rfl)).trans ?_
  refine (row_miss arg18 f _ _ _ 0 rfl 0 m h i (.inl rfl)).trans ?_
  exact (View.read_writes_cons_unit_of_mem arg18.view f _ _ _ (ix4 0 m h i) (ix4 0 m h i : S1x5x8x128.Idx) rfl (ix18 m h i)).trans (I.row0 hal m h i)

theorem Ins.pay199 (h : Fin 8) (i : Fin 128) : kernelRun.sl.v199 (F := Ideal) c arg9 arg10 arg11 f9 f10 f11 (ix4 0 0 h i) = ((bR be id 0 h i * sR ks id 0 h i : ℝ) : EReal) := by
  pointwise [kernelRun.sl.v199]
  exact I.bs 0 h i
theorem Ins.pay202 (h : Fin 8) (i : Fin 128) : kernelRun.sl.v202 (F := Ideal) c arg9 arg10 arg11 f9 f10 f11 (ix4 0 0 h i) = ((bR be id 1 h i * sR ks id 1 h i : ℝ) : EReal) := by
  pointwise [kernelRun.sl.v202]
  exact I.bs 1 h i
theorem Ins.pay205 (h : Fin 8) (i : Fin 128) : kernelRun.sl.v205 (F := Ideal) c arg9 arg10 arg11 f9 f10 f11 (ix4 0 0 h i) = ((bR be id 2 h i * sR ks id 2 h i : ℝ) : EReal) := by
  pointwise [kernelRun.sl.v205]
  exact I.bs 2 h i
theorem Ins.pay208 (h : Fin 8) (i : Fin 128) : kernelRun.sl.v208 (F := Ideal) c arg9 arg10 arg11 f9 f10 f11 (ix4 0 0 h i) = ((bR be id 3 h i * sR ks id 3 h i : ℝ) : EReal) := by
  pointwise [kernelRun.sl.v208]
  exact I.bs 3 h i
theorem Ins.pay211 (h : Fin 8) (i : Fin 128) : kernelRun.sl.v211 (F := Ideal) c arg9 arg10 f9 f10 (ix4 0 0 h i) = ((bR be id 4 h i * sR ks id 4 h i : ℝ) : EReal) := by
  pointwise [kernelRun.sl.v211]
  exact I.bs4 h i

theorem Ins.read18' (arg18 : Memref sig .tc .vmem S2x5x8x128 .f32) (f : Buf (Elt Ideal) (arg18.view.loc (c : Thread nD τ))) (m : Fin 5) (h : Fin 8) (i : Fin 128) :
    arg18.view.read (Elt Ideal) (arg18.view.writes (Elt Ideal) f (kernelRun.sl.H18_6 (F := Ideal) c arg8 arg9 arg10 arg11 f8 f9 f10 f11)) (ix4 1 m h i) = ((bR be id m h i * sR ks id m h i : ℝ) : EReal) := by
  match m with
  | ⟨4, hm⟩ => exact (row_hit arg18 f _ _ _ ⟨4, hm⟩ rfl h i).trans (I.pay211 h i)
  | ⟨3, hm⟩ =>
    refine (row_miss arg18 f _ _ _ 4 rfl 1 ⟨3, hm⟩ h i (.inr (by dsimp only; decide))).trans ?_
    exact (row_hit arg18 f _ _ _ ⟨3, hm⟩ rfl h i).trans (I.pay208 h i)
  | ⟨2, hm⟩ =>
    refine (row_miss arg18 f _ _ _ 4 rfl 1 ⟨2, hm⟩ h i (.inr (by dsimp only; decide))).trans ?_
    refine (row_miss arg18 f _ _ _ 3 rfl 1 ⟨2, hm⟩ h i (.inr (by dsimp only; decide))).trans ?_
    exact (row_hit arg18 f _ _ _ ⟨2, hm⟩ rfl h i).trans (I.pay205 h i)
  | ⟨1, hm⟩ =>
    refine (row_miss arg18 f _ _ _ 4 rfl 1 ⟨1, hm⟩ h i (.inr (by dsimp only; decide))).trans ?_
    refine (row_miss arg18 f _ _ _ 3 rfl 1 ⟨1, hm⟩ h i (.inr (by dsimp only; decide))).trans ?_
    refine (row_miss arg18 f _ _ _ 2 rfl 1 ⟨1, hm⟩ h i (.inr (by dsimp only; decide))).trans ?_
    exact (row_hit arg18 f _ _ _ ⟨1, hm⟩ rfl h i).trans (I.pay202 h i)
  | ⟨0, hm⟩ =>
    refine (row_miss arg18 f _ _ _ 4 rfl 1 ⟨0, hm⟩ h i (.inr (by dsimp only; decide))).trans ?_
    refine (row_miss arg18 f _ _ _ 3 rfl 1 ⟨0, hm⟩ h i (.inr (by dsimp only; decide))).trans ?_
    refine (row_miss arg18 f _ _ _ 2 rfl 1 ⟨0, hm⟩ h i (.inr (by dsimp only; decide))).trans ?_
    refine (row_miss arg18 f _ _ _ 1 rfl 1 ⟨0, hm⟩ h i (.inr (by dsimp only; decide))).trans ?_
    exact (row_hit arg18 f _ _ _ ⟨0, hm⟩ rfl h i).trans (I.pay199 h i)

/-! ## The columns: logarithms with the scales, and the slots' marks -/

theorem Ins.col (hal : ∀ sl h i, (2 : ℝ) ^ (-300 : ℝ) ≤ al sl h i) (m : Fin 5) (h : Fin 8) (i : Fin 128) :
    kernelRun.sl.v233 (F := Ideal) c arg8 arg10 arg11 f8 f10 f11 (ix3 0 i (ln (m.castLE (by omega)) h))
      = ((gR al id m h i : ℝ) : EReal) + Ideal.div (Ideal.log ((sR ks id m h i : ℝ) : EReal)) (Ideal.log ((2 : ℝ) : EReal)) := by
  have e : (ln (m.castLE (by omega)) h).val = 8 * m.val + h.val := rfl
  generalize ln (m.castLE (by omega)) h = l at e ⊢
  pointwise [kernelRun.sl.v233, kernelRun.sl.v230, kernelRun.sl.v229]
  match m with
  | ⟨0, hm⟩ =>
    have e : l.val = 0 + h.val := e
    rw [dif_pos (by omega)]
    refine Eq.trans (congrArg (fun t => kernelRun.sl.v219 (F := Ideal) c arg8 arg10 arg11 f8 f10 f11 (ix2 t i)) (Fin.ext (show _ = h.val by dsimp only; omega))) ?_
    pointwise [kernelRun.sl.v219, kernelRun.sl.v218]
    exact congr (congrArg HAdd.hAdd (I.sum40 hal 0 h i _ (by simp; try omega))) (I.gl 0 h i)
  | ⟨1, hm⟩ =>
    have e : l.val = 8 + h.val := e
    rw [dif_neg (by omega), dif_pos (by omega)]
    refine Eq.trans (congrArg (fun t => kernelRun.sl.v221 (F := Ideal) c arg8 arg10 arg11 f8 f10 f11 (ix2 t i)) (Fin.ext (show _ = h.val by dsimp only; omega))) ?_
    pointwise [kernelRun.sl.v221, kernelRun.sl.v220]
    exact congr (congrArg HAdd.hAdd (I.sum40 hal 1 h i _ (by simp; try omega))) (I.gl 1 h i)
  | ⟨2, hm⟩ =>
    have e : l.val = 16 + h.val := e
    rw [dif_neg (by omega), dif_neg (by omega), dif_pos (by omega)]
    refine Eq.trans (congrArg (fun t => kernelRun.sl.v223 (F := Ideal) c arg8 arg10 arg11 f8 f10 f11 (ix2 t i)) (Fin.ext (show _ = h.val by dsimp only; omega))) ?_
    pointwise [kernelRun.sl.v223, kernelRun.sl.v222]
    exact congr (congrArg HAdd.hAdd (I.sum40 hal 2 h i _ (by simp; try omega))) (I.gl 2 h i)
  | ⟨3, hm⟩ =>
    have e : l.val = 24 + h.val := e
    rw [dif_neg (by omega), dif_neg (by omega), dif_neg (by omega), dif_pos (by omega)]
    refine Eq.trans (congrArg (fun t => kernelRun.sl.v225 (F := Ideal) c arg8 arg10 arg11 f8 f10 f11 (ix2 t i)) (Fin.ext (show _ = h.val by dsimp only; omega))) ?_
    pointwise [kernelRun.sl.v225, kernelRun.sl.v224]
    exact congr (congrArg HAdd.hAdd (I.sum40 hal 3 h i _ (by simp; try omega))) (I.gl 3 h i)
  | ⟨4, hm⟩ =>
    have e : l.val = 32 + h.val := e
    rw [dif_neg (by omega), dif_neg (by omega), dif_neg (by omega), dif_neg (by omega), dif_pos (by omega)]
    refine Eq.trans (congrArg (fun t => kernelRun.sl.v227 (F := Ideal) c arg8 arg10 arg11 f8 f10 f11 (ix2 t i)) (Fin.ext (show _ = h.val by dsimp only; omega))) ?_
    pointwise [kernelRun.sl.v227, kernelRun.sl.v226]
    exact congr (congrArg HAdd.hAdd (I.sum40 hal 4 h i _ (by simp; try omega))) (I.gl4 h i)

theorem Ins.mark (m : Fin 4) (h : Fin 8) (i : Fin 128) :
    kernelRun.sl.v233 (F := Ideal) c arg8 arg10 arg11 f8 f10 f11 (ix3 0 i (ln ⟨5 + m.val, by omega⟩ h)) = if qR id m h i then (1 : EReal) else 0 := by
  have e : (ln ⟨5 + m.val, by omega⟩ h).val = 8 * (5 + m.val) + h.val := rfl
  generalize ln ⟨5 + m.val, by omega⟩ h = l at e ⊢
  pointwise [kernelRun.sl.v233, kernelRun.sl.v230, kernelRun.sl.v229]
  match m with
  | ⟨0, hm⟩ =>
    have e : l.val = 40 + h.val := e
    rw [dif_neg (by omega), dif_neg (by omega), dif_neg (by omega), dif_neg (by omega), dif_neg (by omega), dif_pos (by omega)]
    exact Eq.trans (congrArg (fun t => kernelRun.sl.v67 (F := Ideal) c arg11 f11 (ix2 t i)) (Fin.ext (show _ = h.val by dsimp only; omega))) (I.ql 0 h i)
  | ⟨1, hm⟩ =>
    have e : l.val = 48 + h.val := e
    rw [dif_neg (by omega), dif_neg (by omega), dif_neg (by omega), dif_neg (by omega), dif_neg (by omega), dif_neg (by omega), dif_pos (by omega)]
    exact Eq.trans (congrArg (fun t => kernelRun.sl.v102 (F := Ideal) c arg11 f11 (ix2 t i)) (Fin.ext (show _ = h.val by dsimp only; omega))) (I.ql 1 h i)
  | ⟨2, hm⟩ =>
    have e : l.val = 56 + h.val := e
    rw [dif_neg (by omega), dif_neg (by omega), dif_neg (by omega), dif_neg (by omega), dif_neg (by omega), dif_neg (by omega), dif_neg (by omega), dif_pos (by omega)]
    exact Eq.trans (congrArg (fun t => kernelRun.sl.v137 (F := Ideal) c arg11 f11 (ix2 t i)) (Fin.ext (show _ = h.val by dsimp only; omega))) (I.ql 2 h i)
  | ⟨3, hm⟩ =>
    have e : l.val = 64 + h.val := e
    rw [dif_neg (by omega), dif_neg (by omega), dif_neg (by omega), dif_neg (by omega), dif_neg (by omega), dif_neg (by omega), dif_neg (by omega), dif_neg (by omega), dif_pos (by omega)]
    exact Eq.trans (congrArg (fun t => kernelRun.sl.v172 (F := Ideal) c arg11 f11 (ix2 t i)) (Fin.ext (show _ = h.val by dsimp only; omega))) (I.ql 3 h i)

theorem Ins.read19 (arg19 : Memref sig .tc .vmem S2x128x128 .f32) (f : Buf (Elt Ideal) (arg19.view.loc (c : Thread nD τ))) (i l : Fin 128) :
    arg19.view.read (Elt Ideal) (arg19.view.writes (Elt Ideal) f (kernelRun.sl.H19_2 (F := Ideal) c arg8 arg10 arg11 arg12 f8 f10 f11 f12)) (ix3 1 i l)
      = kernelRun.sl.v233 (F := Ideal) c arg8 arg10 arg11 f8 f10 f11 (ix3 0 i l) :=
  View.read_writes_cons_unit_of_mem arg19.view f _ _ _ (ix3 1 i l) (ix3 0 i l : S1x128x128.Idx) rfl (ix19 i l)

/-- The scratches hold what the loop reads. -/
theorem Ins.held (hal : ∀ sl h i, (2 : ℝ) ^ (-300 : ℝ) ≤ al sl h i) (hks : ∀ sl h i, 0 ≤ ks sl h i)
    (arg15 : Memref sig .tc .vmem S3072x128 .f32) (arg17 : Memref sig .tc .vmem S4x3x2x256x128 .bf16) (arg18 : Memref sig .tc .vmem S2x5x8x128 .f32) (arg19 : Memref sig .tc .vmem S2x128x128 .f32)
    (f15 : Buf (Elt Ideal) (arg15.view.loc (c : Thread nD τ))) (f17 : Buf (Elt Ideal) (arg17.view.loc (c : Thread nD τ))) (f18 : Buf (Elt Ideal) (arg18.view.loc (c : Thread nD τ))) (f19 : Buf (Elt Ideal) (arg19.view.loc (c : Thread nD τ))) :
    Held (c := c) arg15 arg17 arg18 arg19 k v (qR id) (sR ks id) (bR be id) (gR al id)
      (arg15.view.writes (Elt Ideal) f15 (kernelRun.sl.H15_1 (F := Ideal) c arg5 f5)) (arg17.view.writes (Elt Ideal) f17 (kernelRun.sl.H17_24 (F := Ideal) c arg6 arg7 f6 f7))
      (arg18.view.writes (Elt Ideal) f18 (kernelRun.sl.H18_6 (F := Ideal) c arg8 arg9 arg10 arg11 f8 f9 f10 f11))
      (arg19.view.writes (Elt Ideal) f19 (kernelRun.sl.H19_2 (F := Ideal) c arg8 arg10 arg11 arg12 f8 f10 f11 f12)) where
  k i sl h z := (View.read_writes_cons_unit_of_mem arg15.view f15 _ _ _ (ix2 (rw15 i sl h) z) (ix2 (rw15 i sl h) z : S3072x128.Idx) rfl (ix15 _ z)).trans (I.key i sl h z)
  v i sl jj hh z := by
    have h0 := I.okV arg17 f17 jj sl (if z.val < 128 then 0 else 1) (rw17 i hh) (if h : z.val < 128 then ⟨z, h⟩ else ⟨z - 128, by omega⟩)
      (by have := jj.isLt; have := sl.isLt; split_ifs <;> simp <;> omega)
    refine h0.trans ?_
    have h1 : (rw17 i hh).val / 2 = i.val := by simp only [rw17]; omega
    have h2 : (rw17 i hh).val % 2 = hh.val := by simp only [rw17]; omega
    have h3 : (⟨128 * (if z.val < 128 then (0 : Fin 2) else 1).val + (if h : z.val < 128 then (⟨z, h⟩ : Fin 128) else ⟨z - 128, by omega⟩).val, by split_ifs <;> simp <;> omega⟩ : Fin 256) = z := by
      apply Fin.ext
      by_cases p : z.val < 128
      · simp [p]
      · simp [p]; omega
    have h4 : (⟨(rw17 i hh).val % 2, by omega⟩ : Fin 2) = hh := Fin.ext h2
    unfold TV
    rw [h3, h4, h1]
  gr m h i := I.read18 hal arg18 f18 m h i
  sr m h i := I.read18' arg18 f18 m h i
  gs m h i r := by
    rw [I.read19, I.col hal m h i]
    refine exp2_scale ?_ _ r
    unfold sR; split_ifs <;> exact hks _ _ _
  q m h i := by
    rw [I.read19]; exact I.mark m h i

end Pro

end Cert.KernelIdeal.Hand

end
end
-- ==== Proof.BodyVal.lean ====
/- What one run of the body leaves in the state block: every memory's state after the chunk's tokens. -/
module

public import proofs.«01_k».proof.Proof.ProHeld

@[expose] public section

set_option maxRecDepth 16384

noncomputable section

namespace Cert.KernelIdeal.Hand

open Cert.KernelIdeal Cert.KernelIdeal.Gen
open Idealize.ShloMosaic Idealize.ShloMosaic.TcCoe

theorem v2_iff (i : grid0.Coords) : kernelRun.sl.v2 i = 1#1 ↔ (i 2).val = 0 := by
  have key : ∀ k : Fin 12, Scalar.cmpi CmpIPredicate.ne (Scalar.extui (Scalar.cmpi CmpIPredicate.eq (BitVec.ofNat 32 k.val) 0#32) : BitVec 32) 0#32 = 1#1 ↔ k.val = 0 := by decide
  exact key (i 2)

theorem ixS (m : Fin 5) (h : Fin 8) (x : Fin 128) (y : Fin 256) (a : Fin 5) : ((ix5 0 m h x y : S1x5x8x128x256.Idx) a).val
    = (![0, 0, 0, 0, 0] : Fin 5 → ℕ) a + ((ix5 0 m h x y : S1x5x8x128x256.Idx) a).val := by
  match a with
  | ⟨0, _⟩ => rfl
  | ⟨1, _⟩ => exact (Nat.zero_add _).symm
  | ⟨2, _⟩ => exact (Nat.zero_add _).symm
  | ⟨3, _⟩ => exact (Nat.zero_add _).symm
  | ⟨4, _⟩ => exact (Nat.zero_add _).symm

theorem zero_at (m : Fin 5) (h : Fin 8) (x : Fin 128) (y : Fin 256) : kernelRun.sl.v573 (F := Ideal) (ix5 0 m h x y) = ((0 : ℝ) : EReal) := by
  pointwise [kernelRun.sl.v573, kernelRun.sl.cst_523]
  simp

/-- The state block as the loop over head pairs finds it: zeroed at a sequence's first chunk. -/
def st0 (c : Dev nD) (i : grid0.Coords) (arg14 : Memref sig .tc .vmem S1x5x8x128x256 .f32) (f14 : Buf (Elt Ideal) (arg14.view.loc (c : Thread nD τ))) : Buf (Elt Ideal) (arg14.view.loc (c : Thread nD τ)) :=
  Decidable.rec (motive := fun _ => Buf (Elt Ideal) (arg14.view.loc (c : Thread nD τ))) (fun _ => f14)
    (fun _ => arg14.view.writes (Elt Ideal) f14 [⟨Rect.unit ![0, 0, 0, 0, 0] S1x5x8x128x256.size inb_S1x5x8x128x256_S1x5x8x128x256_0_0_0_0_0, kernelRun.sl.v573 (F := Ideal)⟩])
    (instDecidableEqBitVec (kernelRun.sl.v2 i) 1#1)

theorem kernelRun_state  (c : Dev nD) (i : grid0.Coords)
  (arg3 : Memref sig .tc .smem S1 .i32) (harg3 : arg3.IsWhole) (arg4 : Memref sig .tc .vmem S1x128x8x128 .bf16) (harg4 : arg4.IsWhole) (arg5 : Memref sig .tc .vmem S1x128x3x8x128 .fp8e4m3) (harg5 : arg5.IsWhole) (arg6 : Memref sig .tc .vmem S1x128x3x8x128 .bf16) (harg6 : arg6.IsWhole) (arg7 : Memref sig .tc .vmem S1x128x3x8x128 .bf16) (harg7 : arg7.IsWhole) (arg8 : Memref sig .tc .vmem S1x3x8x128 .f32) (harg8 : arg8.IsWhole) (arg9 : Memref sig .tc .vmem S1x3x8x128 .f32) (harg9 : arg9.IsWhole) (arg10 : Memref sig .tc .vmem S1x3x8x128 .f32) (harg10 : arg10.IsWhole) (arg11 : Memref sig .tc .vmem S1x2x8x128 .i32) (harg11 : arg11.IsWhole) (arg12 : Memref sig .tc .vmem S1x2x8x128 .f32) (harg12 : arg12.IsWhole) (arg13 : Memref sig .tc .vmem S1x128x8x256 .bf16) (harg13 : arg13.IsWhole) (arg14 : Memref sig .tc .vmem S1x5x8x128x256 .f32) (harg14 : arg14.IsWhole) (arg15 : Memref sig .tc .vmem S3072x128 .f32) (harg15 : arg15.IsWhole) (arg16 : Memref sig .tc .vmem S4x256x128 .bf16) (harg16 : arg16.IsWhole) (arg17 : Memref sig .tc .vmem S4x3x2x256x128 .bf16) (harg17 : arg17.IsWhole) (arg18 : Memref sig .tc .vmem S2x5x8x128 .f32) (harg18 : arg18.IsWhole) (arg19 : Memref sig .tc .vmem S2x128x128 .f32) (harg19 : arg19.IsWhole) (arg20 : Memref sig .tc .vmem S2x1024x128 .bf16) (harg20 : arg20.IsWhole)
  (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ))) (f12 : Buf (Elt Ideal) (arg12.view.loc (c : Thread nD τ))) (f14 : Buf (Elt Ideal) (arg14.view.loc (c : Thread nD τ)))
    : (kernelRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f4 f5 f6 f7 f8 f9 f10 f11 f12 f14).1 = stateTo c arg14 arg15 arg17 arg18 arg19 kernelRun.sl.v3 kernelRun.sl.v4 (st0 c i arg14 f14)
      (arg15.view.writes (Elt Ideal) arg15.view.junk (kernelRun.sl.H15_1 c arg5 f5))
      (arg17.view.writes (Elt Ideal) arg17.view.junk (kernelRun.sl.H17_24 c arg6 arg7 f6 f7))
      (arg18.view.writes (Elt Ideal) arg18.view.junk (kernelRun.sl.H18_6 c arg8 arg9 arg10 arg11 f8 f9 f10 f11))
      (arg19.view.writes (Elt Ideal) arg19.view.junk (kernelRun.sl.H19_2 c arg8 arg10 arg11 arg12 f8 f10 f11 f12))
      (Scf.trips (0#32) (Scalar.addi 0#32 4#32) 1#32) := by
  unfold kernelRun; dsimp only; rfl

theorem v3_eq : kernelRun.sl.v3 = rI := by
  funext i; pointwise [kernelRun.sl.v3]
  all_goals rfl
theorem v4_eq : kernelRun.sl.v4 = cI := by
  funext i; pointwise [kernelRun.sl.v4]
  all_goals rfl
theorem four_eq : Scf.trips (0#32) (Scalar.addi 0#32 4#32) 1#32 = 4 := by decide

theorem body_val (c : Dev nD) (i : grid0.Coords)
  (arg3 : Memref sig .tc .smem S1 .i32) (harg3 : arg3.IsWhole) (arg4 : Memref sig .tc .vmem S1x128x8x128 .bf16) (harg4 : arg4.IsWhole) (arg5 : Memref sig .tc .vmem S1x128x3x8x128 .fp8e4m3) (harg5 : arg5.IsWhole) (arg6 : Memref sig .tc .vmem S1x128x3x8x128 .bf16) (harg6 : arg6.IsWhole) (arg7 : Memref sig .tc .vmem S1x128x3x8x128 .bf16) (harg7 : arg7.IsWhole) (arg8 : Memref sig .tc .vmem S1x3x8x128 .f32) (harg8 : arg8.IsWhole) (arg9 : Memref sig .tc .vmem S1x3x8x128 .f32) (harg9 : arg9.IsWhole) (arg10 : Memref sig .tc .vmem S1x3x8x128 .f32) (harg10 : arg10.IsWhole) (arg11 : Memref sig .tc .vmem S1x2x8x128 .i32) (harg11 : arg11.IsWhole) (arg12 : Memref sig .tc .vmem S1x2x8x128 .f32) (harg12 : arg12.IsWhole) (arg13 : Memref sig .tc .vmem S1x128x8x256 .bf16) (harg13 : arg13.IsWhole) (arg14 : Memref sig .tc .vmem S1x5x8x128x256 .f32) (harg14 : arg14.IsWhole) (arg15 : Memref sig .tc .vmem S3072x128 .f32) (harg15 : arg15.IsWhole) (arg16 : Memref sig .tc .vmem S4x256x128 .bf16) (harg16 : arg16.IsWhole) (arg17 : Memref sig .tc .vmem S4x3x2x256x128 .bf16) (harg17 : arg17.IsWhole) (arg18 : Memref sig .tc .vmem S2x5x8x128 .f32) (harg18 : arg18.IsWhole) (arg19 : Memref sig .tc .vmem S2x128x128 .f32) (harg19 : arg19.IsWhole) (arg20 : Memref sig .tc .vmem S2x1024x128 .bf16) (harg20 : arg20.IsWhole)
  (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ))) (f12 : Buf (Elt Ideal) (arg12.view.loc (c : Thread nD τ))) (f14 : Buf (Elt Ideal) (arg14.view.loc (c : Thread nD τ)))
    {k : ℕ → Fin 3 → Fin 8 → Fin 128 → ℝ} {v : ℕ → Fin 3 → Fin 8 → Fin 256 → ℝ} {al be ks : Fin 3 → Fin 8 → ℕ → ℝ} {id : Fin 2 → Fin 8 → ℕ → BitVec 32}
    (I : Ins c arg5 arg6 arg7 arg8 arg9 arg10 arg11 f5 f6 f7 f8 f9 f10 f11 k v al be ks id)
    (hal : ∀ sl h i, (2 : ℝ) ^ (-300 : ℝ) ≤ al sl h i) (hks : ∀ sl h i, 0 ≤ ks sl h i)
    (S : Fin 5 → Fin 8 → Fin 128 → Fin 256 → ℝ) (hS0 : (i 2).val = 0 → ∀ m h x y, S m h x y = 0)
    (hS : (i 2).val ≠ 0 → ∀ m h x y, arg14.view.read (Elt Ideal) f14 (ix5 0 m h x y) = ((S m h x y : ℝ) : EReal))
    (m : Fin 5) (h : Fin 8) (x : Fin 128) (y : Fin 256) :
    arg14.view.read (Elt Ideal) (kernelRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f4 f5 f6 f7 f8 f9 f10 f11 f12 f14).1 (ix5 0 m h x y)
      = ((Chunk.run (aR al id m h) (sR ks id m h) (bR be id m h) (kM k (qR id) m h) (vM v (qR id) m h) (S m h) 128 x y : ℝ) : EReal) := by
  have hpos : ∀ sl h i, 0 < al sl h i := fun sl h i => lt_of_lt_of_le (Real.rpow_pos_of_pos two_pos _) (hal sl h i)
  have hZ : ∀ m h x y, arg14.view.read (Elt Ideal) (st0 c i arg14 f14) (ix5 0 m h x y) = ((S m h x y : ℝ) : EReal) := by
    intro m h x y
    unfold st0
    generalize instDecidableEqBitVec (kernelRun.sl.v2 i) 1#1 = d
    cases d with
    | isFalse hd => exact hS (fun e => hd ((v2_iff i).mpr e)) m h x y
    | isTrue hd =>
      refine (View.read_writes_cons_unit_of_mem arg14.view f14 _ _ _ (ix5 0 m h x y) (ix5 0 m h x y : S1x5x8x128x256.Idx) rfl (ixS m h x y)).trans ?_
      rw [hS0 ((v2_iff i).mp hd)]; exact zero_at m h x y
  have H := stateTo_read (I.held (arg12 := arg12) (f12 := f12) hal hks arg15 arg17 arg18 arg19 arg15.view.junk arg17.view.junk arg18.view.junk arg19.view.junk)
    (fun m h i => (aR_pos hpos id m h i).ne') (fun m h i _ => gR_prd hpos id m h i) (st0 c i arg14 f14) S hZ 4 le_rfl m h x y
  rw [if_pos (by omega)] at H
  rw [kernelRun_state, v3_eq, v4_eq, four_eq]
  exact H

end Cert.KernelIdeal.Hand

end
-- ==== Proof.LaunchVal.lean ====
/- The kernel's run over the reals: what every point leaves in the state block, and the state array at the end. -/
module

public import proofs.«01_k».proof.Proof.LaunchIn
public import proofs.«01_k».proof.Proof.BodyVal
public import proofs.«01_k».proof.Proof.Gen.KernelIdeal.Skeleton
public import proofs.«01_k».proof.Proof.Gen.KernelIdeal.Launch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

/-! ## The state block between two points of a sequence -/

theorem tr10 (i : grid0.Coords) : cc0_transform_10 i = ![(i 0).val, 0, (i 1).val, 0, 0] := by
  have h0 : (i 0).val < 6 := (i 0).isLt
  have h1 : (i 1).val < 3 := (i 1).isLt
  funext a; fin_cases a <;> simp [cc0_transform_10, BitVec.toNat_ofNat] <;> omega

/-- A point that is not its sequence's first chunk follows the same sequence's chunk before. -/
theorem pred_coords : ∀ t : Fin grid0.N, (grid0.coords t 2).val ≠ 0 → t.val ≠ 0
    ∧ grid0.coords ⟨t.val - 1, Nat.lt_of_le_of_lt (Nat.sub_le _ _) t.isLt⟩ 0 = grid0.coords t 0
    ∧ grid0.coords ⟨t.val - 1, Nat.lt_of_le_of_lt (Nat.sub_le _ _) t.isLt⟩ 1 = grid0.coords t 1
    ∧ (grid0.coords ⟨t.val - 1, Nat.lt_of_le_of_lt (Nat.sub_le _ _) t.isLt⟩ 2).val + 1 = (grid0.coords t 2).val := by
  decide +kernel

theorem no_flush (t : Fin (cfgA m).N) (h : (grid0.coords t 2).val ≠ 0) :
    ((cfgA m).win 10).flush ⟨t.val - 1, Nat.lt_of_le_of_lt (Nat.sub_le _ _) t.isLt⟩ = false := by
  obtain ⟨h0, e0, e1, e2⟩ := pred_coords t h
  have hlt : t.val < grid0.N := t.isLt
  have hs : (⟨t.val - 1 + 1, by omega⟩ : Fin grid0.N) = t := Fin.ext (by show t.val - 1 + 1 = t.val; omega)
  unfold Pipeline.Window.flush
  refine Bool.and_eq_false_iff.mpr (.inr ?_)
  refine Bool.or_eq_false_iff.mpr ⟨decide_eq_false (by intro (e : t.val - 1 + 1 = grid0.N); omega), decide_eq_false ?_⟩
  rintro ⟨h', hne⟩
  refine hne ?_
  show cc0_transform_10 (grid0.coords ⟨t.val - 1 + 1, _⟩) = cc0_transform_10 (grid0.coords ⟨t.val - 1, _⟩)
  rw [show (⟨t.val - 1 + 1, h'⟩ : Fin grid0.N) = t from hs, tr10, tr10]
  erw [e0, e1]

/-- What a point that is not its sequence's first chunk finds in the state block. -/
theorem found10 (c : Dev nD) (t : Fin (cfgA m).N) (h : (grid0.coords t 2).val ≠ 0) (Y) (hY : (rdat m c).Finds 10 t Y) :
    ∀ mm hh x y, Y (ix5 0 mm hh x y : S1x5x8x128x256.Idx) = ((FSm m c (grid0.coords t 0) mm (hd8 (grid0.coords t 1) hh) (128 * (grid0.coords t 2).val) x y : ℝ) : EReal) := by
  obtain ⟨h0, e0, e1, e2⟩ := pred_coords t h
  rw [Pipeline.RDat.finds_of_pos (rdat m c) (((cfgA m).win 10).fetch_out rfl t) h0, no_flush m t h] at hY
  obtain hf | ⟨Y', -, hX⟩ := hY
  · cases hf
  · intro mm hh x y
    have hX' : StateAt m c (grid0.coords ⟨t.val - 1, Nat.lt_of_le_of_lt (Nat.sub_le _ _) t.isLt⟩) Y := hX
    have := hX' mm hh x y
    rw [this, ← e2, Nat.mul_add, Nat.mul_one]
    erw [e0, e1]

/-! ## The body -/

/-- The staging memref of window `w` at point `t`. -/
abbrev ms (t : Fin (cfgA m).N) (w : Fin 11) := (spec0 w).stage ((cfgA m).slots t w)

/-- The kernel's body at point `t`. -/
abbrev bodyAt (t : Fin (cfgA m).N) : Prog (TpuEff nD τ sig (Elt Ideal) Λ₀ .tc) PUnit :=
  cc0_mom_chunk (grid0.coords t) (Memref.whole main_v6) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (spec0_8.stage ((cfgA m).slots t 8)) (hstage0_8 (((cfgA m).slots t 8).cast nbuf0_8)) (spec0_9.stage ((cfgA m).slots t 9)) (hstage0_9 (((cfgA m).slots t 9).cast nbuf0_9)) (spec0_10.stage ((cfgA m).slots t 10)) (hstage0_10 (((cfgA m).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

theorem defs₀_row (t : Fin (cfgA m).N) : defs₀ (F := Ideal) .tc (cfgA m).body ((cfgA m).bodyArgs t ((cfgA m).slots t)) = bodyAt m t := by
  unfold defs₀; rw [Defs.onTc_tc]

theorem PhiA_eq (c : Dev nD) :
    (Pipeline.ΦA spec0 c : sProp 𝕄)
      = iprop(((∃ f, at' c (Memref.whole cc0_scratch0) f) ∗ (∃ f, at' c (Memref.whole cc0_scratch1) f) ∗ (∃ f, at' c (Memref.whole cc0_scratch2) f) ∗ (∃ f, at' c (Memref.whole cc0_scratch3) f) ∗ (∃ f, at' c (Memref.whole cc0_scratch4) f) ∗ (∃ f, at' c (Memref.whole cc0_scratch5) f)) ∗ (∃ r, prngReg c r)) := by
  unfold Pipeline.ΦA; rw [scopedRest0_eq]; simp only [at', Memref.view_whole, View.set_whole]; try rfl

def bodyPre (c : Dev nD) (t : Fin (cfgA m).N) (Y : (w : Fin 11) → ((cfgA m).win w).block.Idx → Elt Ideal ((cfgA m).win w).elt) : sProp 𝕄 :=
  iprop((rdat m c).Φ t.castSucc ∗ (rdat m c).owesAt () t.castSucc ∗ owns (c : Thread nD τ) (spec0_0.stage ((cfgA m).slots t 0)) fullShare (Y 0) ∗ owns (c : Thread nD τ) (spec0_1.stage ((cfgA m).slots t 1)) fullShare (Y 1) ∗ owns (c : Thread nD τ) (spec0_2.stage ((cfgA m).slots t 2)) fullShare (Y 2) ∗ owns (c : Thread nD τ) (spec0_3.stage ((cfgA m).slots t 3)) fullShare (Y 3) ∗ owns (c : Thread nD τ) (spec0_4.stage ((cfgA m).slots t 4)) fullShare (Y 4) ∗ owns (c : Thread nD τ) (spec0_5.stage ((cfgA m).slots t 5)) fullShare (Y 5) ∗ owns (c : Thread nD τ) (spec0_6.stage ((cfgA m).slots t 6)) fullShare (Y 6) ∗ owns (c : Thread nD τ) (spec0_7.stage ((cfgA m).slots t 7)) fullShare (Y 7) ∗ owns (c : Thread nD τ) (spec0_8.stage ((cfgA m).slots t 8)) fullShare (Y 8) ∗ owns (c : Thread nD τ) (spec0_9.stage ((cfgA m).slots t 9)) fullShare (Y 9) ∗ owns (c : Thread nD τ) (spec0_10.stage ((cfgA m).slots t 10)) fullShare (Y 10))
def bodyPost (c : Dev nD) (t : Fin (cfgA m).N) (Y : (w : Fin 11) → ((cfgA m).win w).block.Idx → Elt Ideal ((cfgA m).win w).elt) : sProp 𝕄 :=
  iprop((rdat m c).Φ t.succ ∗ (rdat m c).owesAt () t.succ ∗ (∃ X, ⌜(rdat m c).after 0 t (Y 0) X⌝ ∗ owns (c : Thread nD τ) (spec0_0.stage ((cfgA m).slots t 0)) fullShare X) ∗ (∃ X, ⌜(rdat m c).after 1 t (Y 1) X⌝ ∗ owns (c : Thread nD τ) (spec0_1.stage ((cfgA m).slots t 1)) fullShare X) ∗ (∃ X, ⌜(rdat m c).after 2 t (Y 2) X⌝ ∗ owns (c : Thread nD τ) (spec0_2.stage ((cfgA m).slots t 2)) fullShare X) ∗ (∃ X, ⌜(rdat m c).after 3 t (Y 3) X⌝ ∗ owns (c : Thread nD τ) (spec0_3.stage ((cfgA m).slots t 3)) fullShare X) ∗ (∃ X, ⌜(rdat m c).after 4 t (Y 4) X⌝ ∗ owns (c : Thread nD τ) (spec0_4.stage ((cfgA m).slots t 4)) fullShare X) ∗ (∃ X, ⌜(rdat m c).after 5 t (Y 5) X⌝ ∗ owns (c : Thread nD τ) (spec0_5.stage ((cfgA m).slots t 5)) fullShare X) ∗ (∃ X, ⌜(rdat m c).after 6 t (Y 6) X⌝ ∗ owns (c : Thread nD τ) (spec0_6.stage ((cfgA m).slots t 6)) fullShare X) ∗ (∃ X, ⌜(rdat m c).after 7 t (Y 7) X⌝ ∗ owns (c : Thread nD τ) (spec0_7.stage ((cfgA m).slots t 7)) fullShare X) ∗ (∃ X, ⌜(rdat m c).after 8 t (Y 8) X⌝ ∗ owns (c : Thread nD τ) (spec0_8.stage ((cfgA m).slots t 8)) fullShare X) ∗ (∃ X, ⌜(rdat m c).after 9 t (Y 9) X⌝ ∗ owns (c : Thread nD τ) (spec0_9.stage ((cfgA m).slots t 9)) fullShare X) ∗ (∃ X, ⌜(rdat m c).after 10 t (Y 10) X⌝ ∗ owns (c : Thread nD τ) (spec0_10.stage ((cfgA m).slots t 10)) fullShare X))

/-- The state block after the body, from the blocks as found. -/
theorem state_left (hG : ∀ c, GoodM m c) (c : Dev nD) (t : Fin (cfgA m).N) (Y : (w : Fin 11) → ((cfgA m).win w).block.Idx → Elt Ideal ((cfgA m).win w).elt) (hY : ∀ w, (rdat m c).Finds w t (Y w))
    (g0 : Buf (Elt Ideal) ((spec0_0.stage ((cfgA m).slots t 0)).view.loc (c : Thread nD τ))) (g1 : Buf (Elt Ideal) ((spec0_1.stage ((cfgA m).slots t 1)).view.loc (c : Thread nD τ))) (g2 : Buf (Elt Ideal) ((spec0_2.stage ((cfgA m).slots t 2)).view.loc (c : Thread nD τ))) (g3 : Buf (Elt Ideal) ((spec0_3.stage ((cfgA m).slots t 3)).view.loc (c : Thread nD τ))) (g4 : Buf (Elt Ideal) ((spec0_4.stage ((cfgA m).slots t 4)).view.loc (c : Thread nD τ))) (g5 : Buf (Elt Ideal) ((spec0_5.stage ((cfgA m).slots t 5)).view.loc (c : Thread nD τ))) (g6 : Buf (Elt Ideal) ((spec0_6.stage ((cfgA m).slots t 6)).view.loc (c : Thread nD τ))) (g7 : Buf (Elt Ideal) ((spec0_7.stage ((cfgA m).slots t 7)).view.loc (c : Thread nD τ))) (g8 : Buf (Elt Ideal) ((spec0_8.stage ((cfgA m).slots t 8)).view.loc (c : Thread nD τ))) (g10 : Buf (Elt Ideal) ((spec0_10.stage ((cfgA m).slots t 10)).view.loc (c : Thread nD τ)))
    (e1 : (spec0_1.stage ((cfgA m).slots t 1)).view.read (Elt Ideal) g1 = Y 1) (e2 : (spec0_2.stage ((cfgA m).slots t 2)).view.read (Elt Ideal) g2 = Y 2) (e3 : (spec0_3.stage ((cfgA m).slots t 3)).view.read (Elt Ideal) g3 = Y 3) (e4 : (spec0_4.stage ((cfgA m).slots t 4)).view.read (Elt Ideal) g4 = Y 4) (e5 : (spec0_5.stage ((cfgA m).slots t 5)).view.read (Elt Ideal) g5 = Y 5) (e6 : (spec0_6.stage ((cfgA m).slots t 6)).view.read (Elt Ideal) g6 = Y 6) (e7 : (spec0_7.stage ((cfgA m).slots t 7)).view.read (Elt Ideal) g7 = Y 7) (e10 : (spec0_10.stage ((cfgA m).slots t 10)).view.read (Elt Ideal) g10 = Y 10) :
    StateAt m c (grid0.coords t) ((spec0_10.stage ((cfgA m).slots t 10)).view.read (Elt Ideal) (kernelRun c (grid0.coords t) (Memref.whole main_v6) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (spec0_8.stage ((cfgA m).slots t 8)) (hstage0_8 (((cfgA m).slots t 8).cast nbuf0_8)) (spec0_9.stage ((cfgA m).slots t 9)) (hstage0_9 (((cfgA m).slots t 9).cast nbuf0_9)) (spec0_10.stage ((cfgA m).slots t 10)) (hstage0_10 (((cfgA m).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) g0 g1 g2 g3 g4 g5 g6 g7 g8 g10).1) := by
  intro mm hh x y
  have I := ins_at m c t (hG c) (Y 1) (Y 2) (Y 3) (Y 4) (Y 5) (Y 6) (Y 7) (hY 1) (hY 2) (hY 3) (hY 4) (hY 5) (hY 6) (hY 7) (spec0_1.stage ((cfgA m).slots t 1)) (spec0_2.stage ((cfgA m).slots t 2)) (spec0_3.stage ((cfgA m).slots t 3)) (spec0_4.stage ((cfgA m).slots t 4)) (spec0_5.stage ((cfgA m).slots t 5)) (spec0_6.stage ((cfgA m).slots t 6)) (spec0_7.stage ((cfgA m).slots t 7)) g1 g2 g3 g4 g5 g6 g7 e1 e2 e3 e4 e5 e6 e7
  refine (body_val c (grid0.coords t) (Memref.whole main_v6) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (spec0_8.stage ((cfgA m).slots t 8)) (hstage0_8 (((cfgA m).slots t 8).cast nbuf0_8)) (spec0_9.stage ((cfgA m).slots t 9)) (hstage0_9 (((cfgA m).slots t 9).cast nbuf0_9)) (spec0_10.stage ((cfgA m).slots t 10)) (hstage0_10 (((cfgA m).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) g0 g1 g2 g3 g4 g5 g6 g7 g8 g10 I (fun sl h i => (hG c).al0 _) (fun sl h i => (hG c).ks0 _)
    (fun mm hh => FSm m c (grid0.coords t 0) mm (hd8 (grid0.coords t 1) hh) (128 * (grid0.coords t 2).val)) ?_ ?_ mm hh x y).trans ?_
  · intro h0 mm hh x y
    rw [h0]; rfl
  · intro h0 mm hh x y
    rw [e10]; exact found10 m c t h0 (Y 10) (hY 10) mm hh x y
  · exact congrArg (fun f : Fin 128 → Fin 256 → ℝ => ((f x y : ℝ) : EReal)) (FS_add _ _ _ _ _ _ (grid0.coords t 0) mm (grid0.coords t 1) hh (128 * (grid0.coords t 2).val) 128).symm

set_option maxHeartbeats 4000000 in
theorem sound_body (hG : ∀ c, GoodM m c) (c : Dev nD) (t : Fin (cfgA m).N) (Y : (w : Fin 11) → ((cfgA m).win w).block.Idx → Elt Ideal ((cfgA m).win w).elt) (hY : ∀ w, (rdat m c).Finds w t (Y w)) :
    bodyPre m c t Y ⊢ wp frame (wpE (defs₀ (F := Ideal)) Variants.none c none) Set.univ (bodyAt m t) (fun _ => bodyPost m c t Y) := by
  unfold bodyPre bodyPost bodyAt
  rw [show (rdat m c).Φ t.succ = (rdat m c).Φ t.castSucc from rfl,
    show (rdat m c).owesAt () t.succ = (rdat m c).owesAt () t.castSucc from rfl,
    show (rdat m c).Φ t.castSucc = iprop(Pipeline.ΦA spec0 c ∗ Pipeline.ΦT pre0 (tbl m) c) from rfl, PhiA_eq]
  unfold owns
  iintro ⟨⟨⟨⟨S0, S1, S2, S3, S4, S5⟩, Hg⟩, HT⟩, HO, ⟨%g0, %e0, H0⟩, ⟨%g1, %e1, H1⟩, ⟨%g2, %e2, H2⟩, ⟨%g3, %e3, H3⟩, ⟨%g4, %e4, H4⟩, ⟨%g5, %e5, H5⟩, ⟨%g6, %e6, H6⟩, ⟨%g7, %e7, H7⟩, ⟨%g8, %e8, H8⟩, ⟨%g9, %e9, H9⟩, ⟨%g10, %e10, H10⟩⟩
  have hS := state_left m hG c t Y hY g0 g1 g2 g3 g4 g5 g6 g7 g8 g10 e1 e2 e3 e4 e5 e6 e7 e10
  have KK := (kernelRun c (grid0.coords t) (Memref.whole main_v6) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (spec0_8.stage ((cfgA m).slots t 8)) (hstage0_8 (((cfgA m).slots t 8).cast nbuf0_8)) (spec0_9.stage ((cfgA m).slots t 9)) (hstage0_9 (((cfgA m).slots t 9).cast nbuf0_9)) (spec0_10.stage ((cfgA m).slots t 10)) (hstage0_10 (((cfgA m).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) g0 g1 g2 g3 g4 g5 g6 g7 g8 g10).2
  beta_reduce at KK
  generalize (kernelRun c (grid0.coords t) (Memref.whole main_v6) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (spec0_8.stage ((cfgA m).slots t 8)) (hstage0_8 (((cfgA m).slots t 8).cast nbuf0_8)) (spec0_9.stage ((cfgA m).slots t 9)) (hstage0_9 (((cfgA m).slots t 9).cast nbuf0_9)) (spec0_10.stage ((cfgA m).slots t 10)) (hstage0_10 (((cfgA m).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) g0 g1 g2 g3 g4 g5 g6 g7 g8 g10).1 = G at hS KK
  iapply (KK _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, ⟨%g9', H9⟩, H10, S0, S1, S2, S3, S4, S5⟩
  isplitl [S0 S1 S2 S3 S4 S5 Hg HT]
  · isplitr [HT]
    · isplitr [Hg]; rotate_left; · iexact Hg
      isplitl [S0]; · iexact S0
      isplitl [S1]; · iexact S1
      isplitl [S2]; · iexact S2
      isplitl [S3]; · iexact S3
      isplitl [S4]; · iexact S4
      iexact S5
    iexact HT
  isplitl [HO]; · iexact HO
  isplitl [H0]
  · iexists Y 0; isplitr; · ipureintro; rfl
    iexists _; isplitr; swap; · iexact H0
    ipureintro; exact e0
  isplitl [H1]
  · iexists Y 1; isplitr; · ipureintro; rfl
    iexists _; isplitr; swap; · iexact H1
    ipureintro; exact e1
  isplitl [H2]
  · iexists Y 2; isplitr; · ipureintro; rfl
    iexists _; isplitr; swap; · iexact H2
    ipureintro; exact e2
  isplitl [H3]
  · iexists Y 3; isplitr; · ipureintro; rfl
    iexists _; isplitr; swap; · iexact H3
    ipureintro; exact e3
  isplitl [H4]
  · iexists Y 4; isplitr; · ipureintro; rfl
    iexists _; isplitr; swap; · iexact H4
    ipureintro; exact e4
  isplitl [H5]
  · iexists Y 5; isplitr; · ipureintro; rfl
    iexists _; isplitr; swap; · iexact H5
    ipureintro; exact e5
  isplitl [H6]
  · iexists Y 6; isplitr; · ipureintro; rfl
    iexists _; isplitr; swap; · iexact H6
    ipureintro; exact e6
  isplitl [H7]
  · iexists Y 7; isplitr; · ipureintro; rfl
    iexists _; isplitr; swap; · iexact H7
    ipureintro; exact e7
  isplitl [H8]
  · iexists Y 8; isplitr; · ipureintro; rfl
    iexists _; isplitr; swap; · iexact H8
    ipureintro; exact e8
  isplitl [H9]
  · iexists ((spec0_9.stage ((cfgA m).slots t 9)).view.read (Elt Ideal) g9'); isplitr; · ipureintro; trivial
    iexists _; isplitr; swap; · iexact H9
    ipureintro; rfl
  iexists ((spec0_10.stage ((cfgA m).slots t 10)).view.read (Elt Ideal) G); isplitr
  · ipureintro; exact hS
  iexists _; isplitr; swap; · iexact H10
  ipureintro; rfl

theorem body_obligation (hG : ∀ c, GoodM m c) (c : Dev nD) : (rdat m c).BodyObligation (defs₀ (F := Ideal)) Variants.none () Set.univ := fun t Y hY => by
  rw [bigSep_W0, bigSep_W0, defs₀_row]
  exact triple_restated (sound_body m hG c t Y hY) rfl .rfl fun _ => .rfl

theorem hout (c : Dev nD) : (rdat m c).Φ (Fin.last (cfgA m).N) ⊢ Pipeline.ΦA spec0 c := by
  rw [show (rdat m c).Φ (Fin.last (cfgA m).N) = iprop(Pipeline.ΦA spec0 c ∗ Pipeline.ΦT pre0 (tbl m) c) from rfl]
  iintro ⟨H, -⟩; iexact H

/-- The arrays the host operations read, and no window stages. -/
theorem mem_rest (b : Ref sig .tc) (h : b ∈ [main_arg1, main_arg2, main_arg4, main_arg5, main_arg6, main_arg7]) : b ∈ Pipeline.restRefs sig spec0 := by
  revert b; decide

set_option backward.isDefEq.respectTransparency.types false in
/-- Every weakly fair execution of @main terminates with every input array and every buffer no window stages at its entry
    contents, and every semaphore counter at zero. -/
theorem run_main (hG : ∀ c, GoodM m c) :
    θ_run defs (onTc (τ := τ) (main (F := Ideal))) (s₀ m ρ)
      (fun r => Pipeline.RDat.FramePost (cfgA m) (rdat m) (V m) r ∧ r.2.sem = fun _ => 0) :=
  Pipeline.RDat.θ_run_frameP_track_shared (Q' := _) (pcfgs (F := Ideal)) (adm m) (0 : Fin 1) launch₀0 defs₀ Variants.none (rdat m) m ρ main
    (hbody := body_obligation m hG) (hq := fun _ _ _ => rfl) (howed := fun _ _ => rfl) (V := V m) (hmain := hmain m Variants.none)
    (hA := fun _ _ => rfl) (hpf := fun c k => by obtain rfl : c = 0 := Subsingleton.elim _ _; rfl)
    (hin := fun _ => .rfl) (hout := fun c => hout m c)

end Cert.KernelIdeal.Hand

end
-- ==== Proof.FinalVal.lean ====
/- The state array after the kernel's run over the reals. -/
module

public import proofs.«01_k».proof.Proof.LaunchVal
public import proofs.«01_k».proof.Proof.BodyVal
public import proofs.«01_k».proof.Proof.Gen.KernelIdeal.Skeleton
public import proofs.«01_k».proof.Proof.Gen.KernelIdeal.Launch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

theorem next_coords : ∀ t : Fin grid0.N, (grid0.coords t 2).val < 11 → ∃ h : t.val + 1 < grid0.N, (grid0.coords ⟨t.val + 1, h⟩ 2).val ≠ 0 := by
  decide +kernel

/-! ## The state array after the run -/

theorem flush_last : ∀ t : Fin grid0.N, Pipeline.Window.flush (G := grid0) ((cfgA m).win 10) t = true → (grid0.coords t 2).val = 11 := by
  intro t ht
  by_contra hne
  have hlt : (grid0.coords t 2).val < 12 := (grid0.coords t 2).isLt
  obtain ⟨hn, h0⟩ := next_coords t (by omega)
  have := no_flush m ⟨t.val + 1, hn⟩ h0
  rw [show (⟨(⟨t.val + 1, hn⟩ : Fin (cfgA m).N).val - 1, Nat.lt_of_le_of_lt (Nat.sub_le _ _) (⟨t.val + 1, hn⟩ : Fin (cfgA m).N).isLt⟩ : Fin (cfgA m).N) = t from Fin.ext rfl] at this
  exact absurd (ht.symm.trans this) (by decide)

/-- The state's window, at a table of zeros: no index map reads the table. -/
def win10 : Pipeline.Window sig grid0 :=
  (Pipeline.pin (pcfgs (F := Ideal)) (fun _ => ⟨fun k => match k with | ⟨0, _⟩ => fun _ => (0#32 : BitVec 32), trivial⟩) 0).win 10

theorem covers0 : win10.Covers := by decide +kernel

theorem covers10 : ((cfgA m).win 10).Covers := covers0

theorem state_final (c : Dev nD) (r) (h : Pipeline.RDat.FramePost (cfgA m) (rdat m) (V m) r) (b : Fin 6) (mm : Fin 5) (H : Fin 24) (x : Fin 128) (y : Fin 256) :
    r.2.mem ((c.tc : Thread nD τ).loc main_v7_1) (ix5 b mm H x y : S6x5x24x128x256.Idx) = ((FSm m c b mm H 1536 x y : ℝ) : EReal) := by
  obtain ⟨after, hL, hA⟩ := h.exists_exact c
  have hA10 : r.2.mem ((c.tc : Thread nD τ).loc main_v7_1) = ((rdat m c).withAfter after).arrAt 10 (cfgA m).N := hA 10
  rw [hA10]
  refine Pipeline.Dat.arrAt_forall_of_covers ((rdat m c).withAfter after) 10
    (P := fun (i : S6x5x24x128x256.Idx) (v : EReal) => v = ((FSm m c (i 0) (i 1) (i 2) 1536 (i 3) (i 4) : ℝ) : EReal)) (covers10 m) ?_ (ix5 b mm H x y : S6x5x24x128x256.Idx)
  intro t ht yy
  obtain ⟨Y', -, hX⟩ := hL 10 t ht
  have hX' : StateAt m c (grid0.coords t) (after 10 t) := hX
  have e11 := flush_last m t ht
  have gen : ∀ (z : S1x5x8x128x256.Idx) (E : S6x5x24x128x256.Idx), (∀ a, (E a).val = cc0_transform_10 (grid0.coords t) a * S1x5x8x128x256.size a + 1 * (z a).val) →
      after 10 t z = ((FSm m c (E 0) (E 1) (E 2) 1536 (E 3) (E 4) : ℝ) : EReal) := by
    intro z E hE
    rw [tr10] at hE
    have z0 : (z 0).val < 1 := (z 0).isLt
    have e0 : E 0 = grid0.coords t 0 := Fin.ext ((hE 0).trans (by show (grid0.coords t 0).val * 1 + 1 * (z 0).val = _; omega))
    have e1 : E 1 = z 1 := Fin.ext ((hE 1).trans (by show 0 * 5 + 1 * (z 1).val = _; omega))
    have e2 : E 2 = hd8 (grid0.coords t 1) (z 2) := Fin.ext ((hE 2).trans (by show (grid0.coords t 1).val * 8 + 1 * (z 2).val = 8 * (grid0.coords t 1).val + (z 2).val; omega))
    have e3 : E 3 = z 3 := Fin.ext ((hE 3).trans (by show 0 * 128 + 1 * (z 3).val = _; omega))
    have e4 : E 4 = z 4 := Fin.ext ((hE 4).trans (by show 0 * 256 + 1 * (z 4).val = _; omega))
    have hz : z = ix5 0 (z 1) (z 2) (z 3) (z 4) := by
      funext a
      match a with
      | 0 => exact Fin.ext (by show (z 0).val = 0; omega)
      | 1 => rfl
      | 2 => rfl
      | 3 => rfl
      | 4 => rfl
    have := hX' (z 1) (z 2) (z 3) (z 4)
    rw [e11] at this
    rw [e0, e1, e2, e3, e4]
    exact (congrArg (after 10 t) hz).trans this
  exact gen yy _ (fun a => rfl)

end Cert.KernelIdeal.Hand

end
-- ==== Proof.RefStep.lean ====
/- One trip of the reference's loop, read at an index. -/
module

public import proofs.«01_k».proof.Proof.Gen.ReferenceIdeal.Run
public import proofs.«01_k».proof.Proof.DataVal

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.StableHlo

/-! ## The slices of one token -/

section
variable {α : Type} {n : ℕ} (hn : n < 1536)

theorem dyn3 (X : S6x1536x3x24.Idx → α) (f : Fin 4 → ℤ) (h0 : f 0 = 0) (h1 : f 1 = n) (h2 : f 2 = 0) (h3 : f 3 = 0) (b : Fin 6) (sl : Fin 3) (H : Fin 24) :
    shapeCast S6x3x24 (Host.dynamicSlice S6x1x3x24 X f sliceFits_S6x1536x3x24_S6x1x3x24) shapeCasts_S6x1x3x24_S6x3x24 (ix3 b sl H) = X (ix4 b ⟨n, hn⟩ sl H) := by
  pointwise
  congr 1
  funext a; apply Fin.ext
  match a with
  | 0 => exact (congrArg (· + _) (Host.clampedStart_of_le (s := S6x1536x3x24) (t := S6x1x3x24) rfl f 0 0 h0 (by decide))).trans (Nat.zero_add _)
  | 1 => exact (congrArg (· + _) (Host.clampedStart_of_le (s := S6x1536x3x24) (t := S6x1x3x24) rfl f 1 n h1 (by show n + 1 ≤ 1536; omega))).trans (Nat.add_zero _)
  | 2 => exact (congrArg (· + _) (Host.clampedStart_of_le (s := S6x1536x3x24) (t := S6x1x3x24) rfl f 2 0 h2 (by decide))).trans (Nat.zero_add _)
  | 3 => exact (congrArg (· + _) (Host.clampedStart_of_le (s := S6x1536x3x24) (t := S6x1x3x24) rfl f 3 0 h3 (by decide))).trans (Nat.zero_add _)

theorem dyn2 (X : S6x1536x24x2.Idx → α) (f : Fin 4 → ℤ) (h0 : f 0 = 0) (h1 : f 1 = n) (h2 : f 2 = 0) (h3 : f 3 = 0) (b : Fin 6) (H : Fin 24) (r : Fin 2) :
    shapeCast S6x24x2 (Host.dynamicSlice S6x1x24x2 X f sliceFits_S6x1536x24x2_S6x1x24x2) shapeCasts_S6x1x24x2_S6x24x2 (ix3 b H r) = X (ix4 b ⟨n, hn⟩ H r) := by
  pointwise
  congr 1
  funext a; apply Fin.ext
  match a with
  | 0 => exact (congrArg (· + _) (Host.clampedStart_of_le (s := S6x1536x24x2) (t := S6x1x24x2) rfl f 0 0 h0 (by decide))).trans (Nat.zero_add _)
  | 1 => exact (congrArg (· + _) (Host.clampedStart_of_le (s := S6x1536x24x2) (t := S6x1x24x2) rfl f 1 n h1 (by show n + 1 ≤ 1536; omega))).trans (Nat.add_zero _)
  | 2 => exact (congrArg (· + _) (Host.clampedStart_of_le (s := S6x1536x24x2) (t := S6x1x24x2) rfl f 2 0 h2 (by decide))).trans (Nat.zero_add _)
  | 3 => exact (congrArg (· + _) (Host.clampedStart_of_le (s := S6x1536x24x2) (t := S6x1x24x2) rfl f 3 0 h3 (by decide))).trans (Nat.zero_add _)

theorem dynK (X : S6x1536x3x24x128.Idx → α) (f : Fin 5 → ℤ) (h0 : f 0 = 0) (h1 : f 1 = n) (h2 : f 2 = 0) (h3 : f 3 = 0) (h4 : f 4 = 0) (b : Fin 6) (sl : Fin 3) (H : Fin 24) (z : Fin 128) :
    shapeCast S6x3x24x128 (Host.dynamicSlice S6x1x3x24x128 X f sliceFits_S6x1536x3x24x128_S6x1x3x24x128) shapeCasts_S6x1x3x24x128_S6x3x24x128 (ix4 b sl H z) = X (ix5 b ⟨n, hn⟩ sl H z) := by
  pointwise
  congr 1
  funext a; apply Fin.ext
  match a with
  | 0 => exact (congrArg (· + _) (Host.clampedStart_of_le (s := S6x1536x3x24x128) (t := S6x1x3x24x128) rfl f 0 0 h0 (by decide))).trans (Nat.zero_add _)
  | 1 => exact (congrArg (· + _) (Host.clampedStart_of_le (s := S6x1536x3x24x128) (t := S6x1x3x24x128) rfl f 1 n h1 (by show n + 1 ≤ 1536; omega))).trans (Nat.add_zero _)
  | 2 => exact (congrArg (· + _) (Host.clampedStart_of_le (s := S6x1536x3x24x128) (t := S6x1x3x24x128) rfl f 2 0 h2 (by decide))).trans (Nat.zero_add _)
  | 3 => exact (congrArg (· + _) (Host.clampedStart_of_le (s := S6x1536x3x24x128) (t := S6x1x3x24x128) rfl f 3 0 h3 (by decide))).trans (Nat.zero_add _)
  | 4 => exact (congrArg (· + _) (Host.clampedStart_of_le (s := S6x1536x3x24x128) (t := S6x1x3x24x128) rfl f 4 0 h4 (by decide))).trans (Nat.zero_add _)

theorem dynV (X : S6x1536x3x24x256.Idx → α) (f : Fin 5 → ℤ) (h0 : f 0 = 0) (h1 : f 1 = n) (h2 : f 2 = 0) (h3 : f 3 = 0) (h4 : f 4 = 0) (b : Fin 6) (sl : Fin 3) (H : Fin 24) (z : Fin 256) :
    shapeCast S6x3x24x256 (Host.dynamicSlice S6x1x3x24x256 X f sliceFits_S6x1536x3x24x256_S6x1x3x24x256) shapeCasts_S6x1x3x24x256_S6x3x24x256 (ix4 b sl H z) = X (ix5 b ⟨n, hn⟩ sl H z) := by
  pointwise
  congr 1
  funext a; apply Fin.ext
  match a with
  | 0 => exact (congrArg (· + _) (Host.clampedStart_of_le (s := S6x1536x3x24x256) (t := S6x1x3x24x256) rfl f 0 0 h0 (by decide))).trans (Nat.zero_add _)
  | 1 => exact (congrArg (· + _) (Host.clampedStart_of_le (s := S6x1536x3x24x256) (t := S6x1x3x24x256) rfl f 1 n h1 (by show n + 1 ≤ 1536; omega))).trans (Nat.add_zero _)
  | 2 => exact (congrArg (· + _) (Host.clampedStart_of_le (s := S6x1536x3x24x256) (t := S6x1x3x24x256) rfl f 2 0 h2 (by decide))).trans (Nat.zero_add _)
  | 3 => exact (congrArg (· + _) (Host.clampedStart_of_le (s := S6x1536x3x24x256) (t := S6x1x3x24x256) rfl f 3 0 h3 (by decide))).trans (Nat.zero_add _)
  | 4 => exact (congrArg (· + _) (Host.clampedStart_of_le (s := S6x1536x3x24x256) (t := S6x1x3x24x256) rfl f 4 0 h4 (by decide))).trans (Nat.zero_add _)

include hn in
/-- The start index is the token's number. -/
theorem start_eq (v : IVec S_ 32) (hv : v = fun _ => BitVec.ofNat 32 n) (j : S_.Idx) :
    ((select (cmpi .slt v (constantI S_ 32 0#32)) (addi (id v) (constantI S_ 32 1536#32)) v) j).toInt = n := by
  have hi : (BitVec.ofNat 32 n).toInt = n := by rw [BitVec.toInt_eq_toNat_of_lt] <;> simp [BitVec.toNat_ofNat] <;> omega
  subst hv
  have hs : (cmpi .slt (fun _ => BitVec.ofNat 32 n) (constantI S_ 32 0#32)) j = 0#1 := by
    pointwise
    show BitVec.ofBool ((BitVec.ofNat 32 n).slt 0#32) = 0#1
    rw [show (BitVec.ofNat 32 n).slt 0#32 = false from by simp [BitVec.slt, hi]]
    rfl
  show (Scalar.select _ _ _ : BitVec 32).toInt = n
  rw [hs]
  exact hi
end

/-! ## The trip's operations at an index -/

theorem lem16 (A : FVec Ideal S6x3x24x128 .f32) (B : FVec Ideal S6x3x24 .f32) (b : Fin 6) (H : Fin 24) (sl : Fin 3) (z : Fin 128) :
    transpose S6x24x3x128 [0, 2, 1, 3] (mulf A (broadcastInDim S6x3x24x128 ![0, 1, 2, 3] bcast_S6x3x24x1_S6x3x24x128_0_1_2_3 (broadcastInDim S6x3x24x1 ![0, 1, 2] bcast_S6x3x24_S6x3x24x1_0_1_2 B))) transposes_S6x3x24x128_S6x24x3x128_0_2_1_3 (ix4 b H sl z)
      = A (ix4 b sl H z) * B (ix3 b sl H) := by
  pointwise

theorem lem31a (I : IVec S6x24x3 32) (b : Fin 6) (H : Fin 24) (sl : Fin 3) (mm : Fin 5) :
    cmpi .eq (broadcastInDim S6x24x3x5 ![0, 1, 2, 3] bcast_S6x24x3x1_S6x24x3x5_0_1_2_3 (broadcastInDim S6x24x3x1 ![0, 1, 2] bcast_S6x24x3_S6x24x3x1_0_1_2 I)) (iotaInDim S6x24x3x5 32 3) (ix4 b H sl mm)
      = if I (ix3 b H sl) = BitVec.ofNat 32 mm.val then 1#1 else 0#1 := by
  pointwise
  show BitVec.ofBool (_ == _) = _
  by_cases h : I (ix3 b H sl) = BitVec.ofNat 32 mm.val
  · rw [if_pos h, h]; simp
  · rw [if_neg h, beq_eq_false_iff_ne.mpr h]; rfl

theorem lem36 (M : IVec S6x24x3x5 1) (S : FVec Ideal S6x24x5x128x256 .f32) (B : FVec Ideal S6x3x24 .f32) (b : Fin 6) (H : Fin 24) (sl : Fin 3) (x : Fin 128) (y : Fin 256) :
    mulf (Host.dotGeneral dot_S6x24x3x5_S6x24x5x128x256_S6x24x3x128x256_3_2_2_34_01_01 (some .fp32) (uitofp .f32 M) S) (broadcastInDim S6x24x3x128x256 ![0, 1, 2, 3, 4] bcast_S6x24x3x1x1_S6x24x3x128x256_0_1_2_3_4 (broadcastInDim S6x24x3x1x1 ![0, 1, 2] bcast_S6x24x3_S6x24x3x1x1_0_1_2 (transpose S6x24x3 [0, 2, 1] B transposes_S6x3x24_S6x24x3_0_2_1))) (ix5 b H sl x y)
      = (∑ mm : Fin 5, (((M (ix4 b H sl mm)).toNat : ℝ) : EReal) * S (ix5 b H mm x y)) * B (ix3 b sl H) := by
  pointwise
  rfl

theorem lem47 (D : FVec Ideal S6x24x3x128x256 .f32) (K : FVec Ideal S6x24x3x128 .f32) (B : FVec Ideal S6x3x24 .f32) (W : FVec Ideal S6x3x24x256 .bf16) (b : Fin 6) (H : Fin 24) (sl : Fin 3) (x : Fin 128) (y : Fin 256) :
    addf D (mulf (broadcastInDim S6x24x3x128x256 ![0, 1, 2, 3, 4] bcast_S6x24x3x128x1_S6x24x3x128x256_0_1_2_3_4 (broadcastInDim S6x24x3x128x1 ![0, 1, 2, 3] bcast_S6x24x3x128_S6x24x3x128x1_0_1_2_3 (mulf (broadcastInDim S6x24x3x128 ![0, 1, 2, 3] bcast_S6x24x3x1_S6x24x3x128_0_1_2_3 (broadcastInDim S6x24x3x1 ![0, 1, 2] bcast_S6x24x3_S6x24x3x1_0_1_2 (transpose S6x24x3 [0, 2, 1] B transposes_S6x3x24_S6x24x3_0_2_1))) K))) (broadcastInDim S6x24x3x128x256 ![0, 1, 2, 3, 4] bcast_S6x24x3x1x256_S6x24x3x128x256_0_1_2_3_4 (broadcastInDim S6x24x3x1x256 ![0, 1, 2, 4] bcast_S6x24x3x256_S6x24x3x1x256_0_1_2_4 (subf (transpose S6x24x3x256 [0, 2, 1, 3] (extf .f32 W bitsLt_bf16_f32) transposes_S6x3x24x256_S6x24x3x256_0_2_1_3) (Host.dotGeneral dot_S6x24x3x128x256_S6x24x3x128_S6x24x3x256_3_3_4_n_012_012 (some .fp32) D K))))) (ix5 b H sl x y)
      = D (ix5 b H sl x y) + (B (ix3 b sl H) * K (ix4 b H sl x)) * (W (ix4 b sl H y) - ∑ z : Fin 128, D (ix5 b H sl z y) * K (ix4 b H sl z)) := by
  pointwise

/-- One slot's hit against the memories. -/
theorem lemH (M : IVec S6x24x3x5 1) (o : Fin 3) {off : Fin 4 → ℕ} (e : off = ![0, 0, o.val, 0]) (hs) (b : Fin 6) (H : Fin 24) (mm : Fin 5) (x : Fin 128) (y : Fin 256) :
    broadcastInDim S6x24x5x128x256 ![0, 1, 2, 3, 4] bcast_S6x24x5x1x1_S6x24x5x128x256_0_1_2_3_4 (broadcastInDim S6x24x5x1x1 ![0, 1, 2] bcast_S6x24x5_S6x24x5x1x1_0_1_2 (shapeCast S6x24x5 (extractStridedSlice S6x24x1x5 off M hs) shapeCasts_S6x24x1x5_S6x24x5)) (ix5 b H mm x y)
      = M (ix4 b H o mm) := by
  subst e
  fin_cases o <;> pointwise

/-- One slot's new state, at every memory. -/
theorem lemN (N : FVec Ideal S6x24x3x128x256 .f32) (o : Fin 3) {off : Fin 5 → ℕ} (e : off = ![0, 0, o.val, 0, 0]) (hs) (b : Fin 6) (H : Fin 24) (mm : Fin 5) (x : Fin 128) (y : Fin 256) :
    broadcastInDim S6x24x5x128x256 ![0, 1, 2, 3, 4] bcast_S6x24x1x128x256_S6x24x5x128x256_0_1_2_3_4 (broadcastInDim S6x24x1x128x256 ![0, 1, 3, 4] bcast_S6x24x128x256_S6x24x1x128x256_0_1_3_4 (shapeCast S6x24x128x256 (extractStridedSlice S6x24x1x128x256 off N hs) shapeCasts_S6x24x1x128x256_S6x24x128x256)) (ix5 b H mm x y)
      = N (ix5 b H o x y) := by
  subst e
  fin_cases o <;> pointwise

/-! ## One trip's values -/

abbrev aK (V0 : Valuation τ sig (Elt Ideal)) : S6x1536x3x24x128.Idx → EReal := V0 (Proc.devRef .tc main_v4_1)
abbrev aKs (V0 : Valuation τ sig (Elt Ideal)) : S6x1536x3x24.Idx → EReal := V0 (Proc.devRef .tc main_v4_2)
abbrev aV (V0 : Valuation τ sig (Elt Ideal)) : S6x1536x3x24x256.Idx → EReal := V0 (Proc.devRef .tc main_v4_3)
abbrev aAl (V0 : Valuation τ sig (Elt Ideal)) : S6x1536x3x24.Idx → EReal := V0 (Proc.devRef .tc main_v4_4)
abbrev aBe (V0 : Valuation τ sig (Elt Ideal)) : S6x1536x3x24.Idx → EReal := V0 (Proc.devRef .tc main_v4_5)
abbrev aId (V0 : Valuation τ sig (Elt Ideal)) : S6x1536x24x2.Idx → BitVec 32 := V0 (Proc.devRef .tc main_v4_6)
abbrev aC (V0 : Valuation τ sig (Elt Ideal)) : S6x24x1.Idx → BitVec 32 := V0 (Proc.devRef .tc main_v4_7)
abbrev aS (V0 : Valuation τ sig (Elt Ideal)) : S6x24x5x128x256.Idx → EReal := V0 (Proc.devRef .tc main_v4_12)
abbrev rK (V0 : Valuation τ sig (Elt Ideal)) : S6x24x3x128.Idx → EReal := res_main_while0b_v16 V0
abbrev rM (V0 : Valuation τ sig (Elt Ideal)) : S6x24x3x5.Idx → BitVec 1 := res_main_while0b_v31 V0
abbrev rD (V0 : Valuation τ sig (Elt Ideal)) : S6x24x3x128x256.Idx → EReal := res_main_while0b_v36 V0
abbrev rN (V0 : Valuation τ sig (Elt Ideal)) : S6x24x3x128x256.Idx → EReal := res_main_while0b_v47 V0

section
variable (V0 : Valuation τ sig (Elt Ideal)) {n : ℕ} (hn : n < 1536)
  (hc : (V0 (Proc.devRef .tc main_v4_11) : IVec S_ 32) = fun _ => BitVec.ofNat 32 n)
include hc

theorem v16_at (b : Fin 6) (H : Fin 24) (sl : Fin 3) (z : Fin 128) :
    rK V0 (ix4 b H sl z)
      = aK V0 (ix5 b ⟨n, hn⟩ sl H z) * aKs V0 (ix4 b ⟨n, hn⟩ sl H) := by
  unfold rK res_main_while0b_v16
  refine (lem16 _ _ b H sl z).trans ?_
  rw [dynK hn _ _ rfl (start_eq hn _ hc _) rfl rfl rfl, dyn3 hn _ _ rfl (start_eq hn _ hc _) rfl rfl]

/-- The memory a slot of a token addresses. -/
theorem v31_at (h7 : ∀ j, aC V0 j = 4#32) (b : Fin 6) (H : Fin 24) (sl : Fin 3) (mm : Fin 5) :
    rM V0 (ix4 b H sl mm)
      = if (if h : sl.val < 2 then aId V0 (ix4 b ⟨n, hn⟩ H ⟨sl.val, h⟩) else 4#32) = BitVec.ofNat 32 mm.val then 1#1 else 0#1 := by
  unfold rM res_main_while0b_v31
  refine (lem31a _ b H sl mm).trans ?_
  congr 2
  by_cases h : sl.val < 2
  · rw [dif_pos h]
    refine (concatenate_pair_apply_left (t := S6x24x3) (s₁ := S6x24x2) (s₂ := S6x24x1) 2 _ _ _ (ix3 b H sl : S6x24x3.Idx) rfl (ix3 b H ⟨sl.val, h⟩ : S6x24x2.Idx) (fun a => by match a with | 0 => rfl | 1 => rfl | 2 => rfl)).trans ?_
    exact dyn2 hn _ _ rfl (start_eq hn _ hc _) rfl rfl b H ⟨sl.val, h⟩
  · rw [dif_neg h]
    refine (concatenate_pair_apply_right (t := S6x24x3) (s₁ := S6x24x2) (s₂ := S6x24x1) 2 _ _ _ (ix3 b H sl : S6x24x3.Idx) rfl rfl (ix3 b H 0 : S6x24x1.Idx) (fun a ha => by match a with | 0 => rfl | 1 => rfl | 2 => exact absurd rfl ha) ?_).trans (h7 _)
    show 0 + 2 = sl.val
    omega

theorem v36_at (b : Fin 6) (H : Fin 24) (sl : Fin 3) (x : Fin 128) (y : Fin 256) :
    rD V0 (ix5 b H sl x y)
      = (∑ mm : Fin 5, (((rM V0 (ix4 b H sl mm)).toNat : ℝ) : EReal) * aS V0 (ix5 b H mm x y))
        * aAl V0 (ix4 b ⟨n, hn⟩ sl H) := by
  unfold rD res_main_while0b_v36
  refine (lem36 _ _ _ b H sl x y).trans ?_
  rw [dyn3 hn _ _ rfl (start_eq hn _ hc _) rfl rfl]

theorem v47_at (b : Fin 6) (H : Fin 24) (sl : Fin 3) (x : Fin 128) (y : Fin 256) :
    rN V0 (ix5 b H sl x y)
      = rD V0 (ix5 b H sl x y)
        + (aBe V0 (ix4 b ⟨n, hn⟩ sl H) * rK V0 (ix4 b H sl x))
          * (aV V0 (ix5 b ⟨n, hn⟩ sl H y)
            - ∑ z : Fin 128, rD V0 (ix5 b H sl z y) * rK V0 (ix4 b H sl z)) := by
  unfold rN res_main_while0b_v47
  refine (lem47 _ _ _ _ b H sl x y).trans ?_
  rw [dyn3 hn _ _ rfl (start_eq hn _ hc _) rfl rfl, dynV hn _ _ rfl (start_eq hn _ hc _) rfl rfl rfl]

end

theorem step12_at (V0 : Valuation τ sig (Elt Ideal)) (b : Fin 6) (H : Fin 24) (mm : Fin 5) (x : Fin 128) (y : Fin 256) :
    (step_main_v4_12 V0 : S6x24x5x128x256.Idx → EReal) (ix5 b H mm x y)
      = if rM V0 (ix4 b H 2 mm) = 1#1 then rN V0 (ix5 b H 2 x y)
        else if rM V0 (ix4 b H 1 mm) = 1#1 then rN V0 (ix5 b H 1 x y)
        else if rM V0 (ix4 b H 0 mm) = 1#1 then rN V0 (ix5 b H 0 x y)
        else aS V0 (ix5 b H mm x y) := by
  unfold step_main_v4_12
  unfold rM rN aS
  generalize (res_main_while0b_v31 V0) = M
  generalize (res_main_while0b_v47 V0) = N
  rw [← lemH M 2 (off := ![0, 0, 2, 0]) rfl slices_S6x24x3x5_S6x24x1x5_0_0_2_0 b H mm x y, ← lemH M 1 (off := ![0, 0, 1, 0]) rfl slices_S6x24x3x5_S6x24x1x5_0_0_1_0 b H mm x y,
    ← lemH M 0 (off := ![0, 0, 0, 0]) rfl slices_S6x24x3x5_S6x24x1x5_0_0_0_0 b H mm x y,
    ← lemN N 2 (off := ![0, 0, 2, 0, 0]) rfl slices_S6x24x3x128x256_S6x24x1x128x256_0_0_2_0_0 b H mm x y, ← lemN N 1 (off := ![0, 0, 1, 0, 0]) rfl slices_S6x24x3x128x256_S6x24x1x128x256_0_0_1_0_0 b H mm x y,
    ← lemN N 0 (off := ![0, 0, 0, 0, 0]) rfl slices_S6x24x3x128x256_S6x24x1x128x256_0_0_0_0_0 b H mm x y]
  rfl

end Cert.ReferenceIdeal.Value

end
-- ==== Proof.RefVal.lean ====
/- The reference's states after any number of tokens, as real numbers. -/
module

public import proofs.«01_k».proof.Proof.RefStep

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.StableHlo
open Cert.KernelIdeal.Hand (Kd Vd Gd FS Good coe_sum tk tk_of aR bR sR kM vM qR)

/-- The token ids name routed memories, the two of a token different ones. -/
structure Ids (A : S6x1536x24x2.Idx → BitVec 32) : Prop where
  lt : ∀ j, (A j).toNat < 4
  ne : ∀ (b : Fin 6) (t : Fin 1536) (H : Fin 24), A (ix4 b t H 0) ≠ A (ix4 b t H 1)

theorem four_mask : ∀ mm : Fin 5, (if (4#32 : BitVec 32) = BitVec.ofNat 32 mm.val then (1#1 : BitVec 1) else 0#1) = if 4 = mm then 1#1 else 0#1 := by decide

section
variable (V0 : Valuation τ sig (Elt Ideal)) {n : ℕ} (hn : n < 1536)
  (hc : (V0 (Proc.devRef .tc main_v4_11) : IVec S_ 32) = fun _ => BitVec.ofNat 32 n)
  {b : Fin 6} {H : Fin 24}
include hc

/-- A slot's new state, if the slot addresses memory `i`. -/
theorem rN_at {sl : Fin 3} {i : Fin 5} (hM : ∀ mm, rM V0 (ix4 b H sl mm) = if i = mm then 1#1 else 0#1)
    {S : Fin 5 → Fin 128 → Fin 256 → ℝ} (hS : ∀ mm x y, aS V0 (ix5 b H mm x y) = ((S mm x y : ℝ) : EReal))
    {k : Fin 128 → ℝ} {v : Fin 256 → ℝ} {al be ks : ℝ}
    (hk : ∀ z, aK V0 (ix5 b ⟨n, hn⟩ sl H z) = ((k z : ℝ) : EReal)) (hv : ∀ y, aV V0 (ix5 b ⟨n, hn⟩ sl H y) = ((v y : ℝ) : EReal))
    (hal : aAl V0 (ix4 b ⟨n, hn⟩ sl H) = (al : EReal)) (hbe : aBe V0 (ix4 b ⟨n, hn⟩ sl H) = (be : EReal)) (hks : aKs V0 (ix4 b ⟨n, hn⟩ sl H) = (ks : EReal))
    (x : Fin 128) (y : Fin 256) :
    rN V0 (ix5 b H sl x y) = ((Chunk.step al ks be k v (S i) x y : ℝ) : EReal) := by
  have hD : ∀ x y, rD V0 (ix5 b H sl x y) = ((al * S i x y : ℝ) : EReal) := by
    intro x y
    rw [v36_at V0 hn hc, hal, Finset.sum_eq_single i]
    · rw [hM, if_pos rfl, hS]
      show (((1 : ℕ) : ℝ) : EReal) * _ * _ = _
      rw [Nat.cast_one, ← EReal.coe_mul, ← EReal.coe_mul]
      congr 1; ring
    · intro j _ hj
      rw [hM, if_neg (fun e => hj e.symm), hS]
      show (((0 : ℕ) : ℝ) : EReal) * _ = _
      rw [Nat.cast_zero, ← EReal.coe_mul, zero_mul]; rfl
    · intro h; exact absurd (Finset.mem_univ i) h
  have hK : ∀ z, rK V0 (ix4 b H sl z) = ((ks * k z : ℝ) : EReal) := by
    intro z
    rw [v16_at V0 hn hc, hk, hks, ← EReal.coe_mul, mul_comm]
  rw [v47_at V0 hn hc, hD, hbe, hK, hv]
  have hs : ∑ z : Fin 128, rD V0 (ix5 b H sl z y) * rK V0 (ix4 b H sl z) = ((∑ z : Fin 128, al * S i z y * (ks * k z) : ℝ) : EReal) := by
    rw [coe_sum]
    exact Finset.sum_congr rfl fun z _ => by rw [hD, hK, ← EReal.coe_mul]
  rw [hs, ← EReal.coe_mul, ← EReal.coe_sub, ← EReal.coe_mul, ← EReal.coe_add]
  rfl

end

section
variable {A1 : S6x1536x3x24x128.Idx → EReal} {A2 : S6x1536x3x24.Idx → EReal} {A3 : S6x1536x3x24x256.Idx → EReal}
  {A4 A5 : S6x1536x3x24.Idx → EReal} {A6 : S6x1536x24x2.Idx → BitVec 32}

/-- One trip takes every memory's state over one token. -/
theorem trip_state (G : Good A1 A2 A3 A4 A5) (hI : Ids A6) (V0 : Valuation τ sig (Elt Ideal)) {n : ℕ} (hn : n < 1536)
    (hc : (V0 (Proc.devRef .tc main_v4_11) : IVec S_ 32) = fun _ => BitVec.ofNat 32 n)
    (h1 : aK V0 = A1) (h2 : aKs V0 = A2) (h3 : aV V0 = A3) (h4 : aAl V0 = A4) (h5 : aBe V0 = A5) (h6 : aId V0 = A6) (h7 : ∀ j, aC V0 j = 4#32)
    (hS : ∀ b H mm x y, aS V0 (ix5 b H mm x y) = ((FS A1 A2 A3 A4 A5 A6 b mm H n x y : ℝ) : EReal)) (b : Fin 6) (H : Fin 24) (mm : Fin 5) (x : Fin 128) (y : Fin 256) :
    (step_main_v4_12 V0 : S6x24x5x128x256.Idx → EReal) (ix5 b H mm x y) = ((FS A1 A2 A3 A4 A5 A6 b mm H (n + 1) x y : ℝ) : EReal) := by
  have et := tk_of hn
  have hk : ∀ sl z, aK V0 (ix5 b ⟨n, hn⟩ sl H z) = ((Kd A1 b H n sl z : ℝ) : EReal) := fun sl z => by
    rw [h1]; unfold Kd; rw [et]; exact G.k _
  have hv : ∀ sl z, aV V0 (ix5 b ⟨n, hn⟩ sl H z) = ((Vd A3 b H n sl z : ℝ) : EReal) := fun sl z => by
    rw [h3]; unfold Vd; rw [et]; exact G.v _
  have hal : ∀ sl, aAl V0 (ix4 b ⟨n, hn⟩ sl H) = ((Gd A4 b H sl n : ℝ) : EReal) := fun sl => by
    rw [h4]; unfold Gd; rw [et]; exact G.al _
  have hbe : ∀ sl, aBe V0 (ix4 b ⟨n, hn⟩ sl H) = ((Gd A5 b H sl n : ℝ) : EReal) := fun sl => by
    rw [h5]; unfold Gd; rw [et]; exact G.be _
  have hks : ∀ sl, aKs V0 (ix4 b ⟨n, hn⟩ sl H) = ((Gd A2 b H sl n : ℝ) : EReal) := fun sl => by
    rw [h2]; unfold Gd; rw [et]; exact G.ks _
  have hM : ∀ sl mm, rM V0 (ix4 b H sl mm) = if (if h : sl.val < 2 then Cert.KernelIdeal.Hand.Id A6 b H ⟨sl.val, h⟩ n else 4#32) = BitVec.ofNat 32 mm.val then 1#1 else 0#1 := by
    intro sl mm
    rw [v31_at V0 hn hc h7, h6]; unfold Cert.KernelIdeal.Hand.Id; rw [et]
  have hid : ∀ r, (Cert.KernelIdeal.Hand.Id A6 b H r n).toNat < 4 := fun r => hI.lt _
  have hne : Cert.KernelIdeal.Hand.Id A6 b H 0 n ≠ Cert.KernelIdeal.Hand.Id A6 b H 1 n := by unfold Cert.KernelIdeal.Hand.Id; exact hI.ne b _ H
  have hof : ∀ (r : Fin 2) (k : Fin 5), Cert.KernelIdeal.Hand.Id A6 b H r n = BitVec.ofNat 32 k.val ↔ (⟨(Cert.KernelIdeal.Hand.Id A6 b H r n).toNat, by have := hid r; omega⟩ : Fin 5) = k := by
    intro r k
    have hk5 := k.isLt
    constructor
    · intro e; apply Fin.ext; show (Cert.KernelIdeal.Hand.Id A6 b H r n).toNat = k.val; rw [e, BitVec.toNat_ofNat]; omega
    · intro e; subst e; rw [BitVec.ofNat_toNat, BitVec.setWidth_eq]
  have hM0 : ∀ mm, rM V0 (ix4 b H 0 mm) = if Cert.KernelIdeal.Hand.Id A6 b H 0 n = BitVec.ofNat 32 mm.val then 1#1 else 0#1 := fun mm => hM 0 mm
  have hM1 : ∀ mm, rM V0 (ix4 b H 1 mm) = if Cert.KernelIdeal.Hand.Id A6 b H 1 n = BitVec.ofNat 32 mm.val then 1#1 else 0#1 := fun mm => hM 1 mm
  have hM2 : ∀ mm : Fin 5, rM V0 (ix4 b H 2 mm) = if 4 = mm then 1#1 else 0#1 := fun mm => (hM 2 mm).trans (by
    rw [dif_neg (by decide)]; exact four_mask mm)
  have e10 : (0#1 : BitVec 1) ≠ 1#1 := by decide
  have hstep : FS A1 A2 A3 A4 A5 A6 b mm H (n + 1) = Chunk.step (aR (fun sl _ t => Gd A4 b H sl t) (fun r _ t => Cert.KernelIdeal.Hand.Id A6 b H r t) mm 0 n) (sR (fun sl _ t => Gd A2 b H sl t) (fun r _ t => Cert.KernelIdeal.Hand.Id A6 b H r t) mm 0 n)
    (bR (fun sl _ t => Gd A5 b H sl t) (fun r _ t => Cert.KernelIdeal.Hand.Id A6 b H r t) mm 0 n) (kM (fun t sl _ => Kd A1 b H t sl) (qR (fun r _ t => Cert.KernelIdeal.Hand.Id A6 b H r t)) mm 0 n)
    (vM (fun t sl _ => Vd A3 b H t sl) (qR (fun r _ t => Cert.KernelIdeal.Hand.Id A6 b H r t)) mm 0 n) (FS A1 A2 A3 A4 A5 A6 b mm H n) := rfl
  rw [step12_at, hM2, hM1, hM0, hstep]
  unfold aR sR bR kM vM qR
  by_cases h4 : mm = 4
  · subst h4
    rw [if_pos rfl, if_pos rfl]
    exact (rN_at V0 hn hc hM2 (fun mm x y => hS b H mm x y) (hk 2) (hv 2) (hal 2) (hbe 2) (hks 2) x y).trans rfl
  · have hv4 : ¬ mm.val = 4 := fun e => h4 (Fin.ext e)
    have hl4 : mm.val < 4 := by have := mm.isLt; omega
    rw [if_neg (fun e : (4 : Fin 5) = mm => h4 e.symm), if_neg e10, if_neg hv4, if_neg hv4, if_neg hv4, dif_pos hl4, dif_pos hl4]
    by_cases q1 : Cert.KernelIdeal.Hand.Id A6 b H 1 n = BitVec.ofNat 32 mm.val
    · have q0 : ¬ Cert.KernelIdeal.Hand.Id A6 b H 0 n = BitVec.ofNat 32 mm.val := fun e => hne (e.trans q1.symm)
      rw [if_pos q1, if_pos rfl, if_neg q0, if_neg q0, if_neg q0, if_pos q1, if_pos q1,
        if_neg (by simpa using q0), if_neg (by simpa using q0)]
      have e1 := (hof 1 mm).mp q1
      refine rN_at V0 hn hc (i := mm) (fun k => (hM1 k).trans ?_) (fun mm x y => hS b H mm x y) (hk 1) (hv 1) (hal 1) (hbe 1) (hks 1) x y
      rw [← e1]; exact if_congr (hof 1 k) rfl rfl
    · rw [if_neg q1, if_neg e10]
      by_cases q0 : Cert.KernelIdeal.Hand.Id A6 b H 0 n = BitVec.ofNat 32 mm.val
      · rw [if_pos q0, if_pos rfl, if_pos q0, if_pos q0, if_pos q0, if_pos (by simpa using q0), if_pos (by simpa using q0)]
        have e0 := (hof 0 mm).mp q0
        refine rN_at V0 hn hc (i := mm) (fun k => (hM0 k).trans ?_) (fun mm x y => hS b H mm x y) (hk 0) (hv 0) (hal 0) (hbe 0) (hks 0) x y
        rw [← e0]; exact if_congr (hof 0 k) rfl rfl
      · rw [if_neg q0, if_neg e10, if_neg q0, if_neg q0, if_neg q0, if_neg q1, if_neg q1, hS]
        congr 1
        unfold Chunk.step
        ring

end

/-! ## The loop -/

theorem zero_bits : Ideal.ofBits .f32 0x00000000#32 = ((0 : ℝ) : EReal) := by
  simp [Ideal.ofBits, Ideal.ieee]

theorem iter_keep {β : DevRef τ sig} (h : ∀ V0 : Valuation τ sig (Elt Ideal), STEP V0 β = V0 β) (E : Valuation τ sig (Elt Ideal)) (n : ℕ) :
    (STEP^[n] E) β = E β := by
  induction n with
  | zero => rfl
  | succ n ih => rw [Function.iterate_succ_apply', h, ih]

section
variable (m : (ℓ : Loc nD τ sig) → Buf (Elt Ideal) ℓ) (c : Dev nD)

theorem ent1 : aK (entryContents preI m c) = m ((c.tc : Thread nD τ).loc main_arg1) := by
  unfold aK; simp only [entryContents, afterL_cons, afterL_nil]; after_reads_simp; rfl
theorem ent2 : aKs (entryContents preI m c) = m ((c.tc : Thread nD τ).loc main_arg2) := by
  unfold aKs; simp only [entryContents, afterL_cons, afterL_nil]; after_reads_simp; rfl
theorem ent3 : aV (entryContents preI m c) = m ((c.tc : Thread nD τ).loc main_arg3) := by
  unfold aV; simp only [entryContents, afterL_cons, afterL_nil]; after_reads_simp; rfl
theorem ent4 : aAl (entryContents preI m c) = m ((c.tc : Thread nD τ).loc main_arg4) := by
  unfold aAl; simp only [entryContents, afterL_cons, afterL_nil]; after_reads_simp; rfl
theorem ent5 : aBe (entryContents preI m c) = m ((c.tc : Thread nD τ).loc main_arg5) := by
  unfold aBe; simp only [entryContents, afterL_cons, afterL_nil]; after_reads_simp; rfl
theorem ent6 : aId (entryContents preI m c) = m ((c.tc : Thread nD τ).loc main_arg6) := by
  unfold aId; simp only [entryContents, afterL_cons, afterL_nil]; after_reads_simp; rfl
theorem ent7 : aC (entryContents preI m c) = fun _ => 4#32 := by
  unfold aC; simp only [entryContents, afterL_cons, afterL_nil]; after_reads_simp
  rfl
theorem ent11 : ((entryContents preI m c) (Proc.devRef .tc main_v4_11) : IVec S_ 32) = fun _ => 0#32 := by
  simp only [entryContents, afterL_cons, afterL_nil]; after_reads_simp
  rfl
theorem ent12 : aS (entryContents preI m c) = fun _ => ((0 : ℝ) : EReal) := by
  unfold aS; simp only [entryContents, afterL_cons, afterL_nil]; after_reads_simp
  funext j
  exact zero_bits

end

section
variable (m : (ℓ : Loc nD τ sig) → Buf (Elt Ideal) ℓ) (c : Dev nD)

theorem ctr11 (n : ℕ) : ((STEP^[n] (entryContents preI m c)) (Proc.devRef .tc main_v4_11) : IVec S_ 32) = fun _ => BitVec.ofNat 32 n := by
  induction n with
  | zero => exact ent11 m c
  | succ n ih =>
    rw [Function.iterate_succ_apply', STEP_main_v4_11]
    unfold step_main_v4_11
    funext j
    rw [show ((STEP^[n] (entryContents preI m c)) (Proc.devRef .tc main_v4_11)) = fun _ => BitVec.ofNat 32 n from ih]
    exact (BitVec.ofNat_add n 1).symm

abbrev RG : Prop := Good (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- Every memory's state after `n` trips. -/
theorem state_at (G : RG m c) (hI : Ids (m ((c.tc : Thread nD τ).loc main_arg6))) (n : ℕ) (hn : n ≤ 1536) (b : Fin 6) (H : Fin 24) (mm : Fin 5) (x : Fin 128) (y : Fin 256) :
    aS (STEP^[n] (entryContents preI m c)) (ix5 b H mm x y)
      = ((FS (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b mm H n x y : ℝ) : EReal) := by
  induction n generalizing b H mm x y with
  | zero => exact congrFun (ent12 m c) _
  | succ n ih =>
    have h12 : aS (STEP^[n + 1] (entryContents preI m c)) = step_main_v4_12 (STEP^[n] (entryContents preI m c)) := by
      unfold aS; rw [Function.iterate_succ_apply', STEP_main_v4_12]
    rw [h12]
    exact trip_state G hI _ (by omega) (ctr11 m c n)
      ((iter_keep STEP_main_v4_1 _ n).trans (ent1 m c)) ((iter_keep STEP_main_v4_2 _ n).trans (ent2 m c)) ((iter_keep STEP_main_v4_3 _ n).trans (ent3 m c))
      ((iter_keep STEP_main_v4_4 _ n).trans (ent4 m c)) ((iter_keep STEP_main_v4_5 _ n).trans (ent5 m c)) ((iter_keep STEP_main_v4_6 _ n).trans (ent6 m c))
      (fun j => congrFun ((iter_keep STEP_main_v4_7 _ n).trans (ent7 m c)) j) (fun b H mm x y => ih (by omega) b H mm x y) b H mm x y

theorem out5_at (V0 : Valuation τ sig (Elt Ideal)) (b : Fin 6) (mm : Fin 5) (H : Fin 24) (x : Fin 128) (y : Fin 256) :
    (out_main_v5 V0 : S6x5x24x128x256.Idx → EReal) (ix5 b mm H x y) = aS V0 (ix5 b H mm x y) := by
  unfold out_main_v5
  pointwise

end

end Cert.ReferenceIdeal.Value

end
-- ==== Proof.PreVal.lean ====
/- What the precondition says of the kernel's arguments, as facts about real numbers and naturals. -/
module

public import proofs.«01_k».proof.Defs
public import proofs.«01_k».proof.Proof.RefVal

@[expose] public section

set_option maxRecDepth 16384

noncomputable section

namespace Cert.Pre_real_inputs

open Cert.Pre_real_inputs
open Idealize.ShloMosaic Idealize.ShloMosaic.TcCoe Idealize.ShloMosaic.StableHlo

/-- The shapes' conditions of the precondition. -/
theorem facts : Facts where
  bcast_S_S6x1536x3x24x128 := by decide
  bcast_S_S6x1536x3x24 := by decide
  bcast_S_S6x1536x3x24x256 := by decide
  bcast_S_S6x1536x24x2 := by decide
  slices_S6x1536x24x2_S6x1536x24x1_0_0_0_0 := by decide
  shapeCasts_S6x1536x24x1_S6x1536x24 := by decide
  slices_S6x1536x24x2_S6x1536x24x1_0_0_0_1 := by decide

theorem inf_bf16 : Ideal.ofBits .bf16 0x7F80#16 = ⊤ := by simp [Ideal.ofBits, Ideal.ieee]
theorem inf_f32 : Ideal.ofBits .f32 0x7F800000#32 = ⊤ := by simp [Ideal.ofBits, Ideal.ieee]
theorem big_f32 : Ideal.ofBits .f32 0x71800000#32 = (((2 : ℝ) ^ (100 : ℕ) : ℝ) : EReal) := by
  simp [Ideal.ofBits, Ideal.ieee, -EReal.coe_mul, -EReal.coe_pow]; norm_num

theorem bit_eq {p : Prop} [Decidable p] (h : BitVec.ofBool (decide p) = 1#1) : p := by
  by_contra hp
  rw [decide_eq_false hp] at h
  exact absurd h (by decide)

/-- An extended real of absolute value below infinity is a real number. -/
theorem real_of_abs {a : EReal} (h : max a (-a) < ⊤) : a = ((a.toReal : ℝ) : EReal) := by
  refine (EReal.coe_toReal (fun e => ?_) (fun e => ?_)).symm
  · subst e; simp at h
  · subst e; simp at h

section
variable [Facts] (a0 : FVec Ideal S6x1536x24x128 .bf16) (a1 : FVec Ideal S6x1536x3x24x128 .f32) (a2 : FVec Ideal S6x1536x3x24 .f32)
  (a3 : FVec Ideal S6x1536x3x24x256 .bf16) (a4 a5 : FVec Ideal S6x1536x3x24 .f32) (a6 : IVec S6x1536x24x2 32) (a7 : FVec Ideal S6x1536x24x2 .f32)

theorem k_real (h : (fn (F := Ideal) a0 a1 a2 a3 a4 a5 a6 a7).1 = fun _ => 1#1) (j) : a1 j = (((a1 j : EReal).toReal : ℝ) : EReal) := by
  have e : BitVec.ofBool (decide (max (a1 j : EReal) (-(a1 j : EReal)) < Ideal.ofBits .f32 0x7F800000#32)) = 1#1 := congrFun h j
  exact real_of_abs (inf_f32 ▸ bit_eq e)
theorem ks_real (h : (fn (F := Ideal) a0 a1 a2 a3 a4 a5 a6 a7).2.1 = fun _ => 1#1) (j) : a2 j = (((a2 j : EReal).toReal : ℝ) : EReal) := by
  have e : BitVec.ofBool (decide (max (a2 j : EReal) (-(a2 j : EReal)) < Ideal.ofBits .f32 0x7F800000#32)) = 1#1 := congrFun h j
  exact real_of_abs (inf_f32 ▸ bit_eq e)
theorem v_real (h : (fn (F := Ideal) a0 a1 a2 a3 a4 a5 a6 a7).2.2.1 = fun _ => 1#1) (j) : a3 j = (((a3 j : EReal).toReal : ℝ) : EReal) := by
  have e : BitVec.ofBool (decide (max (a3 j : EReal) (-(a3 j : EReal)) < Ideal.ofBits .bf16 0x7F80#16)) = 1#1 := congrFun h j
  exact real_of_abs (inf_bf16 ▸ bit_eq e)
theorem al_real (h : (fn (F := Ideal) a0 a1 a2 a3 a4 a5 a6 a7).2.2.2.1 = fun _ => 1#1) (j) : a4 j = (((a4 j : EReal).toReal : ℝ) : EReal) := by
  have e : BitVec.ofBool (decide (max (a4 j : EReal) (-(a4 j : EReal)) < Ideal.ofBits .f32 0x7F800000#32)) = 1#1 := congrFun h j
  exact real_of_abs (inf_f32 ▸ bit_eq e)
theorem be_real (h : (fn (F := Ideal) a0 a1 a2 a3 a4 a5 a6 a7).2.2.2.2.1 = fun _ => 1#1) (j) : a5 j = (((a5 j : EReal).toReal : ℝ) : EReal) := by
  have e : BitVec.ofBool (decide (max (a5 j : EReal) (-(a5 j : EReal)) < Ideal.ofBits .f32 0x7F800000#32)) = 1#1 := congrFun h j
  exact real_of_abs (inf_f32 ▸ bit_eq e)
theorem ks_nonneg (h : (fn (F := Ideal) a0 a1 a2 a3 a4 a5 a6 a7).2.2.2.2.2.1 = fun _ => 1#1) (j) : 0 ≤ (a2 j : EReal).toReal := by
  have e : BitVec.ofBool (decide (Ideal.ofBits .f32 0x00000000#32 ≤ (a2 j : EReal))) = 1#1 := congrFun h j
  have e1 := bit_eq e
  rw [Ideal.ofBits_zero_f32] at e1
  exact EReal.toReal_nonneg e1
theorem al_floor (h : (fn (F := Ideal) a0 a1 a2 a3 a4 a5 a6 a7).2.2.2.2.2.2.1 = fun _ => 1#1)
    (hr : ∀ j, a4 j = (((a4 j : EReal).toReal : ℝ) : EReal)) (j) : (2 : ℝ) ^ (-300 : ℝ) ≤ (a4 j : EReal).toReal := by
  have e : BitVec.ofBool (decide (Ideal.ofBits .f32 0x3F800000#32 ≤ (a4 j : EReal) * Ideal.ofBits .f32 0x71800000#32 * Ideal.ofBits .f32 0x71800000#32 * Ideal.ofBits .f32 0x71800000#32)) = 1#1 := congrFun h j
  have e1 := bit_eq e
  rw [Ideal.ofBits_one_f32, big_f32, hr j, ← EReal.coe_mul, ← EReal.coe_mul, ← EReal.coe_mul] at e1
  have e2 : (1 : ℝ) ≤ (a4 j : EReal).toReal * 2 ^ 100 * 2 ^ 100 * 2 ^ 100 := by exact_mod_cast e1
  have e3 : (2 : ℝ) ^ (-300 : ℝ) = 1 / 2 ^ 300 := by
    rw [Real.rpow_neg (by norm_num), one_div]
    congr 1
    exact_mod_cast Real.rpow_natCast (2 : ℝ) 300
  rw [e3, div_le_iff₀ (by positivity)]
  rw [show (300 : ℕ) = 100 + 100 + 100 from rfl, pow_add, pow_add, ← mul_assoc, ← mul_assoc]
  exact e2
theorem id_lt (h0 : (fn (F := Ideal) a0 a1 a2 a3 a4 a5 a6 a7).2.2.2.2.2.2.2.1 = fun _ => 1#1)
    (h1 : (fn (F := Ideal) a0 a1 a2 a3 a4 a5 a6 a7).2.2.2.2.2.2.2.2.1 = fun _ => 1#1) (j) : (a6 j).toNat < 4 := by
  have e0 : IntOp.cmpi .sge (a6 j) 0#32 = 1#1 := congrFun h0 j
  have e1 : IntOp.cmpi .slt (a6 j) 4#32 = 1#1 := congrFun h1 j
  generalize a6 j = w at e0 e1
  have f0 : BitVec.sle 0#32 w = true := by
    by_contra hh; rw [Bool.not_eq_true] at hh
    rw [show IntOp.cmpi .sge w 0#32 = BitVec.ofBool (BitVec.sle 0#32 w) from rfl, hh] at e0
    exact absurd e0 (by decide)
  have f1 : BitVec.slt w 4#32 = true := by
    by_contra hh; rw [Bool.not_eq_true] at hh
    rw [show IntOp.cmpi .slt w 4#32 = BitVec.ofBool (BitVec.slt w 4#32) from rfl, hh] at e1
    exact absurd e1 (by decide)
  rw [BitVec.sle_iff_toInt_le] at f0
  rw [BitVec.slt_iff_toInt_lt] at f1
  rw [show (0#32 : BitVec 32).toInt = 0 from by decide] at f0
  rw [show (4#32 : BitVec 32).toInt = 4 from by decide] at f1
  rw [BitVec.toInt_eq_toNat_cond] at f0 f1
  have := w.isLt
  split at f0 <;> rename_i q
  · rw [if_pos q] at f1; omega
  · omega
theorem id_ne (h : (fn (F := Ideal) a0 a1 a2 a3 a4 a5 a6 a7).2.2.2.2.2.2.2.2.2 = fun _ => 1#1) (b : Fin 6) (t : Fin 1536) (H : Fin 24) :
    a6 (ix4 b t H 0) ≠ a6 (ix4 b t H 1) := by
  have e := congrFun h (ix3 b t H)
  intro q
  have e2 : IntOp.cmpi .ne (a6 (ix4 b t H 0)) (a6 (ix4 b t H 1)) = 1#1 := by
    refine Eq.trans ?_ e
    show _ = cmpi .ne (shapeCast S6x1536x24 (extractStridedSlice S6x1536x24x1 ![0, 0, 0, 0] a6 Facts.slices_S6x1536x24x2_S6x1536x24x1_0_0_0_0) Facts.shapeCasts_S6x1536x24x1_S6x1536x24)
      (shapeCast S6x1536x24 (extractStridedSlice S6x1536x24x1 ![0, 0, 0, 1] a6 Facts.slices_S6x1536x24x2_S6x1536x24x1_0_0_0_1) Facts.shapeCasts_S6x1536x24x1_S6x1536x24) (ix3 b t H)
    pointwise
  rw [q] at e2
  rw [show IntOp.cmpi .ne (a6 (ix4 b t H 1)) (a6 (ix4 b t H 1)) = BitVec.ofBool (a6 (ix4 b t H 1) != a6 (ix4 b t H 1)) from rfl, bne_self_eq_false] at e2
  exact absurd e2 (by decide)
end

end Cert.Pre_real_inputs

namespace Cert.Proof

open Idealize.ShloMosaic Idealize.ShloMosaic.TcCoe

theorem good_of_pre (m : (ℓ : Loc Cert.KernelIdeal.nD Cert.KernelIdeal.τ Cert.KernelIdeal.sig) → Buf (Elt Ideal) ℓ)
    (h : @Cert.Pre_KernelIdeal_real_inputs Cert.Pre_real_inputs.facts m) (c : Dev Cert.KernelIdeal.nD) :
    Cert.KernelIdeal.Hand.Good (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  letI := Cert.Pre_real_inputs.facts
  obtain ⟨h1, h2, h3, h4, h5, h7, h8, h9, h10, h11⟩ := h c
  exact ⟨Cert.Pre_real_inputs.k_real _ _ _ _ _ _ _ _ h1, Cert.Pre_real_inputs.ks_real _ _ _ _ _ _ _ _ h2, Cert.Pre_real_inputs.v_real _ _ _ _ _ _ _ _ h3,
    Cert.Pre_real_inputs.al_real _ _ _ _ _ _ _ _ h4, Cert.Pre_real_inputs.be_real _ _ _ _ _ _ _ _ h5, Cert.Pre_real_inputs.ks_nonneg _ _ _ _ _ _ _ _ h7,
    Cert.Pre_real_inputs.al_floor _ _ _ _ _ _ _ _ h8 (Cert.Pre_real_inputs.al_real _ _ _ _ _ _ _ _ h4)⟩

theorem ids_of_pre (m : (ℓ : Loc Cert.KernelIdeal.nD Cert.KernelIdeal.τ Cert.KernelIdeal.sig) → Buf (Elt Ideal) ℓ)
    (h : @Cert.Pre_KernelIdeal_real_inputs Cert.Pre_real_inputs.facts m) (c : Dev Cert.KernelIdeal.nD) :
    Cert.ReferenceIdeal.Value.Ids (m ((c.tc : Thread Cert.KernelIdeal.nD Cert.KernelIdeal.τ).loc Cert.KernelIdeal.main_arg6)) := by
  letI := Cert.Pre_real_inputs.facts
  obtain ⟨h1, h2, h3, h4, h5, h7, h8, h9, h10, h11⟩ := h c
  exact ⟨Cert.Pre_real_inputs.id_lt _ _ _ _ _ _ _ _ h9 h10, Cert.Pre_real_inputs.id_ne _ _ _ _ _ _ _ _ h11⟩

end Cert.Proof

end
-- ==== Proof.Algebra.lean ====
/- The final states of the kernel's idealization and of the reference are the same real numbers. -/
module

public import proofs.«01_k».proof.Defs
public import proofs.«01_k».proof.Proof.FinalVal
public import proofs.«01_k».proof.Proof.RefVal
public import proofs.«01_k».proof.Proof.PreVal
public import Idealize.ShloMosaic.Lib.Quiescent

@[expose] public section

set_option maxRecDepth 16384

noncomputable section

namespace Cert.On_final_states_only

open Cert.On_final_states_only
open Idealize.ShloMosaic

/-- The shapes' conditions of the mask. -/
theorem facts : Facts where
  bcast_S_S6x1536x24x256 := by decide
  bcast_S_S6x5x24x128x256 := by decide

/-- The mask leaves the first result out. -/
theorem first_out [Facts] (a0 : FVec Ideal S6x1536x24x128 .bf16) (a1 : FVec Ideal S6x1536x3x24x128 .f32) (a2 : FVec Ideal S6x1536x3x24 .f32)
    (a3 : FVec Ideal S6x1536x3x24x256 .bf16) (a4 a5 : FVec Ideal S6x1536x3x24 .f32) (a6 : IVec S6x1536x24x2 32) (a7 : FVec Ideal S6x1536x24x2 .f32) (i : S6x1536x24x256.Idx) :
    (fn (F := Ideal) a0 a1 a2 a3 a4 a5 a6 a7).1 i ≠ 1#1 := by
  show (0#1 : BitVec 1) ≠ 1#1
  decide

end Cert.On_final_states_only

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

theorem eta5 (i : S6x5x24x128x256.Idx) : i = ix5 (i 0) (i 1) (i 2) (i 3) (i 4) := by
  funext a
  match a with
  | 0 => rfl
  | 1 => rfl
  | 2 => rfl
  | 3 => rfl
  | 4 => rfl

/-- The final states as contents of the second result. -/
def outS (c : Dev nD) : Buf (Elt Ideal) ((c.tc : Thread nD τ).loc main_v7_1) :=
  fun i : S6x5x24x128x256.Idx => ((FSm m c (i 0) (i 1) (i 2) 1536 (i 3) (i 4) : ℝ) : EReal)

theorem run_states (ρ : Dev nD → PrngReg) (hG : ∀ c, GoodM m c) :
    θ_run defs (onTc (τ := τ) (main (F := Ideal))) ⟨m, fun _ => 0, ρ⟩ (fun r => ∀ c : Dev nD,
      (∀ i : S6x5x24x128x256.Idx, r.2.mem ((c.tc : Thread nD τ).loc main_v7_1) i = outS m c i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨fun i => (congrArg (r.2.mem ((c.tc : Thread nD τ).loc main_v7_1)) (eta5 i)).trans (state_final m c r h.1 (i 0) (i 1) (i 2) (i 3) (i 4)),
      (h.1.arr_in c 0 rfl).trans (V_of m c main_arg0 (by decide)),
      ((h.1 c).2 main_arg1 (mem_rest main_arg1 (by decide))).trans (V_of m c main_arg1 (by decide)),
      ((h.1 c).2 main_arg2 (mem_rest main_arg2 (by decide))).trans (V_of m c main_arg2 (by decide)),
      (h.1.arr_in c 3 rfl).trans (V_of m c main_arg3 (by decide)),
      ((h.1 c).2 main_arg4 (mem_rest main_arg4 (by decide))).trans (V_of m c main_arg4 (by decide)),
      ((h.1 c).2 main_arg5 (mem_rest main_arg5 (by decide))).trans (V_of m c main_arg5 (by decide)),
      ((h.1 c).2 main_arg6 (mem_rest main_arg6 (by decide))).trans (V_of m c main_arg6 (by decide)),
      ((h.1 c).2 main_arg7 (mem_rest main_arg7 (by decide))).trans (V_of m c main_arg7 (by decide))⟩) (run_main m ρ hG)

end Cert.KernelIdeal.Hand

namespace Cert.ReferenceIdeal.Value

open Cert.ReferenceIdeal Cert.ReferenceIdeal.Gen
open Idealize.ShloMosaic Idealize.ShloMosaic.TcCoe Idealize.ShloMosaic.StableHlo

/-- The reference's frame: it runs, its arguments end unchanged, no semaphore of it is left raised. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨fun c => (h c).2.2, sem_eq_zero_of_no_sems rfl r.2⟩) (run m ρ)

end Cert.ReferenceIdeal.Value

namespace Cert.Proof

open Idealize.ShloMosaic Idealize.ShloMosaic.TcCoe

theorem algebraic : Cert.algebraic_KernelIdeal_ReferenceIdeal_on_final_states_only_pre_real_inputs (hKernelIdeal := Cert.KernelIdeal.Gen.facts)
    (hReferenceIdeal := Cert.ReferenceIdeal.Gen.facts) (hPre_real_inputs := Cert.Pre_real_inputs.facts) (hOn_final_states_only := Cert.On_final_states_only.facts) := by
  letI := Cert.On_final_states_only.facts
  intro m g m' g' hP hA
  have hG := good_of_pre m hP
  have hI := ids_of_pre m hP
  refine ⟨fun c => m _, Cert.KernelIdeal.Hand.outS m, ?_, ?_⟩
  · refine (θ_run _ _ _).mono (fun r h c => ?_) (Cert.KernelIdeal.Hand.run_states m g hG)
    exact ⟨fun i hi => absurd hi (Cert.On_final_states_only.first_out _ _ _ _ _ _ _ _ i), fun i _ => (h c).1 i, (h c).2⟩
  · refine (θ_run _ _ _).mono (fun r h c => ?_) (Cert.ReferenceIdeal.Value.run m' g')
    refine ⟨fun i hi => absurd hi (Cert.On_final_states_only.first_out _ _ _ _ _ _ _ _ i), fun i _ => ?_, (h c).2.2⟩
    obtain ⟨e0, e1, e2, e3, e4, e5, e6, e7⟩ := hA c
    have hG' : Cert.ReferenceIdeal.Value.RG m' c := by
      show Cert.KernelIdeal.Hand.Good _ _ _ _ _
      rw [e1, e2, e3, e4, e5]; exact hG c
    have hI' : Cert.ReferenceIdeal.Value.Ids (m' ((c.tc : Thread Cert.ReferenceIdeal.nD Cert.ReferenceIdeal.τ).loc Cert.ReferenceIdeal.main_arg6)) := by
      rw [e6]; exact hI c
    have hs := Cert.ReferenceIdeal.Value.state_at m' c hG' hI' 1536 le_rfl (i 0) (i 2) (i 1) (i 3) (i 4)
    rw [e1, e2, e3, e4, e5, e6] at hs
    exact (congrFun (h c).2.1 i).trans ((congrArg (Cert.ReferenceIdeal.Value.out_main_v5 _) (Cert.KernelIdeal.Hand.eta5 i)).trans ((Cert.ReferenceIdeal.Value.out5_at _ (i 0) (i 1) (i 2) (i 3) (i 4)).trans hs))

end Cert.Proof

end
-- ==== Proof.lean ====
/- The frames of the three programs, the idealization's ledger, and the value of the final states. -/
module

public import proofs.«01_k».proof.Defs
public import proofs.«01_k».proof.Proof.FrameLaunch
public import proofs.«01_k».proof.Proof.FrameLaunchIdeal
public import proofs.«01_k».proof.Proof.Gen.ReferenceIdeal.Run
public import proofs.«01_k».proof.Proof.Algebra
public import Idealize.ShloMosaic.Lib.Bf16Pair
public import Idealize.ShloMosaic.Adequacy
public import Idealize.ShloMosaic.Init

@[expose] public section

noncomputable section

namespace Cert.Proof

open Idealize.ShloMosaic Idealize.ShloMosaic.TcCoe

theorem preserves : Cert.preserves_Kernel_KernelIdeal := by
  unfold Cert.preserves_Kernel_KernelIdeal
  exact ⟨IdealRules.truncf_extf.statement _ _ _,
    IdealRules.bf16_pair.statement Cert.KernelIdeal.S1x128x2x128 Cert.KernelIdeal.S1x128x1x128,
    IdealRules.bf16_pair.statement Cert.KernelIdeal.S1x256x128 Cert.KernelIdeal.S1x128x128,
    IdealRules.bf16_pair.statement Cert.KernelIdeal.S1x128x1x2x128 Cert.KernelIdeal.S1x128x1x1x128,
    IdealRules.bf16_pair.statement Cert.KernelIdeal.S1x1x1x256x128 Cert.KernelIdeal.S1x1x1x128x128,
    IdealRules.bf16_pair.statement Cert.KernelIdeal.S256x128 Cert.KernelIdeal.S128x128,
    IdealRules.named_const.statement _ _ _ _ _ rfl,
    IdealRules.truncf_extf.statement _ _ _,
    IdealRules.truncf_extf.statement _ _ _,
    IdealRules.bf16_pair.packStatement _,
    IdealRules.bf16_pair.statement Cert.KernelIdeal.S1x1024x128 Cert.KernelIdeal.S1x512x128,
    IdealRules.bf16_pair.statement Cert.KernelIdeal.S1024x128 Cert.KernelIdeal.S512x128⟩

theorem claim : Cert.Claim :=
  ⟨Cert.Kernel.Gen.facts, Cert.KernelIdeal.Gen.facts, Cert.ReferenceIdeal.Gen.facts, Cert.Pre_real_inputs.facts, Cert.On_final_states_only.facts,
    fun m ρ _ => Cert.Kernel.Hand.frame m ρ,
    fun m ρ _ => Cert.KernelIdeal.FrameHand.frame m ρ,
    fun m ρ _ => Cert.KernelIdeal.FrameHand.frame m ρ,
    fun m ρ _ => Cert.ReferenceIdeal.Value.frame m ρ,
    fun m ρ _ => Cert.ReferenceIdeal.Value.frame m ρ,
    preserves, algebraic⟩

end Cert.Proof

end
